-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ones [hPre_finite_ones : Cert.Pre_finite_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ones [hPre_finite_ones : Cert.Pre_finite_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_ones [hKernelIdeal : Cert.KernelIdeal.Facts] [hPre_finite_ones : Cert.Pre_finite_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ones [hReferenceIdeal : Cert.ReferenceIdeal.Facts] [hPre_finite_ones : Cert.Pre_finite_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15)
      ∧ r.2.mem ((c.tc : Thread Cert.MixReferenceIdeal.nD Cert.MixReferenceIdeal.τ).loc Cert.MixReferenceIdeal.main_arg16) = m ((c.tc : Thread Cert.MixReferenceIdeal.nD Cert.MixReferenceIdeal.τ).loc Cert.MixReferenceIdeal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_ones [hKernelIdeal : Cert.KernelIdeal.Facts] [hReferenceIdeal : Cert.ReferenceIdeal.Facts] [hPre_finite_ones : Cert.Pre_finite_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v45_0)) (v1 : (c : Dev Cert.ProjectIdeal.nD) → Buf (Elt Ideal) ((c.tc : Thread Cert.ProjectIdeal.nD Cert.ProjectIdeal.τ).loc Cert.ProjectIdeal.main_v45_1)) (v2 : (c : Dev Cert.ProjectIdeal.nD) → Buf (Elt Ideal) ((c.tc : Thread Cert.ProjectIdeal.nD Cert.ProjectIdeal.τ).loc Cert.ProjectIdeal.main_v45_2)) (v3 : (c : Dev Cert.ProjectIdeal.nD) → Buf (Elt Ideal) ((c.tc : Thread Cert.ProjectIdeal.nD Cert.ProjectIdeal.τ).loc Cert.ProjectIdeal.main_v45_3)) (v4 : (c : Dev Cert.ProjectIdeal.nD) → Buf (Elt Ideal) ((c.tc : Thread Cert.ProjectIdeal.nD Cert.ProjectIdeal.τ).loc Cert.ProjectIdeal.main_v45_4)) (v5 : (c : Dev Cert.ProjectIdeal.nD) → Buf (Elt Ideal) ((c.tc : Thread Cert.ProjectIdeal.nD Cert.ProjectIdeal.τ).loc Cert.ProjectIdeal.main_v45_5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v45_0) = v0 c
          ∧ r.2.mem ((c.tc : Thread Cert.ProjectIdeal.nD Cert.ProjectIdeal.τ).loc Cert.ProjectIdeal.main_v45_1) = v1 c
          ∧ r.2.mem ((c.tc : Thread Cert.ProjectIdeal.nD Cert.ProjectIdeal.τ).loc Cert.ProjectIdeal.main_v45_2) = v2 c
          ∧ r.2.mem ((c.tc : Thread Cert.ProjectIdeal.nD Cert.ProjectIdeal.τ).loc Cert.ProjectIdeal.main_v45_3) = v3 c
          ∧ r.2.mem ((c.tc : Thread Cert.ProjectIdeal.nD Cert.ProjectIdeal.τ).loc Cert.ProjectIdeal.main_v45_4) = v4 c
          ∧ r.2.mem ((c.tc : Thread Cert.ProjectIdeal.nD Cert.ProjectIdeal.τ).loc Cert.ProjectIdeal.main_v45_5) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v14) = v0 c
          ∧ r.2.mem ((c.tc : Thread Cert.ProjectReferenceIdeal.nD Cert.ProjectReferenceIdeal.τ).loc Cert.ProjectReferenceIdeal.main_v20) = v1 c
          ∧ r.2.mem ((c.tc : Thread Cert.ProjectReferenceIdeal.nD Cert.ProjectReferenceIdeal.τ).loc Cert.ProjectReferenceIdeal.main_v24) = v2 c
          ∧ r.2.mem ((c.tc : Thread Cert.ProjectReferenceIdeal.nD Cert.ProjectReferenceIdeal.τ).loc Cert.ProjectReferenceIdeal.main_v26) = v3 c
          ∧ r.2.mem ((c.tc : Thread Cert.ProjectReferenceIdeal.nD Cert.ProjectReferenceIdeal.τ).loc Cert.ProjectReferenceIdeal.main_v32) = v4 c
          ∧ r.2.mem ((c.tc : Thread Cert.ProjectReferenceIdeal.nD Cert.ProjectReferenceIdeal.τ).loc Cert.ProjectReferenceIdeal.main_v38) = v5 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v47_1)) (v1 : (c : Dev Cert.SampleIdeal.nD) → Buf (Elt Ideal) ((c.tc : Thread Cert.SampleIdeal.nD Cert.SampleIdeal.τ).loc Cert.SampleIdeal.main_v47_2)) (v2 : (c : Dev Cert.SampleIdeal.nD) → Buf (Elt Ideal) ((c.tc : Thread Cert.SampleIdeal.nD Cert.SampleIdeal.τ).loc Cert.SampleIdeal.main_v47_3)) (v3 : (c : Dev Cert.SampleIdeal.nD) → Buf (Elt Ideal) ((c.tc : Thread Cert.SampleIdeal.nD Cert.SampleIdeal.τ).loc Cert.SampleIdeal.main_v47_4)) (v4 : (c : Dev Cert.SampleIdeal.nD) → Buf (Elt Ideal) ((c.tc : Thread Cert.SampleIdeal.nD Cert.SampleIdeal.τ).loc Cert.SampleIdeal.main_v47_5)) (v5 : (c : Dev Cert.SampleIdeal.nD) → Buf (Elt Ideal) ((c.tc : Thread Cert.SampleIdeal.nD Cert.SampleIdeal.τ).loc Cert.SampleIdeal.main_v47_6)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v47_1) = v0 c
          ∧ r.2.mem ((c.tc : Thread Cert.SampleIdeal.nD Cert.SampleIdeal.τ).loc Cert.SampleIdeal.main_v47_2) = v1 c
          ∧ r.2.mem ((c.tc : Thread Cert.SampleIdeal.nD Cert.SampleIdeal.τ).loc Cert.SampleIdeal.main_v47_3) = v2 c
          ∧ r.2.mem ((c.tc : Thread Cert.SampleIdeal.nD Cert.SampleIdeal.τ).loc Cert.SampleIdeal.main_v47_4) = v3 c
          ∧ r.2.mem ((c.tc : Thread Cert.SampleIdeal.nD Cert.SampleIdeal.τ).loc Cert.SampleIdeal.main_v47_5) = v4 c
          ∧ r.2.mem ((c.tc : Thread Cert.SampleIdeal.nD Cert.SampleIdeal.τ).loc Cert.SampleIdeal.main_v47_6) = v5 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v21) = v0 c
          ∧ r.2.mem ((c.tc : Thread Cert.SampleReferenceIdeal.nD Cert.SampleReferenceIdeal.τ).loc Cert.SampleReferenceIdeal.main_v23) = v1 c
          ∧ r.2.mem ((c.tc : Thread Cert.SampleReferenceIdeal.nD Cert.SampleReferenceIdeal.τ).loc Cert.SampleReferenceIdeal.main_v29) = v2 c
          ∧ r.2.mem ((c.tc : Thread Cert.SampleReferenceIdeal.nD Cert.SampleReferenceIdeal.τ).loc Cert.SampleReferenceIdeal.main_v33) = v3 c
          ∧ r.2.mem ((c.tc : Thread Cert.SampleReferenceIdeal.nD Cert.SampleReferenceIdeal.τ).loc Cert.SampleReferenceIdeal.main_v41) = v4 c
          ∧ r.2.mem ((c.tc : Thread Cert.SampleReferenceIdeal.nD Cert.SampleReferenceIdeal.τ).loc Cert.SampleReferenceIdeal.main_v49) = v5 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)
      ∧ m' ((c.tc : Thread Cert.MixReferenceIdeal.nD Cert.MixReferenceIdeal.τ).loc Cert.MixReferenceIdeal.main_arg16) = m ((c.tc : Thread Cert.MixIdeal.nD Cert.MixIdeal.τ).loc Cert.MixIdeal.main_arg16)) →
    ∃ (v0 : (c : Dev Cert.MixIdeal.nD) → Buf (Elt Ideal) ((c.tc : Thread Cert.MixIdeal.nD Cert.MixIdeal.τ).loc Cert.MixIdeal.main_v20_0)) (v1 : (c : Dev Cert.MixIdeal.nD) → Buf (Elt Ideal) ((c.tc : Thread Cert.MixIdeal.nD Cert.MixIdeal.τ).loc Cert.MixIdeal.main_v20_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v20_0) = v0 c
          ∧ r.2.mem ((c.tc : Thread Cert.MixIdeal.nD Cert.MixIdeal.τ).loc Cert.MixIdeal.main_v20_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v105) = v0 c
          ∧ r.2.mem ((c.tc : Thread Cert.MixReferenceIdeal.nD Cert.MixReferenceIdeal.τ).loc Cert.MixReferenceIdeal.main_v108) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15)
          ∧ r.2.mem ((c.tc : Thread Cert.MixReferenceIdeal.nD Cert.MixReferenceIdeal.τ).loc Cert.MixReferenceIdeal.main_arg16) = m' ((c.tc : Thread Cert.MixReferenceIdeal.nD Cert.MixReferenceIdeal.τ).loc Cert.MixReferenceIdeal.main_arg16))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hSample : Cert.Sample.Facts) (hSampleIdeal : Cert.SampleIdeal.Facts) (hSampleReferenceIdeal : Cert.SampleReferenceIdeal.Facts) (hMix : Cert.Mix.Facts) (hMixIdeal : Cert.MixIdeal.Facts) (hMixReferenceIdeal : Cert.MixReferenceIdeal.Facts) (hPre_finite_ones : Cert.Pre_finite_ones.Facts),
    quiescent_Kernel (hKernel := hKernel)
    ∧ quiescent_KernelIdeal (hKernelIdeal := hKernelIdeal)
    ∧ quiescent_KernelIdeal_pre_finite_ones (hKernelIdeal := hKernelIdeal) (hPre_finite_ones := hPre_finite_ones)
    ∧ quiescent_ReferenceIdeal (hReferenceIdeal := hReferenceIdeal)
    ∧ quiescent_ReferenceIdeal_pre_finite_ones (hReferenceIdeal := hReferenceIdeal) (hPre_finite_ones := hPre_finite_ones)
    ∧ quiescent_Project (hProject := hProject)
    ∧ quiescent_ProjectIdeal (hProjectIdeal := hProjectIdeal)
    ∧ quiescent_ProjectReferenceIdeal (hProjectReferenceIdeal := hProjectReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite_ones (hKernelIdeal := hKernelIdeal) (hReferenceIdeal := hReferenceIdeal) (hPre_finite_ones := hPre_finite_ones)
    ∧ preserves_Project_ProjectIdeal
    ∧ algebraic_ProjectIdeal_ProjectReferenceIdeal (hProjectIdeal := hProjectIdeal) (hProjectReferenceIdeal := hProjectReferenceIdeal)
    ∧ preserves_Sample_SampleIdeal
    ∧ algebraic_SampleIdeal_SampleReferenceIdeal (hSampleIdeal := hSampleIdeal) (hSampleReferenceIdeal := hSampleReferenceIdeal)
    ∧ preserves_Mix_MixIdeal
    ∧ algebraic_MixIdeal_MixReferenceIdeal (hMixIdeal := hMixIdeal) (hMixReferenceIdeal := hMixReferenceIdeal)
-- ==== Pre_finite_ones.lean ====
abbrev S2x8x128x16384 : Shape := ⟨4, ![2, 8, 128, 16384]⟩
abbrev S2x8x16384x128 : Shape := ⟨4, ![2, 8, 16384, 128]⟩
abbrev S2x8x32x80x512 : Shape := ⟨5, ![2, 8, 32, 80, 512]⟩
abbrev S2x8x32x1x512 : Shape := ⟨5, ![2, 8, 32, 1, 512]⟩
abbrev S2x8x32x512 : Shape := ⟨4, ![2, 8, 32, 512]⟩
abbrev S_ : Shape := ⟨0, ![]⟩

class Facts : Prop where
  bitsLt_bf16_f32 : FTy.bits .bf16 < FTy.bits .f32
  slices_S2x8x32x80x512_S2x8x32x1x512_0_0_0_64_0 : S2x8x32x80x512.Slices ![0, 0, 0, 64, 0] S2x8x32x1x512
  shapeCasts_S2x8x32x1x512_S2x8x32x512 : S2x8x32x1x512.ShapeCasts S2x8x32x512
  bcast_S_S2x8x128x16384 : S_.BroadcastsInDim S2x8x128x16384 (![] : Fin 0 → Fin S2x8x128x16384.rank)
  reducesTo_S2x8x128x16384_S_d0_1_2_3 : S2x8x128x16384.ReducesTo [0, 1, 2, 3] S_
  h_S_ : 0 < S_.numel
  bcast_S_S2x8x16384x128 : S_.BroadcastsInDim S2x8x16384x128 (![] : Fin 0 → Fin S2x8x16384x128.rank)
  reducesTo_S2x8x16384x128_S_d0_1_2_3 : S2x8x16384x128.ReducesTo [0, 1, 2, 3] S_
  bcast_S_S2x8x32x512 : S_.BroadcastsInDim S2x8x32x512 (![] : Fin 0 → Fin S2x8x32x512.rank)
  reducesTo_S2x8x32x512_S_d0_1_2_3 : S2x8x32x512.ReducesTo [0, 1, 2, 3] S_

variable [Facts]

def fn {F : FTy → Type} [FloatOps F] (main_arg0 : FVec F S2x8x128x16384 .bf16) (main_arg1 : FVec F S2x8x16384x128 .bf16) (main_arg2 : FVec F S2x8x32x80x512 .bf16) : IVec S_ 1 :=
  let main_v0 : FVec F S2x8x128x16384 .f32 := (extf .f32 · bitsLt_bf16_f32) main_arg0
  let main_v1 : FVec F S2x8x16384x128 .f32 := (extf .f32 · bitsLt_bf16_f32) main_arg1
  let main_v2 : FVec F S2x8x32x1x512 .bf16 := (extractStridedSlice S2x8x32x1x512 ![0, 0, 0, 64, 0] · slices_S2x8x32x80x512_S2x8x32x1x512_0_0_0_64_0) main_arg2
  let main_v3 : FVec F S2x8x32x512 .bf16 := shapeCast S2x8x32x512 main_v2 shapeCasts_S2x8x32x1x512_S2x8x32x512
  let main_v4 : FVec F S2x8x32x512 .f32 := (extf .f32 · bitsLt_bf16_f32) main_v3
  let main_v5 : FVec F S2x8x128x16384 .f32 := Host.absf main_v0
  let main_cst : FVec F S_ .f32 := constant S_ .f32 0x7F800000#32
  let main_v6 : FVec F S2x8x128x16384 .f32 := broadcastInDim S2x8x128x16384 ![] bcast_S_S2x8x128x16384 main_cst
  let main_v7 : IVec S2x8x128x16384 1 := cmpf .olt main_v5 main_v6
  let main_c : IVec S_ 1 := constantI S_ 1 1#1
  let main_v8 : IVec S_ 1 := (fun x v => Host.reduce IntOp.andi x v reducesTo_S2x8x128x16384_S_d0_1_2_3 h_S_) main_v7 main_c
  let main_v9 : FVec F S2x8x16384x128 .f32 := Host.absf main_v1
  let main_cst_0 : FVec F S_ .f32 := constant S_ .f32 0x7F800000#32
  let main_v10 : FVec F S2x8x16384x128 .f32 := broadcastInDim S2x8x16384x128 ![] bcast_S_S2x8x16384x128 main_cst_0
  let main_v11 : IVec S2x8x16384x128 1 := cmpf .olt main_v9 main_v10
  let main_c_1 : IVec S_ 1 := constantI S_ 1 1#1
  let main_v12 : IVec S_ 1 := (fun x v => Host.reduce IntOp.andi x v reducesTo_S2x8x16384x128_S_d0_1_2_3 h_S_) main_v11 main_c_1
  let main_v13 : IVec S_ 1 := andi main_v8 main_v12
  let main_cst_2 : FVec F S_ .f32 := constant S_ .f32 0x3F800000#32
  let main_v14 : FVec F S2x8x32x512 .f32 := broadcastInDim S2x8x32x512 ![] bcast_S_S2x8x32x512 main_cst_2
  let main_v15 : IVec S2x8x32x512 1 := cmpf .oeq main_v4 main_v14
  let main_c_3 : IVec S_ 1 := constantI S_ 1 1#1
  let main_v16 : IVec S_ 1 := (fun x v => Host.reduce IntOp.andi x v reducesTo_S2x8x32x512_S_d0_1_2_3 h_S_) main_v15 main_c_3
  let main_v17 : IVec S_ 1 := andi main_v13 main_v16
  main_v17
-- ==== Kernel.lean ====
abbrev S2x8x128x16384 : Shape := ⟨4, ![2, 8, 128, 16384]⟩
abbrev S2x8x16384x128 : Shape := ⟨4, ![2, 8, 16384, 128]⟩
abbrev S2x8x32x80x512 : Shape := ⟨5, ![2, 8, 32, 80, 512]⟩
abbrev S2x16384x512 : Shape := ⟨3, ![2, 16384, 512]⟩
abbrev S1x2x128x2048 : Shape := ⟨4, ![1, 2, 128, 2048]⟩
abbrev S1x2x16384x128 : Shape := ⟨4, ![1, 2, 16384, 128]⟩
abbrev S1x2x32x80x512 : Shape := ⟨5, ![1, 2, 32, 80, 512]⟩
abbrev S1x2048x128 : Shape := ⟨3, ![1, 2048, 128]⟩
abbrev S80x2048 : Shape := ⟨2, ![80, 2048]⟩
abbrev S1x2048 : Shape := ⟨2, ![1, 2048]⟩
abbrev S1x1x512x128 : Shape := ⟨4, ![1, 1, 512, 128]⟩
abbrev S512x128 : Shape := ⟨2, ![512, 128]⟩
abbrev S1x1x128x2048 : Shape := ⟨4, ![1, 1, 128, 2048]⟩
abbrev S128x2048 : Shape := ⟨2, ![128, 2048]⟩
abbrev S512x2048 : Shape := ⟨2, ![512, 2048]⟩
abbrev S2048 : Shape := ⟨1, ![2048]⟩
abbrev S1x1x1x80x512 : Shape := ⟨5, ![1, 1, 1, 80, 512]⟩
abbrev S80x512 : Shape := ⟨2, ![80, 512]⟩
abbrev S1x1x128x1536 : Shape := ⟨4, ![1, 1, 128, 1536]⟩
abbrev S128x1536 : Shape := ⟨2, ![128, 1536]⟩
abbrev S512x1536 : Shape := ⟨2, ![512, 1536]⟩
abbrev S1x1536 : Shape := ⟨2, ![1, 1536]⟩
abbrev S1536 : Shape := ⟨1, ![1536]⟩
abbrev S80x1536 : Shape := ⟨2, ![80, 1536]⟩
abbrev S1x512 : Shape := ⟨2, ![1, 512]⟩
abbrev S1x1x128x1024 : Shape := ⟨4, ![1, 1, 128, 1024]⟩
abbrev S128x1024 : Shape := ⟨2, ![128, 1024]⟩
abbrev S512x1024 : Shape := ⟨2, ![512, 1024]⟩
abbrev S1x1024 : Shape := ⟨2, ![1, 1024]⟩
abbrev S1024 : Shape := ⟨1, ![1024]⟩
abbrev S80x1024 : Shape := ⟨2, ![80, 1024]⟩
abbrev S1x1x128x512 : Shape := ⟨4, ![1, 1, 128, 512]⟩
abbrev S128x512 : Shape := ⟨2, ![128, 512]⟩
abbrev S512x512 : Shape := ⟨2, ![512, 512]⟩
abbrev S512 : Shape := ⟨1, ![512]⟩
abbrev S64x2048 : Shape := ⟨2, ![64, 2048]⟩
abbrev S2048x128 : Shape := ⟨2, ![2048, 128]⟩

abbrev nBuf : Space → Nat
  | .hbm => 4
  | .vmem => 10
  | .smem => 0
  | _ => 0

abbrev bufTy : (tb : Table) → Fin (tcTables nBuf tb) → BufTy
  | .hbm, ⟨0, _⟩ => ⟨S2x8x128x16384, .bf16⟩
  | .hbm, ⟨1, _⟩ => ⟨S2x8x16384x128, .bf16⟩
  | .hbm, ⟨2, _⟩ => ⟨S2x8x32x80x512, .bf16⟩
  | .hbm, ⟨3, _⟩ => ⟨S2x16384x512, .bf16⟩
  | .local _ .vmem, ⟨0, _⟩ => ⟨S1x2x128x2048, .bf16⟩
  | .local _ .vmem, ⟨1, _⟩ => ⟨S1x2x128x2048, .bf16⟩
  | .local _ .vmem, ⟨2, _⟩ => ⟨S1x2x16384x128, .bf16⟩
  | .local _ .vmem, ⟨3, _⟩ => ⟨S1x2x16384x128, .bf16⟩
  | .local _ .vmem, ⟨4, _⟩ => ⟨S1x2x32x80x512, .bf16⟩
  | .local _ .vmem, ⟨5, _⟩ => ⟨S1x2x32x80x512, .bf16⟩
  | .local _ .vmem, ⟨6, _⟩ => ⟨S1x2048x128, .bf16⟩
  | .local _ .vmem, ⟨7, _⟩ => ⟨S1x2048x128, .bf16⟩
  | .local _ .vmem, ⟨8, _⟩ => ⟨S80x2048, .f32⟩
  | .local _ .vmem, ⟨9, _⟩ => ⟨S80x2048, .f32⟩
  | _, _ => ⟨S2x8x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32 : BitVec 32 := 0#32
  let arg2 : BitVec 32 := BitVec.ofNat 32 (i 2).val
  let c4_i32 : BitVec 32 := 4#32
  let v9 : BitVec 32 := Scalar.muli arg2 c4_i32
  let v10 : BitVec 32 := Scalar.subi v9 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_5 : BitVec 32 := 1#32
  ⟨c0_i32, v14, c1_i32_5⟩
def k0_mult1 (i : grid0.Coords) (k0_t1 : Fin (k0_t1_loop i).trips) : BitVec 32 :=
  let c0_i32 : BitVec 32 := 0#32
  let c1_i32_5 : BitVec 32 := 1#32
  let arg9 : BitVec 32 := Scf.iv c0_i32 c1_i32_5 k0_t1
  let c512_i32_171 : BitVec 32 := 512#32
  let v311 : BitVec 32 := Scalar.muli arg9 c512_i32_171
  v311
def k0_off1 (i : grid0.Coords) (k0_t1 : Fin (k0_t1_loop i).trips) : Fin 4 → Nat :=
  let c0_172 : Index := 0#32
  let c0_173 : Index := 0#32
  let c0_i32 : BitVec 32 := 0#32
  let c1_i32_5 : BitVec 32 := 1#32
  let arg9 : BitVec 32 := Scf.iv c0_i32 c1_i32_5 k0_t1
  let c512_i32_171 : BitVec 32 := 512#32
  let v311 : BitVec 32 := Scalar.muli arg9 c512_i32_171
  let v312 : BitVec 32 := v311
  let v313 : Index := Scalar.indexCast v312
  let c0_174 : Index := 0#32
  ![0, 0, v313.toNat, 0]
def k0_off2 (i : grid0.Coords) (k0_t1 : Fin (k0_t1_loop i).trips) : Fin 5 → Nat :=
  let c0_183 : Index := 0#32
  let c0_184 : Index := 0#32
  let c0_i32 : BitVec 32 := 0#32
  let c1_i32_5 : BitVec 32 := 1#32
  let arg9 : BitVec 32 := Scf.iv c0_i32 c1_i32_5 k0_t1
  let v331 : Index := Scalar.indexCast arg9
  let c0_185 : Index := 0#32
  let c0_186 : Index := 0#32
  ![0, 0, v331.toNat, 0, 0]
def k0_off3 (i : grid0.Coords) (k0_t1 : Fin (k0_t1_loop i).trips) : Fin 4 → Nat :=
  let c0_190 : Index := 0#32
  let c1_191 : Index := 1#32
  let c0_i32 : BitVec 32 := 0#32
  let c1_i32_5 : BitVec 32 := 1#32
  let arg9 : BitVec 32 := Scf.iv c0_i32 c1_i32_5 k0_t1
  let c512_i32_171 : BitVec 32 := 512#32
  let v311 : BitVec 32 := Scalar.muli arg9 c512_i32_171
  let v312 : BitVec 32 := v311
  let v339 : Index := Scalar.indexCast v312
  let c0_192 : Index := 0#32
  ![0, 1, v339.toNat, 0]
def k0_off4 (i : grid0.Coords) (k0_t1 : Fin (k0_t1_loop i).trips) : Fin 5 → Nat :=
  let c0_201 : Index := 0#32
  let c1_202 : Index := 1#32
  let c0_i32 : BitVec 32 := 0#32
  let c1_i32_5 : BitVec 32 := 1#32
  let arg9 : BitVec 32 := Scf.iv c0_i32 c1_i32_5 k0_t1
  let v357 : Index := Scalar.indexCast arg9
  let c0_203 : Index := 0#32
  let c0_204 : Index := 0#32
  ![0, 1, v357.toNat, 0, 0]
@[reducible] def k0_t2_loop (i : grid0.Coords) : Scf.Loop 32 :=
  let c0_i32 : BitVec 32 := 0#32
  let arg2 : BitVec 32 := BitVec.ofNat 32 (i 2).val
  let c4_i32 : BitVec 32 := 4#32
  let v9 : BitVec 32 := Scalar.muli arg2 c4_i32
  let v10 : BitVec 32 := Scalar.subi v9 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_6 : BitVec 32 := 1#32
  ⟨v14, v11, c1_i32_6⟩
def k0_mult2 (i : grid0.Coords) (k0_t2 : Fin (k0_t2_loop i).trips) : BitVec 32 :=
  let c0_i32 : BitVec 32 := 0#32
  let arg2 : BitVec 32 := BitVec.ofNat 32 (i 2).val
  let c4_i32 : BitVec 32 := 4#32
  let v9 : BitVec 32 := Scalar.muli arg2 c4_i32
  let v10 : BitVec 32 := Scalar.subi v9 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_6 : BitVec 32 := 1#32
  let arg9 : BitVec 32 := Scf.iv v14 c1_i32_6 k0_t2
  let c512_i32_171 : BitVec 32 := 512#32
  let v311 : BitVec 32 := Scalar.muli arg9 c512_i32_171
  v311
def k0_off5 (i : grid0.Coords) (k0_t2 : Fin (k0_t2_loop i).trips) : Fin 4 → Nat :=
  let c0_172 : Index := 0#32
  let c0_173 : Index := 0#32
  let c0_i32 : BitVec 32 := 0#32
  let arg2 : BitVec 32 := BitVec.ofNat 32 (i 2).val
  let c4_i32 : BitVec 32 := 4#32
  let v9 : BitVec 32 := Scalar.muli arg2 c4_i32
  let v10 : BitVec 32 := Scalar.subi v9 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_6 : BitVec 32 := 1#32
  let arg9 : BitVec 32 := Scf.iv v14 c1_i32_6 k0_t2
  let c512_i32_171 : BitVec 32 := 512#32
  let v311 : BitVec 32 := Scalar.muli arg9 c512_i32_171
  let v312 : BitVec 32 := v311
  let v313 : Index := Scalar.indexCast v312
  let c0_174 : Index := 0#32
  ![0, 0, v313.toNat, 0]
def k0_off6 (i : grid0.Coords) (k0_t2 : Fin (k0_t2_loop i).trips) : Fin 5 → Nat :=
  let c0_183 : Index := 0#32
  let c0_184 : Index := 0#32
  let c0_i32 : BitVec 32 := 0#32
  let arg2 : BitVec 32 := BitVec.ofNat 32 (i 2).val
  let c4_i32 : BitVec 32 := 4#32
  let v9 : BitVec 32 := Scalar.muli arg2 c4_i32
  let v10 : BitVec 32 := Scalar.subi v9 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_6 : BitVec 32 := 1#32
  let arg9 : BitVec 32 := Scf.iv v14 c1_i32_6 k0_t2
  let v331 : Index := Scalar.indexCast arg9
  let c0_185 : Index := 0#32
  let c0_186 : Index := 0#32
  ![0, 0, v331.toNat, 0, 0]
def k0_off7 (i : grid0.Coords) (k0_t2 : Fin (k0_t2_loop i).trips) : Fin 4 → Nat :=
  let c0_190 : Index := 0#32
  let c1_191 : Index := 1#32
  let c0_i32 : BitVec 32 := 0#32
  let arg2 : BitVec 32 := BitVec.ofNat 32 (i 2).val
  let c4_i32 : BitVec 32 := 4#32
  let v9 : BitVec 32 := Scalar.muli arg2 c4_i32
  let v10 : BitVec 32 := Scalar.subi v9 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_6 : BitVec 32 := 1#32
  let arg9 : BitVec 32 := Scf.iv v14 c1_i32_6 k0_t2
  let c512_i32_171 : BitVec 32 := 512#32
  let v311 : BitVec 32 := Scalar.muli arg9 c512_i32_171
  let v312 : BitVec 32 := v311
  let v339 : Index := Scalar.indexCast v312
  let c0_192 : Index := 0#32
  ![0, 1, v339.toNat, 0]
def k0_off8 (i : grid0.Coords) (k0_t2 : Fin (k0_t2_loop i).trips) : Fin 5 → Nat :=
  let c0_201 : Index := 0#32
  let c1_202 : Index := 1#32
  let c0_i32 : BitVec 32 := 0#32
  let arg2 : BitVec 32 := BitVec.ofNat 32 (i 2).val
  let c4_i32 : BitVec 32 := 4#32
  let v9 : BitVec 32 := Scalar.muli arg2 c4_i32
  let v10 : BitVec 32 := Scalar.subi v9 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_6 : BitVec 32 := 1#32
  let arg9 : BitVec 32 := Scf.iv v14 c1_i32_6 k0_t2
  let v357 : Index := Scalar.indexCast arg9
  let c0_203 : Index := 0#32
  let c0_204 : Index := 0#32
  ![0, 1, v357.toNat, 0, 0]
def k0_mult3 (i : grid0.Coords) : BitVec 32 :=
  let arg2 : BitVec 32 := BitVec.ofNat 32 (i 2).val
  let c4_i32_7 : BitVec 32 := 4#32
  let v17 : BitVec 32 := Scalar.muli arg2 c4_i32_7
  let c0_i32_8 : BitVec 32 := 0#32
  let v18 : BitVec 32 := Scalar.addi v17 c0_i32_8
  let c512_i32 : BitVec 32 := 512#32
  let v19 : BitVec 32 := Scalar.muli v18 c512_i32
  v19
def k0_off9 (i : grid0.Coords) (c0_i32_8 : BitVec 32) : Fin 4 → Nat :=
  let c0_9 : Index := 0#32
  let c0_10 : Index := 0#32
  let arg2 : BitVec 32 := BitVec.ofNat 32 (i 2).val
  let c4_i32_7 : BitVec 32 := 4#32
  let v17 : BitVec 32 := Scalar.muli arg2 c4_i32_7
  let v18 : BitVec 32 := Scalar.addi v17 c0_i32_8
  let c512_i32 : BitVec 32 := 512#32
  let v19 : BitVec 32 := Scalar.muli v18 c512_i32
  let v20 : BitVec 32 := v19
  let v21 : Index := Scalar.indexCast v20
  let c0_11 : Index := 0#32
  ![0, 0, v21.toNat, 0]
def k0_off10 (i : grid0.Coords) (c0_i32_8 : BitVec 32) : Fin 5 → Nat :=
  let c0_21 : Index := 0#32
  let c0_22 : Index := 0#32
  let arg2 : BitVec 32 := BitVec.ofNat 32 (i 2).val
  let c4_i32_7 : BitVec 32 := 4#32
  let v17 : BitVec 32 := Scalar.muli arg2 c4_i32_7
  let v18 : BitVec 32 := Scalar.addi v17 c0_i32_8
  let v44 : Index := Scalar.indexCast v18
  let c0_23 : Index := 0#32
  let c0_24 : Index := 0#32
  ![0, 0, v44.toNat, 0, 0]
def k0_off11 (i : grid0.Coords) (c0_i32_8 : BitVec 32) : Fin 4 → Nat :=
  let c0_28 : Index := 0#32
  let c1 : Index := 1#32
  let arg2 : BitVec 32 := BitVec.ofNat 32 (i 2).val
  let c4_i32_7 : BitVec 32 := 4#32
  let v17 : BitVec 32 := Scalar.muli arg2 c4_i32_7
  let v18 : BitVec 32 := Scalar.addi v17 c0_i32_8
  let c512_i32 : BitVec 32 := 512#32
  let v19 : BitVec 32 := Scalar.muli v18 c512_i32
  let v20 : BitVec 32 := v19
  let v52 : Index := Scalar.indexCast v20
  let c0_29 : Index := 0#32
  ![0, 1, v52.toNat, 0]
def k0_off12 (i : grid0.Coords) (c0_i32_8 : BitVec 32) : Fin 5 → Nat :=
  let c0_39 : Index := 0#32
  let c1_40 : Index := 1#32
  let arg2 : BitVec 32 := BitVec.ofNat 32 (i 2).val
  let c4_i32_7 : BitVec 32 := 4#32
  let v17 : BitVec 32 := Scalar.muli arg2 c4_i32_7
  let v18 : BitVec 32 := Scalar.addi v17 c0_i32_8
  let v75 : Index := Scalar.indexCast v18
  let c0_41 : Index := 0#32
  let c0_42 : Index := 0#32
  ![0, 1, v75.toNat, 0, 0]
def k0_mult4 (i : grid0.Coords) : BitVec 32 :=
  let arg2 : BitVec 32 := BitVec.ofNat 32 (i 2).val
  let c4_i32_46 : BitVec 32 := 4#32
  let v83 : BitVec 32 := Scalar.muli arg2 c4_i32_46
  let c1_i32_47 : BitVec 32 := 1#32
  let v84 : BitVec 32 := Scalar.addi v83 c1_i32_47
  let c512_i32_48 : BitVec 32 := 512#32
  let v85 : BitVec 32 := Scalar.muli v84 c512_i32_48
  v85
def k0_mult5 (i : grid0.Coords) : BitVec 32 :=
  let arg2 : BitVec 32 := BitVec.ofNat 32 (i 2).val
  let c4_i32_86 : BitVec 32 := 4#32
  let v155 : BitVec 32 := Scalar.muli arg2 c4_i32_86
  let c2_i32 : BitVec 32 := 2#32
  let v156 : BitVec 32 := Scalar.addi v155 c2_i32
  let c512_i32_87 : BitVec 32 := 512#32
  let v157 : BitVec 32 := Scalar.muli v156 c512_i32_87
  v157
def k0_mult6 (i : grid0.Coords) : BitVec 32 :=
  let arg2 : BitVec 32 := BitVec.ofNat 32 (i 2).val
  let c4_i32_125 : BitVec 32 := 4#32
  let v227 : BitVec 32 := Scalar.muli arg2 c4_i32_125
  let c3_i32 : BitVec 32 := 3#32
  let v228 : BitVec 32 := Scalar.addi v227 c3_i32
  let c512_i32_126 : BitVec 32 := 512#32
  let v229 : BitVec 32 := Scalar.muli v228 c512_i32_126
  v229
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x32x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8x128x16384 : Shape := ⟨4, ![2, 8, 128, 16384]⟩
abbrev S2x8x16384x128 : Shape := ⟨4, ![2, 8, 16384, 128]⟩
abbrev S2x8x32x80x512 : Shape := ⟨5, ![2, 8, 32, 80, 512]⟩
abbrev S2x8x16384x16384 : Shape := ⟨4, ![2, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x16384 : Shape := ⟨3, ![2, 8, 16384]⟩
abbrev S2x8x16384x1 : Shape := ⟨4, ![2, 8, 16384, 1]⟩
abbrev S2x8x32x64x512 : Shape := ⟨5, ![2, 8, 32, 64, 512]⟩
abbrev S2x8x32x512x64 : Shape := ⟨5, ![2, 8, 32, 512, 64]⟩
abbrev S2x8x16384x64 : Shape := ⟨4, ![2, 8, 16384, 64]⟩
abbrev S2x8x64x16384 : Shape := ⟨4, ![2, 8, 64, 16384]⟩
abbrev S2x16384x8x64 : Shape := ⟨4, ![2, 16384, 8, 64]⟩
abbrev S2x16384x512 : Shape := ⟨3, ![2, 16384, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x8x128x16384, .bf16⟩
  | .hbm, ⟨1, _⟩ => ⟨S2x8x16384x128, .bf16⟩
  | .hbm, ⟨2, _⟩ => ⟨S2x8x32x80x512, .bf16⟩
  | .hbm, ⟨3, _⟩ => ⟨S2x8x16384x16384, .f32⟩
  | .hbm, ⟨4, _⟩ => ⟨S_, .f32⟩
  | .hbm, ⟨5, _⟩ => ⟨S_, .f32⟩
  | .hbm, ⟨6, _⟩ => ⟨S2x8x16384x16384, .f32⟩
  | .hbm, ⟨7, _⟩ => ⟨S2x8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S_, .f32⟩
  | .hbm, ⟨15, _⟩ => ⟨S_, .f32⟩
  | .hbm, ⟨16, _⟩ => ⟨S2x8x16384x16384, .i1⟩
  | .hbm, ⟨17, _⟩ => ⟨S2x8x16384x16384, .f32⟩
  | .hbm, ⟨18, _⟩ => ⟨S2x8x16384x16384, .f32⟩
  | .hbm, ⟨19, _⟩ => ⟨S_, .f32⟩
  | .hbm, ⟨20, _⟩ => ⟨S2x8x16384, .f32⟩
  | .hbm, ⟨21, _⟩ => ⟨S_, .f32⟩
  | .hbm, ⟨22, _⟩ => ⟨S2x8x16384, .f32⟩
  | .hbm, ⟨23, _⟩ => ⟨S2x8x16384, .f32⟩
  | .hbm, ⟨24, _⟩ => ⟨S2x8x16384x1, .f32⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S_, .f32⟩
  | .hbm, ⟨29, _⟩ => ⟨S2x8x16384, .f32⟩
  | .hbm, ⟨30, _⟩ => ⟨S2x8x16384x1, .f32⟩
  | .hbm, ⟨31, _⟩ => ⟨S2x8x16384x16384, .f32⟩
  | .hbm, ⟨32, _⟩ => ⟨S2x8x16384x16384, .f32⟩
  | .hbm, ⟨33, _⟩ => ⟨S2x8x16384x16384, .bf16⟩
  | .hbm, ⟨34, _⟩ => ⟨S2x8x32x64x512, .bf16⟩
  | .hbm, ⟨35, _⟩ => ⟨S2x8x32x512x64, .bf16⟩
  | .hbm, ⟨36, _⟩ => ⟨S2x8x16384x64, .bf16⟩
  | .hbm, ⟨37, _⟩ => ⟨S2x8x64x16384, .f32⟩
  | .hbm, ⟨38, _⟩ => ⟨S2x16384x8x64, .f32⟩
  | .hbm, ⟨39, _⟩ => ⟨S2x16384x512, .f32⟩
  | .hbm, ⟨40, _⟩ => ⟨S2x16384x512, .bf16⟩
  | _, _ => ⟨S2x8x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Project.lean ====
abbrev S2x16384x1024 : Shape := ⟨3, ![2, 16384, 1024]⟩
abbrev S1024 : Shape := ⟨1, ![1024]⟩
abbrev S1024x4104 : Shape := ⟨2, ![1024, 4104]⟩
abbrev S8 : Shape := ⟨1, ![8]⟩
abbrev S1x1024 : Shape := ⟨2, ![1, 1024]⟩
abbrev S1024x512 : Shape := ⟨2, ![1024, 512]⟩
abbrev S_ : Shape := ⟨0, ![]⟩
abbrev S1024x1024 : Shape := ⟨2, ![1024, 1024]⟩
abbrev S1024x1536 : Shape := ⟨2, ![1024, 1536]⟩
abbrev S1024x8 : Shape := ⟨2, ![1024, 8]⟩
abbrev S1024x128 : Shape := ⟨2, ![1024, 128]⟩
abbrev S128 : Shape := ⟨1, ![128]⟩
abbrev S1x128 : Shape := ⟨2, ![1, 128]⟩
abbrev S512x1024 : Shape := ⟨2, ![512, 1024]⟩
abbrev S384 : Shape := ⟨1, ![384]⟩
abbrev S384x1 : Shape := ⟨2, ![384, 1]⟩
abbrev S384x1024 : Shape := ⟨2, ![384, 1024]⟩
abbrev S2x16384x512 : Shape := ⟨3, ![2, 16384, 512]⟩
abbrev S2x512x16384 : Shape := ⟨3, ![2, 512, 16384]⟩
abbrev S2x16384x8 : Shape := ⟨3, ![2, 16384, 8]⟩
abbrev S2x4x16384x128 : Shape := ⟨4, ![2, 4, 16384, 128]⟩
abbrev S2x8x128x16384 : Shape := ⟨4, ![2, 8, 128, 16384]⟩
abbrev S2x8x16384x128 : Shape := ⟨4, ![2, 8, 16384, 128]⟩
abbrev S2x8x32x80x512 : Shape := ⟨5, ![2, 8, 32, 80, 512]⟩
abbrev S1x256x1024 : Shape := ⟨3, ![1, 256, 1024]⟩
abbrev S1x256x512 : Shape := ⟨3, ![1, 256, 512]⟩
abbrev S1x512x256 : Shape := ⟨3, ![1, 512, 256]⟩
abbrev S1x256x8 : Shape := ⟨3, ![1, 256, 8]⟩
abbrev S1x4x256x128 : Shape := ⟨4, ![1, 4, 256, 128]⟩
abbrev S1x8x128x256 : Shape := ⟨4, ![1, 8, 128, 256]⟩
abbrev S1x8x256x128 : Shape := ⟨4, ![1, 8, 256, 128]⟩
abbrev S1x8x1x80x256 : Shape := ⟨5, ![1, 8, 1, 80, 256]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x8 : Shape := ⟨2, ![256, 8]⟩
abbrev S256x512 : Shape := ⟨2, ![256, 512]⟩
abbrev S1x1x256x128 : Shape := ⟨4, ![1, 1, 256, 128]⟩
abbrev S256x256 : Shape := ⟨2, ![256, 256]⟩
abbrev S256x384 : Shape := ⟨2, ![256, 384]⟩
abbrev S512x256 : Shape := ⟨2, ![512, 256]⟩
abbrev S64x256 : Shape := ⟨2, ![64, 256]⟩
abbrev S16x256 : Shape := ⟨2, ![16, 256]⟩
abbrev S128x256 : Shape := ⟨2, ![128, 256]⟩
abbrev S1x1x128x256 : Shape := ⟨4, ![1, 1, 128, 256]⟩
abbrev S80x256 : Shape := ⟨2, ![80, 256]⟩
abbrev S1x1x1x80x256 : Shape := ⟨5, ![1, 1, 1, 80, 256]⟩

abbrev nBuf : Space → Nat
  | .hbm => 108
  | .vmem => 31
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S1x1024, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1536, .f32⟩
  | .hbm, ⟨11, _⟩ => ⟨S1024x1536, .bf16⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1024x512, .f32⟩
  | .hbm, ⟨22, _⟩ => ⟨S1024x512, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x512, .f32⟩
  | .hbm, ⟨28, _⟩ => ⟨S512x1024, .f32⟩
  | .hbm, ⟨29, _⟩ => ⟨S512x1024, .bf16⟩
  | .hbm, ⟨30, _⟩ => ⟨S1024x512, .f32⟩
  | .hbm, ⟨31, _⟩ => ⟨S512x1024, .f32⟩
  | .hbm, ⟨32, _⟩ => ⟨S512x1024, .bf16⟩
  | .hbm, ⟨33, _⟩ => ⟨S384, .i32⟩
  | .hbm, ⟨34, _⟩ => ⟨S_, .i32⟩
  | .hbm, ⟨35, _⟩ => ⟨S_, .i32⟩
  | .hbm, ⟨36, _⟩ => ⟨S384, .i32⟩
  | .hbm, ⟨37, _⟩ => ⟨S384, .i32⟩
  | .hbm, ⟨38, _⟩ => ⟨S384, .i32⟩
  | .hbm, ⟨39, _⟩ => ⟨S_, .i32⟩
  | .hbm, ⟨40, _⟩ => ⟨S384, .i32⟩
  | .hbm, ⟨41, _⟩ => ⟨S384, .i1⟩
  | .hbm, ⟨42, _⟩ => ⟨S384, .i32⟩
  | .hbm, ⟨43, _⟩ => ⟨S384, .i32⟩
  | .hbm, ⟨44, _⟩ => ⟨S_, .i32⟩
  | .hbm, ⟨45, _⟩ => ⟨S384, .i32⟩
  | .hbm, ⟨46, _⟩ => ⟨S384, .i1⟩
  | .hbm, ⟨47, _⟩ => ⟨S384, .i1⟩
  | .hbm, ⟨48, _⟩ => ⟨S_, .i32⟩
  | .hbm, ⟨49, _⟩ => ⟨S384, .i32⟩
  | .hbm, ⟨50, _⟩ => ⟨S384, .i32⟩
  | .hbm, ⟨51, _⟩ => ⟨S384, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S384, .i32⟩
  | .hbm, ⟨59, _⟩ => ⟨S384, .i32⟩
  | .hbm, ⟨60, _⟩ => ⟨S_, .i32⟩
  | .hbm, ⟨61, _⟩ => ⟨S384, .i32⟩
  | .hbm, ⟨62, _⟩ => ⟨S384, .i1⟩
  | .hbm, ⟨63, _⟩ => ⟨S_, .i32⟩
  | .hbm, ⟨64, _⟩ => ⟨S384, .i32⟩
  | .hbm, ⟨65, _⟩ => ⟨S384, .i1⟩
  | .hbm, ⟨66, _⟩ => ⟨S_, .i32⟩
  | .hbm, ⟨67, _⟩ => ⟨S_, .i1⟩
  | .hbm, ⟨68, _⟩ => ⟨S384, .i1⟩
  | .hbm, ⟨69, _⟩ => ⟨S384, .i1⟩
  | .hbm, ⟨70, _⟩ => ⟨S384, .i1⟩
  | .hbm, ⟨71, _⟩ => ⟨S384, .i32⟩
  | .hbm, ⟨72, _⟩ => ⟨S384, .i32⟩
  | .hbm, ⟨73, _⟩ => ⟨S384, .i32⟩
  | .hbm, ⟨74, _⟩ => ⟨S_, .i32⟩
  | .hbm, ⟨75, _⟩ => ⟨S384, .i32⟩
  | .hbm, ⟨76, _⟩ => ⟨S384, .i32⟩
  | .hbm, ⟨77, _⟩ => ⟨S_, .i32⟩
  | .hbm, ⟨78, _⟩ => ⟨S384, .i32⟩
  | .hbm, ⟨79, _⟩ => ⟨S384, .i32⟩
  | .hbm, ⟨80, _⟩ => ⟨S384, .i32⟩
  | .hbm, ⟨81, _⟩ => ⟨S1024, .i32⟩
  | .hbm, ⟨82, _⟩ => ⟨S1x1024, .i32⟩
  | .hbm, ⟨83, _⟩ => ⟨S_, .i32⟩
  | .hbm, ⟨84, _⟩ => ⟨S384, .i32⟩
  | .hbm, ⟨85, _⟩ => ⟨S384, .i1⟩
  | .hbm, ⟨86, _⟩ => ⟨S384x1, .i1⟩
  | .hbm, ⟨87, _⟩ => ⟨S384x1, .i32⟩
  | .hbm, ⟨88, _⟩ => ⟨S384x1024, .i32⟩
  | .hbm, ⟨89, _⟩ => ⟨S384x1024, .i32⟩
  | .hbm, ⟨90, _⟩ => ⟨S384x1024, .i1⟩
  | .hbm, ⟨91, _⟩ => ⟨S384x1024, .i1⟩
  | .hbm, ⟨92, _⟩ => ⟨S384x1024, .i1⟩
  | .hbm, ⟨93, _⟩ => ⟨S_, .f32⟩
  | .hbm, ⟨94, _⟩ => ⟨S_, .f32⟩
  | .hbm, ⟨95, _⟩ => ⟨S384x1024, .f32⟩
  | .hbm, ⟨96, _⟩ => ⟨S384x1024, .f32⟩
  | .hbm, ⟨97, _⟩ => ⟨S384x1024, .f32⟩
  | .hbm, ⟨98, _⟩ => ⟨S384x1024, .bf16⟩
  | .hbm, ⟨99, _⟩ => ⟨S2x16384x512, .f32⟩
  | .hbm, ⟨100, _⟩ => ⟨S2x512x16384, .f32⟩
  | .hbm, ⟨101, _⟩ => ⟨S2x16384x8, .f32⟩
  | .hbm, ⟨102, _⟩ => ⟨S2x4x16384x128, .f32⟩
  | .hbm, ⟨103, _⟩ => ⟨S2x16384x1024, .f32⟩
  | .hbm, ⟨104, _⟩ => ⟨S2x16384x1024, .f32⟩
  | .hbm, ⟨105, _⟩ => ⟨S2x8x128x16384, .bf16⟩
  | .hbm, ⟨106, _⟩ => ⟨S2x8x16384x128, .bf16⟩
  | .hbm, ⟨107, _⟩ => ⟨S2x8x32x80x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S1x128, .f32⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S384x1024, .bf16⟩
  | .local _ .vmem, ⟨12, _⟩ => ⟨S1x256x512, .f32⟩
  | .local _ .vmem, ⟨13, _⟩ => ⟨S1x256x512, .f32⟩
  | .local _ .vmem, ⟨14, _⟩ => ⟨S1x512x256, .f32⟩
  | .local _ .vmem, ⟨15, _⟩ => ⟨S1x512x256, .f32⟩
  | .local _ .vmem, ⟨16, _⟩ => ⟨S1x256x8, .f32⟩
  | .local _ .vmem, ⟨17, _⟩ => ⟨S1x256x8, .f32⟩
  | .local _ .vmem, ⟨18, _⟩ => ⟨S1x4x256x128, .f32⟩
  | .local _ .vmem, ⟨19, _⟩ => ⟨S1x4x256x128, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x8x128x256, .bf16⟩
  | .local _ .vmem, ⟨25, _⟩ => ⟨S1x8x128x256, .bf16⟩
  | .local _ .vmem, ⟨26, _⟩ => ⟨S1x8x256x128, .bf16⟩
  | .local _ .vmem, ⟨27, _⟩ => ⟨S1x8x256x128, .bf16⟩
  | .local _ .vmem, ⟨28, _⟩ => ⟨S1x8x1x80x256, .bf16⟩
  | .local _ .vmem, ⟨29, _⟩ => ⟨S1x8x1x80x256, .bf16⟩
  | .local _ .vmem, ⟨30, _⟩ => ⟨S1x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v25 : Ref sig .tc := ⟨.hbm, 51, rfl⟩
abbrev main_c_2 : Ref sig .tc := ⟨.hbm, 52, rfl⟩
abbrev main_call3_v0 : Ref sig .tc := ⟨.hbm, 53, rfl⟩
abbrev main_call3_c : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_c_1 : Ref sig .tc := ⟨.hbm, 60, rfl⟩
abbrev main_call3_v5 : Ref sig .tc := ⟨.hbm, 61, rfl⟩
abbrev main_call3_v6 : Ref sig .tc := ⟨.hbm, 62, rfl⟩
abbrev main_call3_c_2 : Ref sig .tc := ⟨.hbm, 63, rfl⟩
abbrev main_call3_v7 : Ref sig .tc := ⟨.hbm, 64, rfl⟩
abbrev main_call3_v8 : Ref sig .tc := ⟨.hbm, 65, rfl⟩
abbrev main_call3_c_3 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_v26 : Ref sig .tc := ⟨.hbm, 73, rfl⟩
abbrev main_c_3 : Ref sig .tc := ⟨.hbm, 74, rfl⟩
abbrev main_v27 : Ref sig .tc := ⟨.hbm, 75, rfl⟩
abbrev main_v28 : Ref sig .tc := ⟨.hbm, 76, rfl⟩
abbrev main_c_4 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_c_5 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_6 : Ref sig .tc := ⟨.hbm, 93, rfl⟩
abbrev main_cst_7 : Ref sig .tc := ⟨.hbm, 94, rfl⟩
abbrev main_call4_v0 : Ref sig .tc := ⟨.hbm, 95, rfl⟩
abbrev main_call4_v1 : Ref sig .tc := ⟨.hbm, 96, rfl⟩
abbrev main_v43 : Ref sig .tc := ⟨.hbm, 97, rfl⟩
abbrev main_v44 : Ref sig .tc := ⟨.hbm, 98, rfl⟩
abbrev main_v45_0 : Ref sig .tc := ⟨.hbm, 99, rfl⟩
abbrev main_v45_1 : Ref sig .tc := ⟨.hbm, 100, rfl⟩
abbrev main_v45_2 : Ref sig .tc := ⟨.hbm, 101, rfl⟩
abbrev main_v45_3 : Ref sig .tc := ⟨.hbm, 102, rfl⟩
abbrev main_v45_4 : Ref sig .tc := ⟨.hbm, 103, rfl⟩
abbrev main_v45_5 : Ref sig .tc := ⟨.hbm, 104, rfl⟩
abbrev main_v45_6 : Ref sig .tc := ⟨.hbm, 105, rfl⟩
abbrev main_v45_7 : Ref sig .tc := ⟨.hbm, 106, rfl⟩
abbrev main_v45_8 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, c0_i32_10.toNat, v16.toNat, c0_i32_11.toNat, v26.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x1x80x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ProjectReferenceIdeal.lean ====
abbrev S2x16384x1024 : Shape := ⟨3, ![2, 16384, 1024]⟩
abbrev S1024 : Shape := ⟨1, ![1024]⟩
abbrev S1024x4104 : Shape := ⟨2, ![1024, 4104]⟩
abbrev S8 : Shape := ⟨1, ![8]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4104 : Shape := ⟨3, ![2, 16384, 4104]⟩
abbrev S2x16384x512 : Shape := ⟨3, ![2, 16384, 512]⟩
abbrev S2x16384x8 : Shape := ⟨3, ![2, 16384, 8]⟩
abbrev S2x512x16384 : Shape := ⟨3, ![2, 512, 16384]⟩
abbrev S1x1x8 : Shape := ⟨3, ![1, 1, 8]⟩
abbrev S2x16384x4x128 : Shape := ⟨4, ![2, 16384, 4, 128]⟩
abbrev S2x4x16384x128 : Shape := ⟨4, ![2, 4, 16384, 128]⟩

abbrev nBuf : Space → Nat
  | .hbm => 65
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x4104, .f32⟩
  | .hbm, ⟨21, _⟩ => ⟨S2x16384x512, .f32⟩
  | .hbm, ⟨22, _⟩ => ⟨S2x16384x512, .f32⟩
  | .hbm, ⟨23, _⟩ => ⟨S2x16384x8, .f32⟩
  | .hbm, ⟨24, _⟩ => ⟨S2x16384x512, .f32⟩
  | .hbm, ⟨25, _⟩ => ⟨S2x16384x1024, .f32⟩
  | .hbm, ⟨26, _⟩ => ⟨S2x16384x1024, .f32⟩
  | .hbm, ⟨27, _⟩ => ⟨S2x512x16384, .f32⟩
  | .hbm, ⟨28, _⟩ => ⟨S1x1x8, .f32⟩
  | .hbm, ⟨29, _⟩ => ⟨S2x16384x8, .f32⟩
  | .hbm, ⟨30, _⟩ => ⟨S2x16384x8, .f32⟩
  | .hbm, ⟨31, _⟩ => ⟨S2x16384x8, .f32⟩
  | .hbm, ⟨32, _⟩ => ⟨S_, .f32⟩
  | .hbm, ⟨33, _⟩ => ⟨S2x16384x8, .f32⟩
  | .hbm, ⟨34, _⟩ => ⟨S2x16384x8, .f32⟩
  | .hbm, ⟨35, _⟩ => ⟨S2x16384x8, .f32⟩
  | .hbm, ⟨36, _⟩ => ⟨S2x16384x8, .f32⟩
  | .hbm, ⟨37, _⟩ => ⟨S2x16384x8, .i1⟩
  | .hbm, ⟨38, _⟩ => ⟨S2x16384x8, .f32⟩
  | .hbm, ⟨39, _⟩ => ⟨S2x16384x8, .f32⟩
  | .hbm, ⟨40, _⟩ => ⟨S2x16384x8, .f32⟩
  | .hbm, ⟨41, _⟩ => ⟨S2x16384x8, .f32⟩
  | .hbm, ⟨42, _⟩ => ⟨S2x16384x8, .f32⟩
  | .hbm, ⟨43, _⟩ => ⟨S2x16384x8, .f32⟩
  | .hbm, ⟨44, _⟩ => ⟨S2x16384x8, .f32⟩
  | .hbm, ⟨45, _⟩ => ⟨S2x16384x8, .f32⟩
  | .hbm, ⟨46, _⟩ => ⟨S2x16384x8, .f32⟩
  | .hbm, ⟨47, _⟩ => ⟨S2x16384x4x128, .f32⟩
  | .hbm, ⟨48, _⟩ => ⟨S2x4x16384x128, .f32⟩
  | .hbm, ⟨49, _⟩ => ⟨S2x16384x1024, .f32⟩
  | .hbm, ⟨50, _⟩ => ⟨S2x16384x1024, .f32⟩
  | .hbm, ⟨51, _⟩ => ⟨S_, .f32⟩
  | .hbm, ⟨52, _⟩ => ⟨S2x16384x1024, .f32⟩
  | .hbm, ⟨53, _⟩ => ⟨S2x16384x1024, .f32⟩
  | .hbm, ⟨54, _⟩ => ⟨S_, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x16384x1024, .f32⟩
  | .hbm, ⟨61, _⟩ => ⟨S2x16384x1024, .f32⟩
  | .hbm, ⟨62, _⟩ => ⟨S_, .f32⟩
  | .hbm, ⟨63, _⟩ => ⟨S2x16384x1024, .f32⟩
  | .hbm, ⟨64, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩

abbrev nD : Nat := 1
abbrev τ : Topo := Topo.v7x

variable {F : FTy → Type} [FloatOps F]
-- ==== Sample.lean ====
abbrev S128x8x1024 : Shape := ⟨3, ![128, 8, 1024]⟩
abbrev S1024 : Shape := ⟨1, ![1024]⟩
abbrev S1024x4104 : Shape := ⟨2, ![1024, 4104]⟩
abbrev S8 : Shape := ⟨1, ![8]⟩
abbrev S8x128x1024 : Shape := ⟨3, ![8, 128, 1024]⟩
abbrev S1x1024x1024 : Shape := ⟨3, ![1, 1024, 1024]⟩
abbrev S1x1024 : Shape := ⟨2, ![1, 1024]⟩
abbrev S1024x512 : Shape := ⟨2, ![1024, 512]⟩
abbrev S_ : Shape := ⟨0, ![]⟩
abbrev S1024x1024 : Shape := ⟨2, ![1024, 1024]⟩
abbrev S1024x1536 : Shape := ⟨2, ![1024, 1536]⟩
abbrev S1024x8 : Shape := ⟨2, ![1024, 8]⟩
abbrev S1024x128 : Shape := ⟨2, ![1024, 128]⟩
abbrev S128 : Shape := ⟨1, ![128]⟩
abbrev S1x128 : Shape := ⟨2, ![1, 128]⟩
abbrev S512x1024 : Shape := ⟨2, ![512, 1024]⟩
abbrev S384 : Shape := ⟨1, ![384]⟩
abbrev S384x1 : Shape := ⟨2, ![384, 1]⟩
abbrev S384x1024 : Shape := ⟨2, ![384, 1024]⟩
abbrev S1x1024x512 : Shape := ⟨3, ![1, 1024, 512]⟩
abbrev S1x1024x8 : Shape := ⟨3, ![1, 1024, 8]⟩
abbrev S1x4x1024x128 : Shape := ⟨4, ![1, 4, 1024, 128]⟩
abbrev S1x256x1024 : Shape := ⟨3, ![1, 256, 1024]⟩
abbrev S1x256x512 : Shape := ⟨3, ![1, 256, 512]⟩
abbrev S1x256x8 : Shape := ⟨3, ![1, 256, 8]⟩
abbrev S1x4x256x128 : Shape := ⟨4, ![1, 4, 256, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x8 : Shape := ⟨2, ![256, 8]⟩
abbrev S256x512 : Shape := ⟨2, ![256, 512]⟩
abbrev S1x1x256x128 : Shape := ⟨4, ![1, 1, 256, 128]⟩
abbrev S256x1536 : Shape := ⟨2, ![256, 1536]⟩

abbrev nBuf : Space → Nat
  | .hbm => 108
  | .vmem => 23
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S8x128x1024, .f32⟩
  | .hbm, ⟨5, _⟩ => ⟨S1x1024x1024, .f32⟩
  | .hbm, ⟨6, _⟩ => ⟨S1x1024, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1536, .f32⟩
  | .hbm, ⟨13, _⟩ => ⟨S1024x1536, .bf16⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S1024x512, .f32⟩
  | .hbm, ⟨24, _⟩ => ⟨S1024x512, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x512, .f32⟩
  | .hbm, ⟨30, _⟩ => ⟨S512x1024, .f32⟩
  | .hbm, ⟨31, _⟩ => ⟨S512x1024, .bf16⟩
  | .hbm, ⟨32, _⟩ => ⟨S1024x512, .f32⟩
  | .hbm, ⟨33, _⟩ => ⟨S512x1024, .f32⟩
  | .hbm, ⟨34, _⟩ => ⟨S512x1024, .bf16⟩
  | .hbm, ⟨35, _⟩ => ⟨S384, .i32⟩
  | .hbm, ⟨36, _⟩ => ⟨S_, .i32⟩
  | .hbm, ⟨37, _⟩ => ⟨S_, .i32⟩
  | .hbm, ⟨38, _⟩ => ⟨S384, .i32⟩
  | .hbm, ⟨39, _⟩ => ⟨S384, .i32⟩
  | .hbm, ⟨40, _⟩ => ⟨S384, .i32⟩
  | .hbm, ⟨41, _⟩ => ⟨S_, .i32⟩
  | .hbm, ⟨42, _⟩ => ⟨S384, .i32⟩
  | .hbm, ⟨43, _⟩ => ⟨S384, .i1⟩
  | .hbm, ⟨44, _⟩ => ⟨S384, .i32⟩
  | .hbm, ⟨45, _⟩ => ⟨S384, .i32⟩
  | .hbm, ⟨46, _⟩ => ⟨S_, .i32⟩
  | .hbm, ⟨47, _⟩ => ⟨S384, .i32⟩
  | .hbm, ⟨48, _⟩ => ⟨S384, .i1⟩
  | .hbm, ⟨49, _⟩ => ⟨S384, .i1⟩
  | .hbm, ⟨50, _⟩ => ⟨S_, .i32⟩
  | .hbm, ⟨51, _⟩ => ⟨S384, .i32⟩
  | .hbm, ⟨52, _⟩ => ⟨S384, .i32⟩
  | .hbm, ⟨53, _⟩ => ⟨S384, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S384, .i32⟩
  | .hbm, ⟨61, _⟩ => ⟨S384, .i32⟩
  | .hbm, ⟨62, _⟩ => ⟨S_, .i32⟩
  | .hbm, ⟨63, _⟩ => ⟨S384, .i32⟩
  | .hbm, ⟨64, _⟩ => ⟨S384, .i1⟩
  | .hbm, ⟨65, _⟩ => ⟨S_, .i32⟩
  | .hbm, ⟨66, _⟩ => ⟨S384, .i32⟩
  | .hbm, ⟨67, _⟩ => ⟨S384, .i1⟩
  | .hbm, ⟨68, _⟩ => ⟨S_, .i32⟩
  | .hbm, ⟨69, _⟩ => ⟨S_, .i1⟩
  | .hbm, ⟨70, _⟩ => ⟨S384, .i1⟩
  | .hbm, ⟨71, _⟩ => ⟨S384, .i1⟩
  | .hbm, ⟨72, _⟩ => ⟨S384, .i1⟩
  | .hbm, ⟨73, _⟩ => ⟨S384, .i32⟩
  | .hbm, ⟨74, _⟩ => ⟨S384, .i32⟩
  | .hbm, ⟨75, _⟩ => ⟨S384, .i32⟩
  | .hbm, ⟨76, _⟩ => ⟨S_, .i32⟩
  | .hbm, ⟨77, _⟩ => ⟨S384, .i32⟩
  | .hbm, ⟨78, _⟩ => ⟨S384, .i32⟩
  | .hbm, ⟨79, _⟩ => ⟨S_, .i32⟩
  | .hbm, ⟨80, _⟩ => ⟨S384, .i32⟩
  | .hbm, ⟨81, _⟩ => ⟨S384, .i32⟩
  | .hbm, ⟨82, _⟩ => ⟨S384, .i32⟩
  | .hbm, ⟨83, _⟩ => ⟨S1024, .i32⟩
  | .hbm, ⟨84, _⟩ => ⟨S1x1024, .i32⟩
  | .hbm, ⟨85, _⟩ => ⟨S_, .i32⟩
  | .hbm, ⟨86, _⟩ => ⟨S384, .i32⟩
  | .hbm, ⟨87, _⟩ => ⟨S384, .i1⟩
  | .hbm, ⟨88, _⟩ => ⟨S384x1, .i1⟩
  | .hbm, ⟨89, _⟩ => ⟨S384x1, .i32⟩
  | .hbm, ⟨90, _⟩ => ⟨S384x1024, .i32⟩
  | .hbm, ⟨91, _⟩ => ⟨S384x1024, .i32⟩
  | .hbm, ⟨92, _⟩ => ⟨S384x1024, .i1⟩
  | .hbm, ⟨93, _⟩ => ⟨S384x1024, .i1⟩
  | .hbm, ⟨94, _⟩ => ⟨S384x1024, .i1⟩
  | .hbm, ⟨95, _⟩ => ⟨S_, .f32⟩
  | .hbm, ⟨96, _⟩ => ⟨S_, .f32⟩
  | .hbm, ⟨97, _⟩ => ⟨S384x1024, .f32⟩
  | .hbm, ⟨98, _⟩ => ⟨S384x1024, .f32⟩
  | .hbm, ⟨99, _⟩ => ⟨S384x1024, .f32⟩
  | .hbm, ⟨100, _⟩ => ⟨S384x1024, .bf16⟩
  | .hbm, ⟨101, _⟩ => ⟨S1x1024x512, .f32⟩
  | .hbm, ⟨102, _⟩ => ⟨S1x1024x512, .f32⟩
  | .hbm, ⟨103, _⟩ => ⟨S1x1024x512, .f32⟩
  | .hbm, ⟨104, _⟩ => ⟨S1x1024x8, .f32⟩
  | .hbm, ⟨105, _⟩ => ⟨S1x4x1024x128, .f32⟩
  | .hbm, ⟨106, _⟩ => ⟨S1x1024x1024, .f32⟩
  | .hbm, ⟨107, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S1x128, .f32⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x8, .f32⟩
  | .local _ .vmem, ⟨16, _⟩ => ⟨S1x256x8, .f32⟩
  | .local _ .vmem, ⟨17, _⟩ => ⟨S1x4x256x128, .f32⟩
  | .local _ .vmem, ⟨18, _⟩ => ⟨S1x4x256x128, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v27 : Ref sig .tc := ⟨.hbm, 53, rfl⟩
abbrev main_c_2 : Ref sig .tc := ⟨.hbm, 54, rfl⟩
abbrev main_call3_v0 : Ref sig .tc := ⟨.hbm, 55, rfl⟩
abbrev main_call3_c : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_c_1 : Ref sig .tc := ⟨.hbm, 62, rfl⟩
abbrev main_call3_v5 : Ref sig .tc := ⟨.hbm, 63, rfl⟩
abbrev main_call3_v6 : Ref sig .tc := ⟨.hbm, 64, rfl⟩
abbrev main_call3_c_2 : Ref sig .tc := ⟨.hbm, 65, rfl⟩
abbrev main_call3_v7 : Ref sig .tc := ⟨.hbm, 66, rfl⟩
abbrev main_call3_v8 : Ref sig .tc := ⟨.hbm, 67, rfl⟩
abbrev main_call3_c_3 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_v12 : Ref sig .tc := ⟨.hbm, 72, rfl⟩
abbrev main_call3_v13 : Ref sig .tc := ⟨.hbm, 73, rfl⟩
abbrev main_call3_v14 : Ref sig .tc := ⟨.hbm, 74, rfl⟩
abbrev main_v28 : Ref sig .tc := ⟨.hbm, 75, rfl⟩
abbrev main_c_3 : Ref sig .tc := ⟨.hbm, 76, rfl⟩
abbrev main_v29 : Ref sig .tc := ⟨.hbm, 77, rfl⟩
abbrev main_v30 : Ref sig .tc := ⟨.hbm, 78, rfl⟩
abbrev main_c_4 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c_5 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_6 : Ref sig .tc := ⟨.hbm, 95, rfl⟩
abbrev main_cst_7 : Ref sig .tc := ⟨.hbm, 96, rfl⟩
abbrev main_call4_v0 : Ref sig .tc := ⟨.hbm, 97, rfl⟩
abbrev main_call4_v1 : Ref sig .tc := ⟨.hbm, 98, rfl⟩
abbrev main_v45 : Ref sig .tc := ⟨.hbm, 99, rfl⟩
abbrev main_v46 : Ref sig .tc := ⟨.hbm, 100, rfl⟩
abbrev main_v47_0 : Ref sig .tc := ⟨.hbm, 101, rfl⟩
abbrev main_v47_1 : Ref sig .tc := ⟨.hbm, 102, rfl⟩
abbrev main_v47_2 : Ref sig .tc := ⟨.hbm, 103, rfl⟩
abbrev main_v47_3 : Ref sig .tc := ⟨.hbm, 104, rfl⟩
abbrev main_v47_4 : Ref sig .tc := ⟨.hbm, 105, rfl⟩
abbrev main_v47_5 : Ref sig .tc := ⟨.hbm, 106, rfl⟩
abbrev main_v47_6 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== SampleReferenceIdeal.lean ====
abbrev S128x8x1024 : Shape := ⟨3, ![128, 8, 1024]⟩
abbrev S1024 : Shape := ⟨1, ![1024]⟩
abbrev S1024x4104 : Shape := ⟨2, ![1024, 4104]⟩
abbrev S8 : Shape := ⟨1, ![8]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x4104 : Shape := ⟨3, ![128, 8, 4104]⟩
abbrev S128x8x512 : Shape := ⟨3, ![128, 8, 512]⟩
abbrev S128x8x8 : Shape := ⟨3, ![128, 8, 8]⟩
abbrev S8x128x512 : Shape := ⟨3, ![8, 128, 512]⟩
abbrev S1x1024x512 : Shape := ⟨3, ![1, 1024, 512]⟩
abbrev S1x1x8 : Shape := ⟨3, ![1, 1, 8]⟩
abbrev S8x128x8 : Shape := ⟨3, ![8, 128, 8]⟩
abbrev S1x1024x8 : Shape := ⟨3, ![1, 1024, 8]⟩
abbrev S1x1024x4x128 : Shape := ⟨4, ![1, 1024, 4, 128]⟩
abbrev S1x4x1024x128 : Shape := ⟨4, ![1, 4, 1024, 128]⟩
abbrev S8x128x1024 : Shape := ⟨3, ![8, 128, 1024]⟩
abbrev S1x1024x1024 : Shape := ⟨3, ![1, 1024, 1024]⟩

abbrev nBuf : Space → Nat
  | .hbm => 76
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S128x8x1024, .f32⟩
  | .hbm, ⟨5, _⟩ => ⟨S_, .f32⟩
  | .hbm, ⟨6, _⟩ => ⟨S128x8, .f32⟩
  | .hbm, ⟨7, _⟩ => ⟨S128x8x1, .f32⟩
  | .hbm, ⟨8, _⟩ => ⟨S_, .f32⟩
  | .hbm, ⟨9, _⟩ => ⟨S128x8x1, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x1, .f32⟩
  | .hbm, ⟨15, _⟩ => ⟨S128x8x1024, .f32⟩
  | .hbm, ⟨16, _⟩ => ⟨S128x8x1024, .f32⟩
  | .hbm, ⟨17, _⟩ => ⟨S1x1x1024, .f32⟩
  | .hbm, ⟨18, _⟩ => ⟨S128x8x1024, .f32⟩
  | .hbm, ⟨19, _⟩ => ⟨S128x8x1024, .f32⟩
  | .hbm, ⟨20, _⟩ => ⟨S128x8x4104, .f32⟩
  | .hbm, ⟨21, _⟩ => ⟨S128x8x512, .f32⟩
  | .hbm, ⟨22, _⟩ => ⟨S128x8x512, .f32⟩
  | .hbm, ⟨23, _⟩ => ⟨S128x8x8, .f32⟩
  | .hbm, ⟨24, _⟩ => ⟨S128x8x512, .f32⟩
  | .hbm, ⟨25, _⟩ => ⟨S128x8x1024, .f32⟩
  | .hbm, ⟨26, _⟩ => ⟨S128x8x1024, .f32⟩
  | .hbm, ⟨27, _⟩ => ⟨S8x128x512, .f32⟩
  | .hbm, ⟨28, _⟩ => ⟨S1x1024x512, .f32⟩
  | .hbm, ⟨29, _⟩ => ⟨S8x128x512, .f32⟩
  | .hbm, ⟨30, _⟩ => ⟨S1x1024x512, .f32⟩
  | .hbm, ⟨31, _⟩ => ⟨S1x1x8, .f32⟩
  | .hbm, ⟨32, _⟩ => ⟨S128x8x8, .f32⟩
  | .hbm, ⟨33, _⟩ => ⟨S128x8x8, .f32⟩
  | .hbm, ⟨34, _⟩ => ⟨S128x8x8, .f32⟩
  | .hbm, ⟨35, _⟩ => ⟨S_, .f32⟩
  | .hbm, ⟨36, _⟩ => ⟨S128x8x8, .f32⟩
  | .hbm, ⟨37, _⟩ => ⟨S128x8x8, .f32⟩
  | .hbm, ⟨38, _⟩ => ⟨S128x8x8, .f32⟩
  | .hbm, ⟨39, _⟩ => ⟨S128x8x8, .f32⟩
  | .hbm, ⟨40, _⟩ => ⟨S128x8x8, .i1⟩
  | .hbm, ⟨41, _⟩ => ⟨S128x8x8, .f32⟩
  | .hbm, ⟨42, _⟩ => ⟨S128x8x8, .f32⟩
  | .hbm, ⟨43, _⟩ => ⟨S128x8x8, .f32⟩
  | .hbm, ⟨44, _⟩ => ⟨S128x8x8, .f32⟩
  | .hbm, ⟨45, _⟩ => ⟨S128x8x8, .f32⟩
  | .hbm, ⟨46, _⟩ => ⟨S128x8x8, .f32⟩
  | .hbm, ⟨47, _⟩ => ⟨S128x8x8, .f32⟩
  | .hbm, ⟨48, _⟩ => ⟨S128x8x8, .f32⟩
  | .hbm, ⟨49, _⟩ => ⟨S128x8x8, .f32⟩
  | .hbm, ⟨50, _⟩ => ⟨S8x128x8, .f32⟩
  | .hbm, ⟨51, _⟩ => ⟨S1x1024x8, .f32⟩
  | .hbm, ⟨52, _⟩ => ⟨S8x128x512, .f32⟩
  | .hbm, ⟨53, _⟩ => ⟨S1x1024x512, .f32⟩
  | .hbm, ⟨54, _⟩ => ⟨S1x1024x4x128, .f32⟩
  | .hbm, ⟨55, _⟩ => ⟨S1x4x1024x128, .f32⟩
  | .hbm, ⟨56, _⟩ => ⟨S128x8x1024, .f32⟩
  | .hbm, ⟨57, _⟩ => ⟨S128x8x1024, .f32⟩
  | .hbm, ⟨58, _⟩ => ⟨S_, .f32⟩
  | .hbm, ⟨59, _⟩ => ⟨S128x8x1024, .f32⟩
  | .hbm, ⟨60, _⟩ => ⟨S128x8x1024, .f32⟩
  | .hbm, ⟨61, _⟩ => ⟨S_, .f32⟩
  | .hbm, ⟨62, _⟩ => ⟨S128x8x1024, .f32⟩
  | .hbm, ⟨63, _⟩ => ⟨S128x8x1024, .f32⟩
  | .hbm, ⟨64, _⟩ => ⟨S8x128x1024, .f32⟩
  | .hbm, ⟨65, _⟩ => ⟨S1x1024x1024, .f32⟩
  | .hbm, ⟨66, _⟩ => ⟨S128x8x1024, .f32⟩
  | .hbm, ⟨67, _⟩ => ⟨S128x8x1024, .f32⟩
  | .hbm, ⟨68, _⟩ => ⟨S_, .f32⟩
  | .hbm, ⟨69, _⟩ => ⟨S128x8x1024, .f32⟩
  | .hbm, ⟨70, _⟩ => ⟨S128x8x1024, .f32⟩
  | .hbm, ⟨71, _⟩ => ⟨S_, .f32⟩
  | .hbm, ⟨72, _⟩ => ⟨S128x8x1024, .f32⟩
  | .hbm, ⟨73, _⟩ => ⟨S128x8x1024, .f32⟩
  | .hbm, ⟨74, _⟩ => ⟨S8x128x1024, .f32⟩
  | .hbm, ⟨75, _⟩ => ⟨S1x1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Mix.lean ====
abbrev S128x8x1024 : Shape := ⟨3, ![128, 8, 1024]⟩
abbrev S1024x512 : Shape := ⟨2, ![1024, 512]⟩
abbrev S128x8x512 : Shape := ⟨3, ![128, 8, 512]⟩
abbrev S1x1024x1024 : Shape := ⟨3, ![1, 1024, 1024]⟩
abbrev S128x2x2816 : Shape := ⟨3, ![128, 2, 2816]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S8x128x512 : Shape := ⟨3, ![8, 128, 512]⟩
abbrev S1x1024x512 : Shape := ⟨3, ![1, 1024, 512]⟩
abbrev S2x128x2816 : Shape := ⟨3, ![2, 128, 2816]⟩
abbrev S1x256x2816 : Shape := ⟨3, ![1, 256, 2816]⟩
abbrev S8x128x1024 : Shape := ⟨3, ![8, 128, 1024]⟩
abbrev S1024x4x128 : Shape := ⟨3, ![1024, 4, 128]⟩
abbrev S4x1024x128 : Shape := ⟨3, ![4, 1024, 128]⟩
abbrev S1x4x1024x128 : Shape := ⟨4, ![1, 4, 1024, 128]⟩
abbrev S1x256x1024 : Shape := ⟨3, ![1, 256, 1024]⟩
abbrev S1x4x256x128 : Shape := ⟨4, ![1, 4, 256, 128]⟩
abbrev S1x256x512 : Shape := ⟨3, ![1, 256, 512]⟩
abbrev S512x2816 : Shape := ⟨2, ![512, 2816]⟩
abbrev S256x2816 : Shape := ⟨2, ![256, 2816]⟩
abbrev S1x1x256x128 : Shape := ⟨4, ![1, 1, 256, 128]⟩
abbrev S256x128 : Shape := ⟨2, ![256, 128]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 39
  | .vmem => 26
  | .smem => 0
  | _ => 0

abbrev bufTy : (tb : Table) → Fin (tcTables nBuf tb) → BufTy
  | .hbm, ⟨0, _⟩ => ⟨S128x8x1024, .f32⟩
  | .hbm, ⟨1, _⟩ => ⟨S1024x512, .f32⟩
  | .hbm, ⟨2, _⟩ => ⟨S128x8x512, .f32⟩
  | .hbm, ⟨3, _⟩ => ⟨S1x1024x1024, .f32⟩
  | .hbm, ⟨4, _⟩ => ⟨S1x1024x1024, .f32⟩
  | .hbm, ⟨5, _⟩ => ⟨S128x2x2816, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S3x2816, .f32⟩
  | .hbm, ⟨14, _⟩ => ⟨S2816, .f32⟩
  | .hbm, ⟨15, _⟩ => ⟨S2816x1024, .f32⟩
  | .hbm, ⟨16, _⟩ => ⟨S1024, .f32⟩
  | .hbm, ⟨17, _⟩ => ⟨S512x1024, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1024x2816, .bf16⟩
  | .hbm, ⟨23, _⟩ => ⟨S1024x2816, .bf16⟩
  | .hbm, ⟨24, _⟩ => ⟨S1x2816, .f32⟩
  | .hbm, ⟨25, _⟩ => ⟨S2816x1024, .bf16⟩
  | .hbm, ⟨26, _⟩ => ⟨S1x1024, .f32⟩
  | .hbm, ⟨27, _⟩ => ⟨S8x128x512, .f32⟩
  | .hbm, ⟨28, _⟩ => ⟨S1x1024x512, .f32⟩
  | .hbm, ⟨29, _⟩ => ⟨S1x1024x512, .bf16⟩
  | .hbm, ⟨30, _⟩ => ⟨S2x128x2816, .f32⟩
  | .hbm, ⟨31, _⟩ => ⟨S1x256x2816, .f32⟩
  | .hbm, ⟨32, _⟩ => ⟨S8x128x1024, .f32⟩
  | .hbm, ⟨33, _⟩ => ⟨S1x1024x1024, .f32⟩
  | .hbm, ⟨34, _⟩ => ⟨S1024x4x128, .f32⟩
  | .hbm, ⟨35, _⟩ => ⟨S4x1024x128, .f32⟩
  | .hbm, ⟨36, _⟩ => ⟨S1x4x1024x128, .f32⟩
  | .hbm, ⟨37, _⟩ => ⟨S1x1024x1024, .f32⟩
  | .hbm, ⟨38, _⟩ => ⟨S1x256x2816, .f32⟩
  | .local _ .vmem, ⟨0, _⟩ => ⟨S1x256x1024, .f32⟩
  | .local _ .vmem, ⟨1, _⟩ => ⟨S1x256x1024, .f32⟩
  | .local _ .vmem, ⟨2, _⟩ => ⟨S1x4x256x128, .f32⟩
  | .local _ .vmem, ⟨3, _⟩ => ⟨S1x4x256x128, .f32⟩
  | .local _ .vmem, ⟨4, _⟩ => ⟨S1x256x512, .bf16⟩
  | .local _ .vmem, ⟨5, _⟩ => ⟨S1x256x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x2816, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S3x2816, .f32⟩
  | .local _ .vmem, ⟨19, _⟩ => ⟨S1x2816, .f32⟩
  | .local _ .vmem, ⟨20, _⟩ => ⟨S2816x1024, .bf16⟩
  | .local _ .vmem, ⟨21, _⟩ => ⟨S1x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x2816, .f32⟩
  | .local _ .vmem, ⟨25, _⟩ => ⟨S512x2816, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x256x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]
-- ==== MixReferenceIdeal.lean ====
abbrev S128x8x1024 : Shape := ⟨3, ![128, 8, 1024]⟩
abbrev S1024x512 : Shape := ⟨2, ![1024, 512]⟩
abbrev S128x8x512 : Shape := ⟨3, ![128, 8, 512]⟩
abbrev S1x1024x1024 : Shape := ⟨3, ![1, 1024, 1024]⟩
abbrev S128x2x2816 : Shape := ⟨3, ![128, 2, 2816]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S8x128x512 : Shape := ⟨3, ![8, 128, 512]⟩
abbrev S_ : Shape := ⟨0, ![]⟩
abbrev S8x128x1024 : Shape := ⟨3, ![8, 128, 1024]⟩
abbrev S128x8 : Shape := ⟨2, ![128, 8]⟩
abbrev S128x8x1 : Shape := ⟨3, ![128, 8, 1]⟩
abbrev S1x1x1024 : Shape := ⟨3, ![1, 1, 1024]⟩
abbrev S128x8x2816 : Shape := ⟨3, ![128, 8, 2816]⟩
abbrev S128x10x2816 : Shape := ⟨3, ![128, 10, 2816]⟩
abbrev S1x2816 : Shape := ⟨2, ![1, 2816]⟩
abbrev S1x1x2816 : Shape := ⟨3, ![1, 1, 2816]⟩
abbrev S2x128x2816 : Shape := ⟨3, ![2, 128, 2816]⟩
abbrev S1x256x2816 : Shape := ⟨3, ![1, 256, 2816]⟩

abbrev nBuf : Space → Nat
  | .hbm => 143
  | .vmem => 0
  | .smem => 0
  | _ => 0

abbrev hbmTy0_0 (i : Nat) : BufTy := match i % 128 with
  | 0 => ⟨S128x8x1024, .f32⟩
  | 1 => ⟨S1024x512, .f32⟩
  | 2 => ⟨S128x8x512, .f32⟩
  | 3 => ⟨S1x1024x1024, .f32⟩
  | 4 => ⟨S1x1024x1024, .f32⟩
  | 5 => ⟨S128x2x2816, .f32⟩
  | 6 => ⟨S512x1024, .f32⟩
  | 7 => ⟨S512x1024, .f32⟩
  | 8 => ⟨S512x1024, .f32⟩
  | 9 => ⟨S1024x1024, .f32⟩
  | 10 => ⟨S1024, .f32⟩
  | 11 => ⟨S1024x2816, .f32⟩
  | 12 => ⟨S1024x2816, .f32⟩
  | 13 => ⟨S3x2816, .f32⟩
  | 14 => ⟨S2816, .f32⟩
  | 15 => ⟨S2816x1024, .f32⟩
  | 16 => ⟨S1024, .f32⟩
  | 17 => ⟨S8x128x512, .f32⟩
  | 18 => ⟨S128x8x512, .f32⟩
  | 19 => ⟨S128x8x512, .f32⟩
  | 20 => ⟨S128x8x512, .f32⟩
  | 21 => ⟨S_, .f32⟩
  | 22 => ⟨S128x8x512, .f32⟩
  | 23 => ⟨S128x8x512, .f32⟩
  | 24 => ⟨S128x8x512, .f32⟩
  | 25 => ⟨S_, .f32⟩
  | 26 => ⟨S128x8x512, .f32⟩
  | 27 => ⟨S128x8x512, .f32⟩
  | 28 => ⟨S128x8x512, .f32⟩
  | 29 => ⟨S_, .f32⟩
  | 30 => ⟨S128x8x512, .f32⟩
  | 31 => ⟨S128x8x512, .f32⟩
  | 32 => ⟨S_, .f32⟩
  | 33 => ⟨S128x8x512, .f32⟩
  | 34 => ⟨S128x8x512, .f32⟩
  | 35 => ⟨S128x8x512, .f32⟩
  | 36 => ⟨S128x8x1024, .f32⟩
  | 37 => ⟨S128x8x1024, .f32⟩
  | 38 => ⟨S128x8x1024, .f32⟩
  | 39 => ⟨S128x8x1024, .f32⟩
  | 40 => ⟨S_, .f32⟩
  | 41 => ⟨S128x8x1024, .f32⟩
  | 42 => ⟨S128x8x1024, .f32⟩
  | 43 => ⟨S_, .f32⟩
  | 44 => ⟨S128x8x1024, .f32⟩
  | 45 => ⟨S128x8x1024, .f32⟩
  | 46 => ⟨S128x8x1024, .f32⟩
  | 47 => ⟨S128x8x1024, .f32⟩
  | 48 => ⟨S8x128x1024, .f32⟩
  | 49 => ⟨S128x8x1024, .f32⟩
  | 50 => ⟨S128x8x1024, .f32⟩
  | 51 => ⟨S8x128x1024, .f32⟩
  | 52 => ⟨S128x8x1024, .f32⟩
  | 53 => ⟨S128x8x1024, .f32⟩
  | 54 => ⟨S128x8x1024, .f32⟩
  | 55 => ⟨S128x8x1024, .f32⟩
  | 56 => ⟨S128x8x1024, .f32⟩
  | 57 => ⟨S128x8x1024, .f32⟩
  | 58 => ⟨S_, .f32⟩
  | 59 => ⟨S128x8, .f32⟩
  | 60 => ⟨S128x8x1, .f32⟩
  | 61 => ⟨S_, .f32⟩
  | 62 => ⟨S128x8x1, .f32⟩
  | 63 => ⟨S128x8x1, .f32⟩
  | 64 => ⟨S_, .f32⟩
  | 65 => ⟨S128x8x1, .f32⟩
  | 66 => ⟨S128x8x1, .f32⟩
  | 67 => ⟨S128x8x1, .f32⟩
  | 68 => ⟨S128x8x1024, .f32⟩
  | 69 => ⟨S128x8x1024, .f32⟩
  | 70 => ⟨S1x1x1024, .f32⟩
  | 71 => ⟨S128x8x1024, .f32⟩
  | 72 => ⟨S128x8x1024, .f32⟩
  | 73 => ⟨S128x8x2816, .f32⟩
  | 74 => ⟨S128x10x2816, .f32⟩
  | 75 => ⟨S128x8x2816, .f32⟩
  | 76 => ⟨S1x2816, .f32⟩
  | 77 => ⟨S2816, .f32⟩
  | 78 => ⟨S1x1x2816, .f32⟩
  | 79 => ⟨S128x8x2816, .f32⟩
  | 80 => ⟨S128x8x2816, .f32⟩
  | 81 => ⟨S_, .f32⟩
  | 82 => ⟨S128x8x2816, .f32⟩
  | 83 => ⟨S128x8x2816, .f32⟩
  | 84 => ⟨S128x8x2816, .f32⟩
  | 85 => ⟨S1x2816, .f32⟩
  | 86 => ⟨S2816, .f32⟩
  | 87 => ⟨S1x1x2816, .f32⟩
  | 88 => ⟨S128x8x2816, .f32⟩
  | 89 => ⟨S128x8x2816, .f32⟩
  | 90 => ⟨S128x8x2816, .f32⟩
  | 91 => ⟨S128x8x2816, .f32⟩
  | 92 => ⟨S1x2816, .f32⟩
  | 93 => ⟨S2816, .f32⟩
  | 94 => ⟨S1x1x2816, .f32⟩
  | 95 => ⟨S128x8x2816, .f32⟩
  | 96 => ⟨S128x8x2816, .f32⟩
  | 97 => ⟨S128x8x2816, .f32⟩
  | 98 => ⟨S1x1x2816, .f32⟩
  | 99 => ⟨S128x8x2816, .f32⟩
  | 100 => ⟨S128x8x2816, .f32⟩
  | 101 => ⟨S128x8x2816, .f32⟩
  | 102 => ⟨S128x8x2816, .f32⟩
  | 103 => ⟨S_, .f32⟩
  | 104 => ⟨S128x8x2816, .f32⟩
  | 105 => ⟨S128x8x2816, .f32⟩
  | 106 => ⟨S128x8x2816, .f32⟩
  | 107 => ⟨S_, .f32⟩
  | 108 => ⟨S128x8x2816, .f32⟩
  | 109 => ⟨S128x8x2816, .f32⟩
  | 110 => ⟨S128x8x2816, .f32⟩
  | 111 => ⟨S_, .f32⟩
  | 112 => ⟨S128x8x2816, .f32⟩
  | 113 => ⟨S128x8x2816, .f32⟩
  | 114 => ⟨S_, .f32⟩
  | 115 => ⟨S128x8x2816, .f32⟩
  | 116 => ⟨S128x8x2816, .f32⟩
  | 117 => ⟨S128x8x2816, .f32⟩
  | 118 => ⟨S128x8x2816, .f32⟩
  | 119 => ⟨S128x8x2816, .f32⟩
  | 120 => ⟨S128x8x1024, .f32⟩
  | 121 => ⟨S128x8x1024, .f32⟩
  | 122 => ⟨S128x8x1024, .f32⟩
  | 123 => ⟨S_, .f32⟩
  | 124 => ⟨S128x8, .f32⟩
  | 125 => ⟨S128x8x1, .f32⟩
  | 126 => ⟨S_, .f32⟩
  | 127 => ⟨S128x8x1, .f32⟩
  | _ => ⟨S128x8x1024, .f32⟩

abbrev hbmTy0_1 (i : Nat) : BufTy := match i % 128 with
  | 0 => ⟨S128x8x1, .f32⟩
  | 1 => ⟨S_, .f32⟩
  | 2 => ⟨S128x8x1, .f32⟩
  | 3 => ⟨S128x8x1, .f32⟩
  | 4 => ⟨S128x8x1, .f32⟩
  | 5 => ⟨S128x8x1024, .f32⟩
  | 6 => ⟨S128x8x1024, .f32⟩
  | 7 => ⟨S1x1x1024, .f32⟩
  | 8 => ⟨S128x8x1024, .f32⟩
  | 9 => ⟨S128x8x1024, .f32⟩
  | 10 => ⟨S8x128x1024, .f32⟩
  | 11 => ⟨S1x1024x1024, .f32⟩
  | 12 => ⟨S128x2x2816, .f32⟩
  | 13 => ⟨S2x128x2816, .f32⟩
  | 14 => ⟨S1x256x2816, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_11 : Ref sig .tc := ⟨.hbm, 111, rfl⟩
abbrev main_v82 : Ref sig .tc := ⟨.hbm, 112, rfl⟩
abbrev main_v83 : Ref sig .tc := ⟨.hbm, 113, rfl⟩
abbrev main_cst_12 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_13 : Ref sig .tc := ⟨.hbm, 123, rfl⟩
abbrev main_v92 : Ref sig .tc := ⟨.hbm, 124, rfl⟩
abbrev main_v93 : Ref sig .tc := ⟨.hbm, 125, rfl⟩
abbrev main_cst_14 : Ref sig .tc := ⟨.hbm, 126, rfl⟩
abbrev main_v94 : Ref sig .tc := ⟨.hbm, 127, rfl⟩
abbrev main_v95 : Ref sig .tc := ⟨.hbm, 128, rfl⟩
abbrev main_cst_15 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩

abbrev nD : Nat := 1
abbrev τ : Topo := Topo.v7x

variable {F : FTy → Type} [FloatOps F]
-- ==== Proof.Online.lean ====
/-
  The online softmax over the extended reals: a running maximum and a sum of weighted exponentials taken
  relative to it, extended by one block of keys at a time, is the sum over all the keys taken relative to
  the final maximum.  Nothing here mentions a program.
-/
module

public import Idealize.ShloMosaic.PureOps.Ideal
public import Mathlib.Data.EReal.Operations
public import Mathlib.Data.EReal.Inv
public import Mathlib.Algebra.BigOperators.Intervals
public import Mathlib.Data.Finset.Lattice.Fold

@[expose] public section

noncomputable section

namespace Cert.Online

open Idealize.ShloMosaic

/-- The largest of the first `n` scores (`⊥` of none). -/
def top (x : ℕ → EReal) (n : ℕ) : EReal := (Finset.range n).sup x

/-- The first `n` values weighted by `2 ^ (x s − top)`, summed. -/
def wsum (x v : ℕ → EReal) (n : ℕ) : EReal :=
  ∑ s ∈ Finset.range n, v s * Ideal.exp2 (x s - top x n)

variable {x v : ℕ → EReal}

theorem exp2_nonneg (a : EReal) : 0 ≤ Ideal.exp2 a := by
  induction a with
  | bot => simp
  | top => simp
  | coe r => rw [Ideal.exp2_coe]; exact EReal.coe_nonneg.mpr (Real.rpow_nonneg (by norm_num) _)

theorem exp2_ne_top {a : EReal} (h : a ≠ ⊤) : Ideal.exp2 a ≠ ⊤ := by
  induction a with
  | bot => simp
  | top => exact absurd rfl h
  | coe r => rw [Ideal.exp2_coe]; exact EReal.coe_ne_top _

theorem sub_ne_top {a b : EReal} (ha : a ≠ ⊤) (hb : b ≠ ⊥) : a - b ≠ ⊤ := by
  induction a with
  | bot => simp
  | top => exact absurd rfl ha
  | coe r =>
    induction b with
    | bot => exact absurd rfl hb
    | top => simp
    | coe q => rw [← EReal.coe_sub]; exact EReal.coe_ne_top _

theorem top_ne_top (hx : ∀ s, x s ≠ ⊤) (n : ℕ) : top x n ≠ ⊤ := by
  unfold top
  refine ne_of_lt ((Finset.sup_lt_iff bot_lt_top).mpr fun s _ => lt_top_iff_ne_top.mpr (hx s))

theorem le_top {s n : ℕ} (h : s < n) : x s ≤ top x n := Finset.le_sup (f := x) (Finset.mem_range.mpr h)

theorem top_mono {m n : ℕ} (h : m ≤ n) : top x m ≤ top x n :=
  Finset.sup_mono (Finset.range_mono h)

/-- Rescaling one weight from an older maximum to a newer one. -/
theorem exp2_rescale {a m m' : EReal} (ha : a ≤ m) (hm : m ≤ m') (h' : m' ≠ ⊤) (hb : m' ≠ ⊥) :
    Ideal.exp2 (m - m') * Ideal.exp2 (a - m) = Ideal.exp2 (a - m') := by
  induction a with
  | bot => simp
  | top => exact absurd (top_le_iff.mp (ha.trans hm)) h'
  | coe r =>
    induction m with
    | bot => exact absurd (le_bot_iff.mp ha) (EReal.coe_ne_bot r)
    | top => exact absurd (top_le_iff.mp hm) h'
    | coe q =>
      induction m' with
      | bot => exact absurd rfl hb
      | top => exact absurd rfl h'
      | coe p =>
        rw [← EReal.coe_sub, ← EReal.coe_sub, ← EReal.coe_sub, Ideal.exp2_coe, Ideal.exp2_coe, Ideal.exp2_coe,
          ← EReal.coe_mul]
        congr 1
        show (2 : ℝ) ^ (q - p) * (2 : ℝ) ^ (r - q) = (2 : ℝ) ^ (r - p)
        rw [← Real.rpow_add (by norm_num)]; congr 1; ring

/-- A nonnegative finite factor goes into a sum. -/
theorem mul_sum {ι : Type} (c : EReal) (h0 : 0 ≤ c) (ht : c ≠ ⊤) (S : Finset ι) (f : ι → EReal) :
    c * ∑ s ∈ S, f s = ∑ s ∈ S, c * f s := by
  classical
  induction S using Finset.induction_on with
  | empty => simp
  | insert a S ha ih =>
    rw [Finset.sum_insert ha, Finset.sum_insert ha, EReal.left_distrib_of_nonneg_of_ne_top h0 ht, ih]

/-- The maximum after one more block of `b` scores. -/
theorem top_add (n b : ℕ) :
    top x (n + b) = max (top x n) (Finset.univ.fold max ⊥ fun k : Fin b => x (n + k)) := by
  have e : (Finset.univ.fold max ⊥ fun k : Fin b => x (n + k)) = Finset.univ.sup fun k : Fin b => x (n + k) := rfl
  rw [e]
  apply le_antisymm
  · unfold top
    refine Finset.sup_le fun s hs => ?_
    rw [Finset.mem_range] at hs
    by_cases h : s < n
    · exact le_max_of_le_left (Finset.le_sup (f := x) (Finset.mem_range.mpr h))
    · refine le_max_of_le_right ?_
      have := Finset.le_sup (f := fun k : Fin b => x (n + k)) (Finset.mem_univ (⟨s - n, by omega⟩ : Fin b))
      simpa [show n + (s - n) = s by omega] using this
  · refine max_le (top_mono (by omega)) (Finset.sup_le fun k _ => le_top (by omega))

/-- The weighted sum after one more block: the old one rescaled, and the block's own weighted by the new maximum. -/
theorem wsum_add (hx : ∀ s, x s ≠ ⊤) (n b : ℕ) (hb : top x (n + b) ≠ ⊥) :
    wsum x v (n + b) = Ideal.exp2 (top x n - top x (n + b)) * wsum x v n
      + ∑ k : Fin b, v (n + k) * Ideal.exp2 (x (n + k) - top x (n + b)) := by
  have hm' := top_ne_top hx (n + b)
  have hle : top x n ≤ top x (n + b) := top_mono (by omega)
  unfold wsum
  rw [Finset.sum_range_add, mul_sum _ (exp2_nonneg _) (exp2_ne_top (sub_ne_top (top_ne_top hx n) hb)),
    Finset.sum_range (fun k => v (n + k) * Ideal.exp2 (x (n + k) - top x (n + b)))]
  congr 1
  refine Finset.sum_congr rfl fun s hs => ?_
  rw [mul_left_comm, exp2_rescale (le_top (Finset.mem_range.mp hs)) hle hm' hb]

/-- A block of masked scores (all `⊥`) changes nothing. -/
theorem top_add_bot (n b : ℕ) (h : ∀ k < b, x (n + k) = ⊥) : top x (n + b) = top x n := by
  refine le_antisymm ?_ (top_mono (by omega))
  unfold top
  refine Finset.sup_le fun s hs => ?_
  rw [Finset.mem_range] at hs
  by_cases hn : s < n
  · exact Finset.le_sup (f := x) (Finset.mem_range.mpr hn)
  · rw [show s = n + (s - n) by omega, h _ (by omega)]; exact bot_le

theorem wsum_add_bot (n b : ℕ) (h : ∀ k < b, x (n + k) = ⊥) : wsum x v (n + b) = wsum x v n := by
  unfold wsum
  rw [top_add_bot n b h, Finset.sum_range_add, Finset.sum_eq_zero (s := Finset.range b), add_zero]
  intro k hk
  rw [h k (Finset.mem_range.mp hk)]
  simp

theorem top_zero : top x 0 = ⊥ := rfl
theorem wsum_zero : wsum x v 0 = 0 := rfl

theorem top_ne_bot {n s : ℕ} (hs : s < n) (h : x s ≠ ⊥) : top x n ≠ ⊥ :=
  fun e => h (le_bot_iff.mp (e ▸ le_top hs))

/-! ## The quotient is the softmax average -/

variable (x v)

/-- Scores scaled by `c`, weighted by natural exponentials relative to their maximum. -/
def nat (c : ℝ) (n : ℕ) (s : ℕ) : EReal := Ideal.exp (x s * (c : EReal) - (Finset.range n).sup fun s => x s * (c : EReal))

variable {x v}

theorem sup_mul {c : ℝ} (hc : 0 < c) (n : ℕ) :
    ((Finset.range n).sup fun s => x s * (c : EReal)) = top x n * (c : EReal) := by
  unfold top
  have h := Finset.comp_sup_eq_sup_comp_of_is_total (s := Finset.range n) (f := x) (fun a : EReal => a * (c : EReal))
    (fun a b hab => mul_le_mul_of_nonneg_right hab (EReal.coe_nonneg.mpr hc.le)) (by
      show (⊥ : EReal) * (c : EReal) = ⊥
      exact EReal.bot_mul_coe_of_pos hc)
  exact h.symm

theorem nat_eq (hx : ∀ s, x s ≠ ⊤) {n : ℕ} (hb : top x n ≠ ⊥) (s : ℕ) :
    nat x (Real.log 2) n s = Ideal.exp2 (x s - top x n) := by
  have hc : 0 < Real.log 2 := Real.log_pos (by norm_num)
  unfold nat
  rw [sup_mul hc]
  have hm := top_ne_top hx n
  generalize top x n = m at *
  have hxs := hx s
  generalize x s = a at *
  induction m with
  | bot => exact absurd rfl hb
  | top => exact absurd rfl hm
  | coe p =>
    induction a with
    | bot => rw [EReal.bot_mul_coe_of_pos hc]; simp
    | top => exact absurd rfl hxs
    | coe r =>
      rw [← EReal.coe_mul, ← EReal.coe_mul, ← EReal.coe_sub, ← EReal.coe_sub, Ideal.exp_coe, Ideal.exp2_coe]
      congr 1
      show _ = (2 : ℝ) ^ (r - p)
      rw [Real.rpow_def_of_pos (by norm_num)]; congr 1; ring

/-- The accumulated values over the accumulated weights is the average of the values under the softmax of the
    scores times `log 2`. -/
theorem quotient (hx : ∀ s, x s ≠ ⊤) {n s₀ : ℕ} (hs : s₀ < n) (h₀ : x s₀ ≠ ⊥) :
    Ideal.div (wsum x v n) (wsum x (fun _ => 1) n)
      = ∑ s ∈ Finset.range n, v s * Ideal.div (nat x (Real.log 2) n s) (∑ s ∈ Finset.range n, nat x (Real.log 2) n s) := by
  have hb := top_ne_bot hs h₀
  have hm := top_ne_top hx n
  simp only [nat_eq hx hb]
  unfold wsum
  simp only [one_mul]
  have hreal : ∀ s, ∃ r : ℝ, 0 ≤ r ∧ Ideal.exp2 (x s - top x n) = (r : EReal) := fun s => by
    have h1 := exp2_nonneg (x s - top x n)
    have h2 := exp2_ne_top (sub_ne_top (hx s) hb)
    lift Ideal.exp2 (x s - top x n) to ℝ using ⟨h2, fun e => by rw [e] at h1; exact absurd h1 (by simp)⟩ with r hr
    exact ⟨r, EReal.coe_nonneg.mp h1, rfl⟩
  choose e he0 he using hreal
  have hpos : 0 < e s₀ := by
    have : Ideal.exp2 (x s₀ - top x n) ≠ 0 := by
      have hxt := hx s₀
      generalize top x n = m at *
      generalize x s₀ = a at *
      induction a with
      | bot => exact absurd rfl h₀
      | top => exact absurd rfl hxt
      | coe r =>
        induction m with
        | bot => exact absurd rfl hb
        | top => exact absurd rfl hm
        | coe p =>
          rw [← EReal.coe_sub, Ideal.exp2_coe, ← EReal.coe_zero]
          exact fun h => (Real.rpow_pos_of_pos (by norm_num : (0 : ℝ) < 2) (r - p)).ne' (EReal.coe_injective h)
    rw [he, ← EReal.coe_zero] at this
    exact lt_of_le_of_ne (he0 _) fun h => this (by rw [← h])
  simp only [he]
  have hsum : (∑ s ∈ Finset.range n, (e s : EReal)) = ((∑ s ∈ Finset.range n, e s : ℝ) : EReal) :=
    (map_sum (⟨⟨Real.toEReal, EReal.coe_zero⟩, EReal.coe_add⟩ : ℝ →+ EReal) e (Finset.range n)).symm
  rw [hsum]
  have hL : 0 < ∑ s ∈ Finset.range n, e s :=
    Finset.sum_pos' (fun s _ => he0 s) ⟨s₀, Finset.mem_range.mpr hs, hpos⟩
  generalize (∑ s ∈ Finset.range n, e s) = L at hL
  have hd : ∀ a : EReal, Ideal.div a (L : EReal) = ((L⁻¹ : ℝ) : EReal) * a := fun a => by
    unfold Ideal.div
    rw [if_neg (by rw [← EReal.coe_zero]; exact fun h => hL.ne' (EReal.coe_injective h)), mul_comm, EReal.coe_inv]
  rw [hd, mul_sum _ (EReal.coe_nonneg.mpr (inv_nonneg.mpr hL.le)) (EReal.coe_ne_top _)]
  refine Finset.sum_congr rfl fun s _ => ?_
  rw [hd, mul_left_comm]

end Cert.Online

end
-- ==== Proof.Blocks.lean ====
/-
  One tile of queries of the causal attention, as mathematics: the scores of a query column against every key
  (masked past the query's own position), and how one block of 512 keys moves the running maximum and the running
  weighted sums on.  Two kinds of block occur: one whose keys all lie before the tile, and one on the diagonal,
  which touches only the columns from its first key on.
-/
module

public import proofs.«01_k».proof.Proof.Online
public import proofs.«01_k».proof.KernelIdeal
public import Idealize.ShloMosaic.Lib.Pointwise

@[expose] public section

noncomputable section

namespace Cert.Attn

open Idealize.ShloMosaic Cert.KernelIdeal Cert.Online

/-- The blocks one grid point reads: two heads' queries of one tile, and all their keys and values. -/
structure Blk where
  q : Vec Ideal S1x2x128x2048 .bf16
  k : Vec Ideal S1x2x16384x128 .bf16
  v : Vec Ideal S1x2x32x80x512 .bf16

variable (b : Blk)

/-- Key `s` of head `h` against query column `t`. -/
def Blk.dot (h : Fin 2) (t : Fin 2048) (s : ℕ) : EReal :=
  ∑ d : Fin 128, b.k (ix4 0 h ⟨s % 16384, Nat.mod_lt _ (by norm_num)⟩ d) * b.q (ix4 0 h d t)

/-- Row `r` of the values of key `s` of head `h`. -/
def Blk.val (h : Fin 2) (r : Fin 80) (s : ℕ) : EReal :=
  b.v (ix5 0 h ⟨s / 512 % 32, Nat.mod_lt _ (by norm_num)⟩ r ⟨s % 512, Nat.mod_lt _ (by norm_num)⟩)

/-- The masked score: column `t` of tile `q` sees the keys up to position `2048 q + t`. -/
def Blk.score (q : ℕ) (h : Fin 2) (t : Fin 2048) (s : ℕ) : EReal :=
  if s ≤ 2048 * q + t then b.dot h t s else ⊥

/-- Every score is a real number. -/
def Blk.Finite : Prop := ∀ h t s, b.dot h t s ≠ ⊤ ∧ b.dot h t s ≠ ⊥

/-- The running maximum `m` and the running weighted sums `a` after the first `n` keys. -/
structure After (q : ℕ) (h : Fin 2) (n : ℕ) (m : Fin 2048 → EReal) (a : Fin 80 → Fin 2048 → EReal) : Prop where
  max_eq : ∀ t, m t = top (b.score q h t) n
  sum_eq : ∀ r t, a r t = wsum (b.score q h t) (b.val h r) n

variable {b}

theorem Blk.Finite.score_ne_top (hb : b.Finite) (q : ℕ) (h : Fin 2) (t : Fin 2048) (s : ℕ) : b.score q h t s ≠ ⊤ := by
  unfold Blk.score
  split
  · exact (hb h t s).1
  · exact bot_ne_top

theorem Blk.Finite.score_ne_bot (hb : b.Finite) {q : ℕ} {h : Fin 2} {t : Fin 2048} {s : ℕ} (hs : s ≤ 2048 * q + t) :
    b.score q h t s ≠ ⊥ := by
  unfold Blk.score
  rw [if_pos hs]; exact (hb h t s).2

/-- Before any key. -/
theorem After.zero (q : ℕ) (h : Fin 2) : After b q h 0 (fun _ => ⊥) (fun _ _ => 0) := ⟨fun _ => rfl, fun _ _ => rfl⟩

/-- The new maximum of one column: the old one against a block's scores. -/
def newMax (m : EReal) (S : Fin 512 → EReal) : EReal := max m (Finset.univ.fold max ⊥ S)

/-- The new weighted sum of one column: the old one rescaled, and the block's. -/
def newSum (m a : EReal) (S V : Fin 512 → EReal) : EReal :=
  Ideal.exp2 (m - newMax m S) * a + ∑ k, V k * Ideal.exp2 (S k - newMax m S)

/-- One column moved on by a block that holds the next 512 scores and values. -/
theorem column (hb : b.Finite) {q : ℕ} {h : Fin 2} {n : ℕ} {t : Fin 2048} {m : EReal} (hm : m = top (b.score q h t) n)
    (hn : n ≤ 2048 * q + t) {S : Fin 512 → EReal} (hS : ∀ k : Fin 512, S k = b.score q h t (n + k)) :
    newMax m S = top (b.score q h t) (n + 512) ∧
    ∀ (r : Fin 80) (a : EReal) (V : Fin 512 → EReal), a = wsum (b.score q h t) (b.val h r) n →
      (∀ k : Fin 512, V k = b.val h r (n + k)) → newSum m a S V = wsum (b.score q h t) (b.val h r) (n + 512) := by
  have hx := hb.score_ne_top q h t
  have e : newMax m S = top (b.score q h t) (n + 512) := by
    unfold newMax; rw [top_add, hm]; congr 1; exact congrArg (Finset.univ.fold max ⊥) (funext hS)
  refine ⟨e, fun r a V ha hV => ?_⟩
  unfold newSum
  rw [e, wsum_add hx n 512 (top_ne_bot (s := n) (by omega) (hb.score_ne_bot hn)), hm, ha]
  simp only [hS, hV]

/-- A block of keys before the tile moves every column on. -/
theorem After.full (hb : b.Finite) {q : ℕ} {h : Fin 2} {n : ℕ} {m : Fin 2048 → EReal} {a : Fin 80 → Fin 2048 → EReal}
    (H : After b q h n m a) (hn : n + 512 ≤ 2048 * q) {S : Fin 512 → Fin 2048 → EReal} {V : Fin 80 → Fin 512 → EReal}
    (hS : ∀ k t, S k t = b.dot h t (n + k)) (hV : ∀ r k, V r k = b.val h r (n + k)) :
    After b q h (n + 512) (fun t => newMax (m t) fun k => S k t)
      (fun r t => newSum (m t) (a r t) (fun k => S k t) (V r)) := by
  have key := fun t : Fin 2048 => column hb (H.max_eq t) (by omega) (S := fun k => S k t) (fun k => by
    unfold Blk.score; rw [if_pos (by omega), hS])
  exact ⟨fun t => (key t).1, fun r t => (key t).2 r _ _ (H.sum_eq r t) (hV r)⟩

/-- A block on the diagonal, `o` columns into the tile: it moves the columns from `o` on, its later keys masked
    in each, and leaves the columns before `o` alone. -/
theorem After.diag (hb : b.Finite) {q : ℕ} {h : Fin 2} {n o w : ℕ} (hw : o + w = 2048) (hn : n = 2048 * q + o)
    {m : Fin 2048 → EReal} {a : Fin 80 → Fin 2048 → EReal} (H : After b q h n m a)
    {S : Fin 512 → Fin w → EReal} {V : Fin 80 → Fin 512 → EReal}
    (hS : ∀ k u, S k u = if k.val ≤ u.val then b.dot h ⟨o + u, by omega⟩ (n + k) else ⊥)
    (hV : ∀ r k, V r k = b.val h r (n + k))
    {m' : Fin 2048 → EReal} {a' : Fin 80 → Fin 2048 → EReal}
    (hm0 : ∀ t, t.val < o → m' t = m t) (ha0 : ∀ r t, t.val < o → a' r t = a r t)
    (hm1 : ∀ u : Fin w, m' ⟨o + u, by omega⟩ = newMax (m ⟨o + u, by omega⟩) fun k => S k u)
    (ha1 : ∀ r (u : Fin w), a' r ⟨o + u, by omega⟩
      = newSum (m ⟨o + u, by omega⟩) (a r ⟨o + u, by omega⟩) (fun k => S k u) (V r)) :
    After b q h (n + 512) m' a' := by
  have key := fun u : Fin w => column hb (H.max_eq ⟨o + u, by omega⟩) (by dsimp only; omega) (S := fun k => S k u) (fun k => by
    unfold Blk.score; rw [hS]
    by_cases hk : k.val ≤ u.val
    · rw [if_pos hk, if_pos (by dsimp only; omega)]
    · rw [if_neg hk, if_neg (by dsimp only; omega)])
  have bot : ∀ t : Fin 2048, t.val < o → ∀ k < 512, b.score q h t (n + k) = ⊥ := fun t ht k _ => by
    unfold Blk.score; rw [if_neg (by omega)]
  have hu : ∀ t : Fin 2048, ¬t.val < o → ∃ u : Fin w, t = ⟨o + u, by omega⟩ := fun t ht =>
    ⟨⟨t.val - o, by omega⟩, Fin.ext (by dsimp only; omega)⟩
  constructor
  · intro t
    by_cases ht : t.val < o
    · rw [hm0 t ht, H.max_eq, top_add_bot n 512 (bot t ht)]
    · obtain ⟨u, rfl⟩ := hu t ht
      rw [hm1 u]; exact (key u).1
  · intro r t
    by_cases ht : t.val < o
    · rw [ha0 r t ht, H.sum_eq, wsum_add_bot n 512 (bot t ht)]
    · obtain ⟨u, rfl⟩ := hu t ht
      rw [ha1 r u]; exact (key u).2 r _ _ (H.sum_eq r _) (hV r)

/-- The keys past the tile are masked in every column: the sums over the tile's keys are the sums over all. -/
theorem After.all {q : ℕ} (hq : q < 8) {h : Fin 2} {m : Fin 2048 → EReal} {a : Fin 80 → Fin 2048 → EReal}
    (H : After b q h (2048 * q + 2048) m a) : After b q h 16384 m a := by
  have e : 16384 = 2048 * q + 2048 + (16384 - (2048 * q + 2048)) := by omega
  have bot : ∀ t : Fin 2048, ∀ k < 16384 - (2048 * q + 2048), b.score q h t (2048 * q + 2048 + k) = ⊥ := fun t k _ => by
    unfold Blk.score; rw [if_neg (by omega)]
  constructor
  · intro t; rw [H.max_eq, e, top_add_bot _ _ (bot t)]
  · intro r t; rw [H.sum_eq, e, wsum_add_bot _ _ (bot t)]

end Cert.Attn

end
-- ==== Proof.Ops.lean ====
/-
  The vector operations a block of keys is folded in with, each at an index: a row cast, a row broadcast down the
  columns, a column maximum, and the two matrix products.
-/
module

public import proofs.«01_k».proof.Proof.Blocks
public import proofs.«01_k».proof.Proof.Gen.KernelIdeal.Skeleton
public import Idealize.ShloMosaic.Lib.Pointwise
public import Idealize.ShloMosaic.Lib.WordCmp

@[expose] public section

set_option maxRecDepth 16384

noncomputable section

namespace Cert.Attn

open Idealize.ShloMosaic Idealize.ShloMosaic.TcCoe Cert.KernelIdeal Cert.KernelIdeal.Gen

/-- The pattern the maxima start from is −∞. -/
theorem negInf : Ideal.ofBits .f32 0xFF800000#32 = ⊥ := by
  simp [Ideal.ofBits, Ideal.ieee]

/-- The named mask is −∞. -/
theorem mask_eq : Named.named (F := Ideal) κ "mask" (φ := .f32) 0xF149F2CA#32 = ⊥ := by
  show (κ "mask").getD _ = _
  have h : κ "mask" = some ⊥ := by simp [κ]
  rw [h, Option.getD_some]

/-- The causal selection: key `k` of a block against column `u`. -/
theorem select_le {α : Type} {k u : ℕ} (hk : k < 2048) (hu : u < 2048) (x y : α) :
    Scalar.select (IntOp.cmpi .sle (BitVec.ofNat 32 k) (BitVec.ofNat 32 u)) x y = if k ≤ u then x else y := by
  rw [WordCmp.cmpi_sle_ofNat (by omega) (by omega)]
  by_cases h : k ≤ u <;> simp [h, Scalar.select]

variable {w : ℕ}

/-- A vector of `w` cast to a row. -/
theorem row_cast (y : FVec Ideal ⟨1, ![w]⟩ .f32) (hc) (t : Fin w) :
    shapeCast ⟨2, ![1, w]⟩ y hc (ix2 0 t) = y (ix1 t) :=
  congrArg y (Shape.reshapeEquiv_eq_of_rowMajor _ (by
    rw [Shape.rowMajor_val_two, Shape.rowMajor_val_one]
    show t.val = 0 * w + t.val
    omega))

/-- The maximum down a column. -/
theorem colMax (x : FVec Ideal ⟨2, ![512, w]⟩ .f32) (h) (hφ) (hacc) (t : Fin w) :
    multiReduction .maximumf [0] ⟨1, ![w]⟩ x 0xFF800000#32 h hφ hacc (ix1 t)
      = Finset.univ.fold max (Ideal.ofBits .f32 0xFF800000#32) fun k => x (ix2 k t) := by
  pointwise

/-- The new maxima, of a block's scores. -/
theorem rowMax (m : FVec Ideal ⟨2, ![1, w]⟩ .f32) (x : FVec Ideal ⟨2, ![512, w]⟩ .f32) (h) (hφ) (hacc) (hc) (t : Fin w) :
    maximumf m (shapeCast ⟨2, ![1, w]⟩ (multiReduction .maximumf [0] ⟨1, ![w]⟩ x 0xFF800000#32 h hφ hacc) hc) (ix2 0 t)
      = newMax (m (ix2 0 t)) fun k => x (ix2 k t) := by
  show max (m (ix2 0 t)) _ = _
  rw [row_cast, colMax, negInf]
  rfl

/-- A row broadcast over `n` rows. -/
theorem row_bcast {n : ℕ} {φ : FTy} (y : FVec Ideal ⟨2, ![1, w]⟩ φ) (h) (r : Fin n) (t : Fin w) (hw : w ≠ 1) :
    broadcastTo ⟨2, ![n, w]⟩ y h (ix2 r t) = y (ix2 0 t) := by
  refine congrArg y (funext fun a => Fin.ext ?_)
  match a with
  | ⟨0, _⟩ => simp
  | ⟨1, _⟩ => simp [hw]

/-- The weighted sums of a block of values, at the four widths. -/
theorem matV2048 (V : FVec Ideal S1x1x1x80x512 .bf16) (P : FVec Ideal S512x2048 .bf16) (hc) (r : Fin 80) (t : Fin 2048) :
    matmul (F := Ideal) (φ₁ := .bf16) (φ₂ := .bf16) dot_S80x512_S512x2048_S80x2048_1_0_0_1_n_n none (shapeCast S80x512 V hc) P (constant S80x2048 .f32 0x00000000#32) (ix2 r t)
      = ∑ k, V (ix5 0 0 0 r k) * P (ix2 k t) := by
  pointwise [dot_S80x512_S512x2048_S80x2048_1_0_0_1_n_n]
theorem matV1536 (V : FVec Ideal S1x1x1x80x512 .bf16) (P : FVec Ideal S512x1536 .bf16) (hc) (r : Fin 80) (t : Fin 1536) :
    matmul (F := Ideal) (φ₁ := .bf16) (φ₂ := .bf16) dot_S80x512_S512x1536_S80x1536_1_0_0_1_n_n none (shapeCast S80x512 V hc) P (constant S80x1536 .f32 0x00000000#32) (ix2 r t)
      = ∑ k, V (ix5 0 0 0 r k) * P (ix2 k t) := by
  pointwise [dot_S80x512_S512x1536_S80x1536_1_0_0_1_n_n]
theorem matV1024 (V : FVec Ideal S1x1x1x80x512 .bf16) (P : FVec Ideal S512x1024 .bf16) (hc) (r : Fin 80) (t : Fin 1024) :
    matmul (F := Ideal) (φ₁ := .bf16) (φ₂ := .bf16) dot_S80x512_S512x1024_S80x1024_1_0_0_1_n_n none (shapeCast S80x512 V hc) P (constant S80x1024 .f32 0x00000000#32) (ix2 r t)
      = ∑ k, V (ix5 0 0 0 r k) * P (ix2 k t) := by
  pointwise [dot_S80x512_S512x1024_S80x1024_1_0_0_1_n_n]
theorem matV512 (V : FVec Ideal S1x1x1x80x512 .bf16) (P : FVec Ideal S512x512 .bf16) (hc) (r : Fin 80) (t : Fin 512) :
    matmul (F := Ideal) (φ₁ := .bf16) (φ₂ := .bf16) dot_S80x512_S512x512_S80x512_1_0_0_1_n_n none (shapeCast S80x512 V hc) P (constant S80x512 .f32 0x00000000#32) (ix2 r t)
      = ∑ k, V (ix5 0 0 0 r k) * P (ix2 k t) := by
  pointwise [dot_S80x512_S512x512_S80x512_1_0_0_1_n_n]

/-- The scores of a block of keys, at the four widths. -/
theorem matS2048 (K : FVec Ideal S1x1x512x128 .bf16) (Q : FVec Ideal S1x1x128x2048 .bf16) (hk hq) (k : Fin 512) (t : Fin 2048) :
    matmul (F := Ideal) (φ₁ := .bf16) (φ₂ := .bf16) dot_S512x128_S128x2048_S512x2048_1_0_0_1_n_n none (shapeCast S512x128 K hk) (shapeCast S128x2048 Q hq)
        (constant S512x2048 .f32 0x00000000#32) (ix2 k t)
      = ∑ d, K (ix4 0 0 k d) * Q (ix4 0 0 d t) := by
  pointwise [dot_S512x128_S128x2048_S512x2048_1_0_0_1_n_n]
theorem matS1536 (K : FVec Ideal S1x1x512x128 .bf16) (Q : FVec Ideal S1x1x128x1536 .bf16) (hk hq) (k : Fin 512) (t : Fin 1536) :
    matmul (F := Ideal) (φ₁ := .bf16) (φ₂ := .bf16) dot_S512x128_S128x1536_S512x1536_1_0_0_1_n_n none (shapeCast S512x128 K hk) (shapeCast S128x1536 Q hq)
        (constant S512x1536 .f32 0x00000000#32) (ix2 k t)
      = ∑ d, K (ix4 0 0 k d) * Q (ix4 0 0 d t) := by
  pointwise [dot_S512x128_S128x1536_S512x1536_1_0_0_1_n_n]
theorem matS1024 (K : FVec Ideal S1x1x512x128 .bf16) (Q : FVec Ideal S1x1x128x1024 .bf16) (hk hq) (k : Fin 512) (t : Fin 1024) :
    matmul (F := Ideal) (φ₁ := .bf16) (φ₂ := .bf16) dot_S512x128_S128x1024_S512x1024_1_0_0_1_n_n none (shapeCast S512x128 K hk) (shapeCast S128x1024 Q hq)
        (constant S512x1024 .f32 0x00000000#32) (ix2 k t)
      = ∑ d, K (ix4 0 0 k d) * Q (ix4 0 0 d t) := by
  pointwise [dot_S512x128_S128x1024_S512x1024_1_0_0_1_n_n]
theorem matS512 (K : FVec Ideal S1x1x512x128 .bf16) (Q : FVec Ideal S1x1x128x512 .bf16) (hk hq) (k : Fin 512) (t : Fin 512) :
    matmul (F := Ideal) (φ₁ := .bf16) (φ₂ := .bf16) dot_S512x128_S128x512_S512x512_1_0_0_1_n_n none (shapeCast S512x128 K hk) (shapeCast S128x512 Q hq)
        (constant S512x512 .f32 0x00000000#32) (ix2 k t)
      = ∑ d, K (ix4 0 0 k d) * Q (ix4 0 0 d t) := by
  pointwise [dot_S512x128_S128x512_S512x512_1_0_0_1_n_n]

/-- The masked scores of a block on the diagonal. -/
theorem masked (X : FVec Ideal ⟨2, ![512, w]⟩ .f32) (h0) (h1) (k : Fin 512) (u : Fin w) (hw : w ≤ 2048) :
    select (cmpi .sle (iota .tc ⟨2, ![512, w]⟩ 32 [0] h0) (iota .tc ⟨2, ![512, w]⟩ 32 [1] h1)) X
        (broadcast ⟨2, ![512, w]⟩ (Named.named (F := Ideal) κ "mask" (φ := .f32) 0xF149F2CA#32)) (ix2 k u)
      = if k.val ≤ u.val then X (ix2 k u) else ⊥ := by
  pointwise
  rw [mask_eq]
  exact select_le (by omega) (by omega) _ _

/-- The new weighted sums, of a block's scores and values: the old ones rescaled, and the block's. -/
theorem accSum (m mm : FVec Ideal ⟨2, ![1, w]⟩ .f32) (S : FVec Ideal ⟨2, ![512, w]⟩ .f32) (A M : FVec Ideal ⟨2, ![80, w]⟩ .f32)
    (V : FVec Ideal S1x1x1x80x512 .bf16) (h80) (r : Fin 80) (t : Fin w) (hw : w ≠ 1)
    (hm : mm (ix2 0 t) = newMax (m (ix2 0 t)) fun k => S (ix2 k t))
    (hM : M (ix2 r t) = ∑ k, V (ix5 0 0 0 r k) * Ideal.exp2 (S (ix2 k t) - mm (ix2 0 t))) :
    addf (mulf (broadcastTo ⟨2, ![80, w]⟩ (exp2 (subf m mm)) h80) A) M (ix2 r t)
      = newSum (m (ix2 0 t)) (A (ix2 r t)) (fun k => S (ix2 k t)) fun k => V (ix5 0 0 0 r k) := by
  show broadcastTo ⟨2, ![80, w]⟩ (exp2 (subf m mm)) h80 (ix2 r t) * A (ix2 r t) + M (ix2 r t) = _
  rw [row_bcast _ _ _ _ hw, hM, hm]
  show Ideal.exp2 (m (ix2 0 t) - mm (ix2 0 t)) * _ + _ = _
  rw [hm]
  rfl

/-- A block's weights, of its scores and the new maxima. -/
theorem weight (mm : FVec Ideal ⟨2, ![1, w]⟩ .f32) (S : FVec Ideal ⟨2, ![512, w]⟩ .f32) (hb) (hl) (k : Fin 512) (t : Fin w)
    (hw : w ≠ 1) :
    truncf .bf16 (exp2 (subf S (broadcastTo ⟨2, ![512, w]⟩ mm hb))) hl (ix2 k t)
      = Ideal.exp2 (S (ix2 k t) - mm (ix2 0 t)) := by
  show Ideal.exp2 (S (ix2 k t) - broadcastTo ⟨2, ![512, w]⟩ mm hb (ix2 k t)) = _
  rw [row_bcast _ _ _ _ hw]

/-- The columns of a row from `o` on. -/
theorem row_slice {o : ℕ} (m : FVec Ideal S1x2048 .f32) (h) (u : Fin w) (ho : o + w = 2048) :
    extractStridedSlice ⟨2, ![1, w]⟩ ![0, o] m h (ix2 0 u) = m (ix2 0 ⟨o + u, by omega⟩) := by
  refine congrArg m (funext fun a => Fin.ext ?_)
  match a with
  | ⟨0, _⟩ => rfl
  | ⟨1, _⟩ => rfl

end Cert.Attn

end
-- ==== Proof.Payloads.lean ====
/-
  What each block of keys does to the running maximum and the running weighted sums of one head, in the kernel's own
  operations: a block before the tile (`trip_head0`, `trip_head1`), and the four blocks of the diagonal
  (`diag0_head0` … `diag3_head1`), each moving `After` on by 512 keys.
-/
module

public import proofs.«01_k».proof.Proof.Ops

@[expose] public section

set_option maxRecDepth 16384

noncomputable section

namespace Cert.Attn

open Idealize.ShloMosaic Idealize.ShloMosaic.TcCoe Cert.KernelIdeal Cert.KernelIdeal.Gen

/-- `K` holds the 512 keys of head `h` from key `n` on. -/
def IsKeys (b : Blk) (h : Fin 2) (n : ℕ) (K : Vec Ideal S1x1x512x128 .bf16) : Prop :=
  ∀ k d, K (ix4 0 0 k d) = b.k (ix4 0 h ⟨(n + k.val) % 16384, Nat.mod_lt _ (by norm_num)⟩ d)

/-- `V` holds the values of the 512 keys of head `h` from key `n` on. -/
def IsVals (b : Blk) (h : Fin 2) (n : ℕ) (V : Vec Ideal S1x1x1x80x512 .bf16) : Prop :=
  ∀ r k, V (ix5 0 0 0 r k) = b.val h r (n + k.val)

/-- `Q` holds the queries of head `h` from column `o` on. -/
def IsQueries (b : Blk) (h : Fin 2) (o : ℕ) {w : ℕ} (hw : o + w = 2048) (Q : FVec Ideal ⟨4, ![1, 1, 128, w]⟩ .bf16) : Prop :=
  ∀ d u, Q (ix4 0 0 d u) = b.q (ix4 0 h d ⟨o + u.val, by omega⟩)

theorem dot_of {b : Blk} {h : Fin 2} {n o w : ℕ} {hw : o + w = 2048} {K : Vec Ideal S1x1x512x128 .bf16}
    {Q : FVec Ideal ⟨4, ![1, 1, 128, w]⟩ .bf16} (hK : IsKeys b h n K) (hQ : IsQueries b h o hw Q) (k : Fin 512) (u : Fin w) :
    (∑ d : Fin 128, (K (ix4 0 0 k d) * Q (ix4 0 0 d u) : EReal)) = b.dot h ⟨o + u, by omega⟩ (n + k) :=
  Finset.sum_congr rfl fun d _ => by rw [hK, hQ]

/-! ### A block before the tile, head 0 -/

theorem trip_score0 (K : Vec Ideal S1x1x512x128 .bf16) (Q : Vec Ideal S1x1x128x2048 .bf16) (k : Fin 512) (t : Fin 2048) :
    k0_pay3 (F := Ideal) K Q (ix2 k t) = ∑ d : Fin 128, (K (ix4 0 0 k d) * Q (ix4 0 0 d t) : EReal) :=
  matS2048 K Q _ _ k t

theorem trip_max0 (m : FVec Ideal S1x2048 .f32) (K : Vec Ideal S1x1x512x128 .bf16) (Q : Vec Ideal S1x1x128x2048 .bf16) (t : Fin 2048) :
    k0_pay4 (F := Ideal) m K Q (ix2 0 t) = newMax (m (ix2 0 t)) fun k => k0_pay3 (F := Ideal) K Q (ix2 k t) :=
  rowMax m (k0_pay3 (F := Ideal) K Q) _ _ _ _ t

theorem trip_sum0 (m : FVec Ideal S1x2048 .f32) (K : Vec Ideal S1x1x512x128 .bf16) (Q : Vec Ideal S1x1x128x2048 .bf16)
    (A : Vec Ideal S80x2048 .f32) (V : Vec Ideal S1x1x1x80x512 .bf16) (r : Fin 80) (t : Fin 2048) :
    k0_pay5 (F := Ideal) m K Q A V (ix2 r t)
      = newSum (m (ix2 0 t)) (A (ix2 r t)) (fun k => k0_pay3 (F := Ideal) K Q (ix2 k t)) fun k => V (ix5 0 0 0 r k) := by
  unfold k0_pay5
  rw [shapeCast_id]
  refine accSum m (k0_pay4 (F := Ideal) m K Q) (k0_pay3 (F := Ideal) K Q) A _ V _ r t (by norm_num) (trip_max0 m K Q t) ?_
  rw [matV2048]
  refine Finset.sum_congr rfl fun k _ => ?_
  rw [weight _ _ _ _ _ _ (by norm_num)]

theorem trip_head0 {b : Blk} (hb : b.Finite) {q n : ℕ} {h : Fin 2} {m : FVec Ideal S1x2048 .f32} {A : Vec Ideal S80x2048 .f32}
    {K : Vec Ideal S1x1x512x128 .bf16} {Q : Vec Ideal S1x1x128x2048 .bf16} {V : Vec Ideal S1x1x1x80x512 .bf16}
    (H : After b q h n (fun t => m (ix2 0 t)) fun r t => A (ix2 r t)) (hn : n + 512 ≤ 2048 * q)
    (hK : IsKeys b h n K) (hQ : IsQueries b h 0 (w := 2048) rfl Q) (hV : IsVals b h n V) :
    After b q h (n + 512) (fun t => k0_pay4 (F := Ideal) m K Q (ix2 0 t)) fun r t => k0_pay5 (F := Ideal) m K Q A V (ix2 r t) := by
  have hS : ∀ k t, k0_pay3 (F := Ideal) K Q (ix2 k t) = b.dot h t (n + k) := fun k t => by
    rw [trip_score0, dot_of hK hQ]; congr 1; exact Fin.ext (by simp)
  simp only [trip_max0, trip_sum0]
  exact H.full hb hn hS hV

/-! ### A block before the tile, head 1 -/

theorem trip_score1 (K : Vec Ideal S1x1x512x128 .bf16) (Q : Vec Ideal S1x1x128x2048 .bf16) (k : Fin 512) (t : Fin 2048) :
    k0_pay14 (F := Ideal) (k0_pay6 K) Q (ix2 k t) = ∑ d : Fin 128, (K (ix4 0 0 k d) * Q (ix4 0 0 d t) : EReal) :=
  matS2048 K Q _ _ k t

theorem trip_max1 (m : FVec Ideal S1x2048 .f32) (K : Vec Ideal S1x1x512x128 .bf16) (Q : Vec Ideal S1x1x128x2048 .bf16) (t : Fin 2048) :
    k0_pay15 (F := Ideal) m (k0_pay6 K) Q (ix2 0 t) = newMax (m (ix2 0 t)) fun k => k0_pay14 (F := Ideal) (k0_pay6 K) Q (ix2 k t) :=
  rowMax m (k0_pay14 (F := Ideal) (k0_pay6 K) Q) _ _ _ _ t

theorem trip_sum1 (m : FVec Ideal S1x2048 .f32) (K : Vec Ideal S1x1x512x128 .bf16) (Q : Vec Ideal S1x1x128x2048 .bf16)
    (A : Vec Ideal S80x2048 .f32) (V : Vec Ideal S1x1x1x80x512 .bf16) (r : Fin 80) (t : Fin 2048) :
    k0_pay16 (F := Ideal) m (k0_pay6 K) Q A V (ix2 r t)
      = newSum (m (ix2 0 t)) (A (ix2 r t)) (fun k => k0_pay14 (F := Ideal) (k0_pay6 K) Q (ix2 k t)) fun k => V (ix5 0 0 0 r k) := by
  unfold k0_pay16
  rw [shapeCast_id]
  refine accSum m (k0_pay15 (F := Ideal) m (k0_pay6 K) Q) (k0_pay14 (F := Ideal) (k0_pay6 K) Q) A _ V _ r t (by norm_num) (trip_max1 m K Q t) ?_
  rw [matV2048]
  refine Finset.sum_congr rfl fun k _ => ?_
  rw [weight _ _ _ _ _ _ (by norm_num)]

theorem trip_head1 {b : Blk} (hb : b.Finite) {q n : ℕ} {h : Fin 2} {m : FVec Ideal S1x2048 .f32} {A : Vec Ideal S80x2048 .f32}
    {K : Vec Ideal S1x1x512x128 .bf16} {Q : Vec Ideal S1x1x128x2048 .bf16} {V : Vec Ideal S1x1x1x80x512 .bf16}
    (H : After b q h n (fun t => m (ix2 0 t)) fun r t => A (ix2 r t)) (hn : n + 512 ≤ 2048 * q)
    (hK : IsKeys b h n K) (hQ : IsQueries b h 0 (w := 2048) rfl Q) (hV : IsVals b h n V) :
    After b q h (n + 512) (fun t => k0_pay15 (F := Ideal) m (k0_pay6 K) Q (ix2 0 t)) fun r t => k0_pay16 (F := Ideal) m (k0_pay6 K) Q A V (ix2 r t) := by
  have hS : ∀ k t, k0_pay14 (F := Ideal) (k0_pay6 K) Q (ix2 k t) = b.dot h t (n + k) := fun k t => by
    rw [trip_score1, dot_of hK hQ]; congr 1; exact Fin.ext (by simp)
  simp only [trip_max1, trip_sum1]
  exact H.full hb hn hS hV

/-! ### Block 0 of the diagonal, head 0 -/

theorem score_d0h0 (K : Vec Ideal S1x1x512x128 .bf16) (Q : Vec Ideal S1x1x128x2048 .bf16) (k : Fin 512) (u : Fin 2048) :
    k0_pay23 (F := Ideal) (k0_pay20 K Q) k0_pay21 k0_pay22 (ix2 k u) = if k.val ≤ u.val then ∑ d : Fin 128, (K (ix4 0 0 k d) * Q (ix4 0 0 d u) : EReal) else ⊥ := by
  have e := matS2048 K Q shapeCasts_S1x1x512x128_S512x128 shapeCasts_S1x1x128x2048_S128x2048 k u
  rw [← e]
  exact masked _ _ _ k u (by norm_num)

theorem max_d0h0 (m : FVec Ideal S1x2048 .f32) (K : Vec Ideal S1x1x512x128 .bf16) (Q : Vec Ideal S1x1x128x2048 .bf16) (u : Fin 2048) :
    k0_pay24 (F := Ideal) m (k0_pay20 K Q) k0_pay21 k0_pay22 (ix2 0 u) = newMax (m (ix2 0 u)) fun k => k0_pay23 (F := Ideal) (k0_pay20 K Q) k0_pay21 k0_pay22 (ix2 k u) :=
  rowMax (m) (k0_pay23 (F := Ideal) (k0_pay20 K Q) k0_pay21 k0_pay22) _ _ _ _ u

theorem sum_d0h0 (m : FVec Ideal S1x2048 .f32) (K : Vec Ideal S1x1x512x128 .bf16) (Q : Vec Ideal S1x1x128x2048 .bf16)
    (A : Vec Ideal S80x2048 .f32) (V : Vec Ideal S1x1x1x80x512 .bf16) (r : Fin 80) (u : Fin 2048) :
    k0_pay25 (F := Ideal) m (k0_pay20 K Q) k0_pay21 k0_pay22 A V (ix2 r u)
      = newSum ((m) (ix2 0 u)) (A (ix2 r u)) (fun k => k0_pay23 (F := Ideal) (k0_pay20 K Q) k0_pay21 k0_pay22 (ix2 k u)) fun k => V (ix5 0 0 0 r k) := by
  unfold k0_pay25
  rw [shapeCast_id]
  refine accSum (m) (k0_pay24 (F := Ideal) m (k0_pay20 K Q) k0_pay21 k0_pay22) (k0_pay23 (F := Ideal) (k0_pay20 K Q) k0_pay21 k0_pay22) A _ V _ r u (by norm_num) (max_d0h0 m K Q u) ?_
  rw [matV2048]
  refine Finset.sum_congr rfl fun k _ => ?_
  rw [weight _ _ _ _ _ _ (by norm_num)]

theorem diag0_head0 {b : Blk} (hb : b.Finite) {q n : ℕ} (hn : n = 2048 * q + 0) {h : Fin 2} {m : FVec Ideal S1x2048 .f32}
    {A : Vec Ideal S80x2048 .f32} {K : Vec Ideal S1x1x512x128 .bf16} {Q : Vec Ideal S1x1x128x2048 .bf16} {V : Vec Ideal S1x1x1x80x512 .bf16}
    (hK : IsKeys b h n K) (hQ : IsQueries b h 0 (w := 2048) rfl Q) (hV : IsVals b h n V)
    (H : After b q h n (fun t => m (ix2 0 t)) fun r t => A (ix2 r t)) :
    After b q h (n + 512) (fun t => k0_pay24 (F := Ideal) m (k0_pay20 K Q) k0_pay21 k0_pay22 (ix2 0 t)) fun r t => k0_pay25 (F := Ideal) m (k0_pay20 K Q) k0_pay21 k0_pay22 A V (ix2 r t) := by
  have z : ∀ u : Fin 2048, (⟨0 + u.val, by omega⟩ : Fin 2048) = u := fun u => Fin.ext (Nat.zero_add _)
  refine H.diag hb (o := 0) (w := 2048) rfl hn (S := fun k u => k0_pay23 (F := Ideal) (k0_pay20 K Q) k0_pay21 k0_pay22 (ix2 k u)) (V := fun r k => V (ix5 0 0 0 r k))
    (fun k u => ?_) hV (fun t ht => absurd ht (by omega)) (fun r t ht => absurd ht (by omega)) (fun u => ?_) (fun r u => ?_)
  · rw [score_d0h0, dot_of hK hQ]
  · rw [z]; exact max_d0h0 m K Q u
  · rw [z]; exact sum_d0h0 m K Q A V r u

/-! ### Block 0 of the diagonal, head 1 -/

theorem score_d0h1 (K : Vec Ideal S1x1x512x128 .bf16) (Q : Vec Ideal S1x1x128x2048 .bf16) (k : Fin 512) (u : Fin 2048) :
    k0_pay26 (F := Ideal) K Q (ix2 k u) = if k.val ≤ u.val then ∑ d : Fin 128, (K (ix4 0 0 k d) * Q (ix4 0 0 d u) : EReal) else ⊥ := by
  have e := matS2048 K Q shapeCasts_S1x1x512x128_S512x128 shapeCasts_S1x1x128x2048_S128x2048 k u
  rw [← e]
  exact masked _ _ _ k u (by norm_num)

theorem max_d0h1 (m : FVec Ideal S1x2048 .f32) (K : Vec Ideal S1x1x512x128 .bf16) (Q : Vec Ideal S1x1x128x2048 .bf16) (u : Fin 2048) :
    k0_pay27 (F := Ideal) m K Q (ix2 0 u) = newMax (m (ix2 0 u)) fun k => k0_pay26 (F := Ideal) K Q (ix2 k u) :=
  rowMax (m) (k0_pay26 (F := Ideal) K Q) _ _ _ _ u

theorem sum_d0h1 (m : FVec Ideal S1x2048 .f32) (K : Vec Ideal S1x1x512x128 .bf16) (Q : Vec Ideal S1x1x128x2048 .bf16)
    (A : Vec Ideal S80x2048 .f32) (V : Vec Ideal S1x1x1x80x512 .bf16) (r : Fin 80) (u : Fin 2048) :
    k0_pay29 (F := Ideal) m (k0_pay27 m K Q) (k0_pay28 m K Q) A V (ix2 r u)
      = newSum ((m) (ix2 0 u)) (A (ix2 r u)) (fun k => k0_pay26 (F := Ideal) K Q (ix2 k u)) fun k => V (ix5 0 0 0 r k) := by
  unfold k0_pay28 k0_pay29
  rw [shapeCast_id]
  refine accSum (m) (k0_pay27 (F := Ideal) m K Q) (k0_pay26 (F := Ideal) K Q) A _ V _ r u (by norm_num) (max_d0h1 m K Q u) ?_
  rw [matV2048]
  refine Finset.sum_congr rfl fun k _ => ?_
  rw [weight _ _ _ _ _ _ (by norm_num)]

theorem diag0_head1 {b : Blk} (hb : b.Finite) {q n : ℕ} (hn : n = 2048 * q + 0) {h : Fin 2} {m : FVec Ideal S1x2048 .f32}
    {A : Vec Ideal S80x2048 .f32} {K : Vec Ideal S1x1x512x128 .bf16} {Q : Vec Ideal S1x1x128x2048 .bf16} {V : Vec Ideal S1x1x1x80x512 .bf16}
    (hK : IsKeys b h n K) (hQ : IsQueries b h 0 (w := 2048) rfl Q) (hV : IsVals b h n V)
    (H : After b q h n (fun t => m (ix2 0 t)) fun r t => A (ix2 r t)) :
    After b q h (n + 512) (fun t => k0_pay27 (F := Ideal) m K Q (ix2 0 t)) fun r t => k0_pay29 (F := Ideal) m (k0_pay27 m K Q) (k0_pay28 m K Q) A V (ix2 r t) := by
  have z : ∀ u : Fin 2048, (⟨0 + u.val, by omega⟩ : Fin 2048) = u := fun u => Fin.ext (Nat.zero_add _)
  refine H.diag hb (o := 0) (w := 2048) rfl hn (S := fun k u => k0_pay26 (F := Ideal) K Q (ix2 k u)) (V := fun r k => V (ix5 0 0 0 r k))
    (fun k u => ?_) hV (fun t ht => absurd ht (by omega)) (fun r t ht => absurd ht (by omega)) (fun u => ?_) (fun r u => ?_)
  · rw [score_d0h1, dot_of hK hQ]
  · rw [z]; exact max_d0h1 m K Q u
  · rw [z]; exact sum_d0h1 m K Q A V r u

/-! ### Block 1 of the diagonal, head 0 -/

theorem score_d1h0 (K : Vec Ideal S1x1x512x128 .bf16) (Q : Vec Ideal S1x1x128x1536 .bf16) (k : Fin 512) (u : Fin 1536) :
    k0_pay30 (F := Ideal) K Q (ix2 k u) = if k.val ≤ u.val then ∑ d : Fin 128, (K (ix4 0 0 k d) * Q (ix4 0 0 d u) : EReal) else ⊥ := by
  have e := matS1536 K Q shapeCasts_S1x1x512x128_S512x128 shapeCasts_S1x1x128x1536_S128x1536 k u
  rw [← e]
  exact masked _ _ _ k u (by norm_num)

theorem row_d1h0 (m : FVec Ideal S1x2048 .f32) (u : Fin 1536) : k0_pay31 (F := Ideal) m (ix2 0 u) = m (ix2 0 ⟨512 + u, by omega⟩) :=
  row_slice m slices_S1x2048_o0_512_S1x1536 u rfl

theorem max_d1h0 (m : FVec Ideal S1x2048 .f32) (K : Vec Ideal S1x1x512x128 .bf16) (Q : Vec Ideal S1x1x128x1536 .bf16) (u : Fin 1536) :
    k0_pay32 (F := Ideal) m K Q (ix2 0 u) = newMax ((k0_pay31 (F := Ideal) m) (ix2 0 u)) fun k => k0_pay30 (F := Ideal) K Q (ix2 k u) :=
  rowMax (k0_pay31 (F := Ideal) m) (k0_pay30 (F := Ideal) K Q) _ _ _ _ u

theorem sum_d1h0 (m : FVec Ideal S1x2048 .f32) (K : Vec Ideal S1x1x512x128 .bf16) (Q : Vec Ideal S1x1x128x1536 .bf16)
    (A : Vec Ideal S80x1536 .f32) (V : Vec Ideal S1x1x1x80x512 .bf16) (r : Fin 80) (u : Fin 1536) :
    k0_pay35 (F := Ideal) (k0_pay33 m K Q) (k0_pay34 m K Q) A V (ix2 r u)
      = newSum ((k0_pay31 (F := Ideal) m) (ix2 0 u)) (A (ix2 r u)) (fun k => k0_pay30 (F := Ideal) K Q (ix2 k u)) fun k => V (ix5 0 0 0 r k) := by
  unfold k0_pay33 k0_pay34 k0_pay35
  rw [shapeCast_id]
  refine accSum (k0_pay31 (F := Ideal) m) (k0_pay32 (F := Ideal) m K Q) (k0_pay30 (F := Ideal) K Q) A _ V _ r u (by norm_num) (max_d1h0 m K Q u) ?_
  rw [matV1536]
  refine Finset.sum_congr rfl fun k _ => ?_
  rw [weight _ _ _ _ _ _ (by norm_num)]

theorem keep_d1h0 (m : FVec Ideal S1x2048 .f32) (v : FVec Ideal S1x1536 .f32) (t : Fin 2048) :
    k0_pay36 (F := Ideal) m v (ix2 0 t) = if h : t.val < 512 then m (ix2 0 t) else v (ix2 0 ⟨t.val - 512, by omega⟩) := by
  pointwise [k0_pay36]

theorem diag1_head0 {b : Blk} (hb : b.Finite) {q n : ℕ} (hn : n = 2048 * q + 512) {h : Fin 2} {m : FVec Ideal S1x2048 .f32}
    {A : Vec Ideal S80x1536 .f32} {K : Vec Ideal S1x1x512x128 .bf16} {Q : Vec Ideal S1x1x128x1536 .bf16} {V : Vec Ideal S1x1x1x80x512 .bf16}
    (hK : IsKeys b h n K) (hQ : IsQueries b h 512 (w := 1536) rfl Q) (hV : IsVals b h n V)
    {a a' : Fin 80 → Fin 2048 → EReal} (H : After b q h n (fun t => m (ix2 0 t)) a)
    (hA : ∀ r (u : Fin 1536), A (ix2 r u) = a r ⟨512 + u, by omega⟩) (ha0 : ∀ r t, t.val < 512 → a' r t = a r t)
    (ha1 : ∀ r (u : Fin 1536), a' r ⟨512 + u, by omega⟩ = k0_pay35 (F := Ideal) (k0_pay33 m K Q) (k0_pay34 m K Q) A V (ix2 r u)) :
    After b q h (n + 512) (fun t => k0_pay36 (F := Ideal) m (k0_pay32 (F := Ideal) m K Q) (ix2 0 t)) a' := by
  refine H.diag hb (o := 512) (w := 1536) rfl hn (S := fun k u => k0_pay30 (F := Ideal) K Q (ix2 k u)) (V := fun r k => V (ix5 0 0 0 r k))
    (fun k u => ?_) hV (fun t ht => ?_) ha0 (fun u => ?_) (fun r u => ?_)
  · rw [score_d1h0, dot_of hK hQ]
  · rw [keep_d1h0, dif_pos ht]
  · rw [keep_d1h0, dif_neg (by dsimp only; omega), ← row_d1h0 m u]
    have z : (⟨512 + u.val - 512, by omega⟩ : Fin 1536) = u := Fin.ext (Nat.add_sub_cancel_left _ _)
    rw [z]; exact max_d1h0 m K Q u
  · rw [ha1, sum_d1h0, hA, row_d1h0]

/-! ### Block 1 of the diagonal, head 1 -/

theorem score_d1h1 (K : Vec Ideal S1x1x512x128 .bf16) (Q : Vec Ideal S1x1x128x1536 .bf16) (k : Fin 512) (u : Fin 1536) :
    k0_pay37 (F := Ideal) K Q (ix2 k u) = if k.val ≤ u.val then ∑ d : Fin 128, (K (ix4 0 0 k d) * Q (ix4 0 0 d u) : EReal) else ⊥ := by
  have e := matS1536 K Q shapeCasts_S1x1x512x128_S512x128 shapeCasts_S1x1x128x1536_S128x1536 k u
  rw [← e]
  exact masked _ _ _ k u (by norm_num)

theorem row_d1h1 (m : FVec Ideal S1x2048 .f32) (u : Fin 1536) : k0_pay38 (F := Ideal) m (ix2 0 u) = m (ix2 0 ⟨512 + u, by omega⟩) :=
  row_slice m slices_S1x2048_o0_512_S1x1536 u rfl

theorem max_d1h1 (m : FVec Ideal S1x2048 .f32) (K : Vec Ideal S1x1x512x128 .bf16) (Q : Vec Ideal S1x1x128x1536 .bf16) (u : Fin 1536) :
    k0_pay39 (F := Ideal) m K Q (ix2 0 u) = newMax ((k0_pay38 (F := Ideal) m) (ix2 0 u)) fun k => k0_pay37 (F := Ideal) K Q (ix2 k u) :=
  rowMax (k0_pay38 (F := Ideal) m) (k0_pay37 (F := Ideal) K Q) _ _ _ _ u

theorem sum_d1h1 (m : FVec Ideal S1x2048 .f32) (K : Vec Ideal S1x1x512x128 .bf16) (Q : Vec Ideal S1x1x128x1536 .bf16)
    (A : Vec Ideal S80x1536 .f32) (V : Vec Ideal S1x1x1x80x512 .bf16) (r : Fin 80) (u : Fin 1536) :
    k0_pay42 (F := Ideal) (k0_pay40 m K Q) (k0_pay41 m K Q A) V (ix2 r u)
      = newSum ((k0_pay38 (F := Ideal) m) (ix2 0 u)) (A (ix2 r u)) (fun k => k0_pay37 (F := Ideal) K Q (ix2 k u)) fun k => V (ix5 0 0 0 r k) := by
  unfold k0_pay40 k0_pay41 k0_pay42
  rw [shapeCast_id]
  refine accSum (k0_pay38 (F := Ideal) m) (k0_pay39 (F := Ideal) m K Q) (k0_pay37 (F := Ideal) K Q) A _ V _ r u (by norm_num) (max_d1h1 m K Q u) ?_
  rw [matV1536]
  refine Finset.sum_congr rfl fun k _ => ?_
  rw [weight _ _ _ _ _ _ (by norm_num)]

theorem keep_d1h1 (m : FVec Ideal S1x2048 .f32) (v : FVec Ideal S1x1536 .f32) (t : Fin 2048) :
    k0_pay43 (F := Ideal) m v (ix2 0 t) = if h : t.val < 512 then m (ix2 0 t) else v (ix2 0 ⟨t.val - 512, by omega⟩) := by
  pointwise [k0_pay43]

theorem diag1_head1 {b : Blk} (hb : b.Finite) {q n : ℕ} (hn : n = 2048 * q + 512) {h : Fin 2} {m : FVec Ideal S1x2048 .f32}
    {A : Vec Ideal S80x1536 .f32} {K : Vec Ideal S1x1x512x128 .bf16} {Q : Vec Ideal S1x1x128x1536 .bf16} {V : Vec Ideal S1x1x1x80x512 .bf16}
    (hK : IsKeys b h n K) (hQ : IsQueries b h 512 (w := 1536) rfl Q) (hV : IsVals b h n V)
    {a a' : Fin 80 → Fin 2048 → EReal} (H : After b q h n (fun t => m (ix2 0 t)) a)
    (hA : ∀ r (u : Fin 1536), A (ix2 r u) = a r ⟨512 + u, by omega⟩) (ha0 : ∀ r t, t.val < 512 → a' r t = a r t)
    (ha1 : ∀ r (u : Fin 1536), a' r ⟨512 + u, by omega⟩ = k0_pay42 (F := Ideal) (k0_pay40 m K Q) (k0_pay41 m K Q A) V (ix2 r u)) :
    After b q h (n + 512) (fun t => k0_pay43 (F := Ideal) m (k0_pay39 (F := Ideal) m K Q) (ix2 0 t)) a' := by
  refine H.diag hb (o := 512) (w := 1536) rfl hn (S := fun k u => k0_pay37 (F := Ideal) K Q (ix2 k u)) (V := fun r k => V (ix5 0 0 0 r k))
    (fun k u => ?_) hV (fun t ht => ?_) ha0 (fun u => ?_) (fun r u => ?_)
  · rw [score_d1h1, dot_of hK hQ]
  · rw [keep_d1h1, dif_pos ht]
  · rw [keep_d1h1, dif_neg (by dsimp only; omega), ← row_d1h1 m u]
    have z : (⟨512 + u.val - 512, by omega⟩ : Fin 1536) = u := Fin.ext (Nat.add_sub_cancel_left _ _)
    rw [z]; exact max_d1h1 m K Q u
  · rw [ha1, sum_d1h1, hA, row_d1h1]

/-! ### Block 2 of the diagonal, head 0 -/

theorem score_d2h0 (K : Vec Ideal S1x1x512x128 .bf16) (Q : Vec Ideal S1x1x128x1024 .bf16) (k : Fin 512) (u : Fin 1024) :
    k0_pay44 (F := Ideal) K Q (ix2 k u) = if k.val ≤ u.val then ∑ d : Fin 128, (K (ix4 0 0 k d) * Q (ix4 0 0 d u) : EReal) else ⊥ := by
  have e := matS1024 K Q shapeCasts_S1x1x512x128_S512x128 shapeCasts_S1x1x128x1024_S128x1024 k u
  rw [← e]
  exact masked _ _ _ k u (by norm_num)

theorem row_d2h0 (m : FVec Ideal S1x2048 .f32) (u : Fin 1024) : k0_pay45 (F := Ideal) m (ix2 0 u) = m (ix2 0 ⟨1024 + u, by omega⟩) :=
  row_slice m slices_S1x2048_o0_1024_S1x1024 u rfl

theorem max_d2h0 (m : FVec Ideal S1x2048 .f32) (K : Vec Ideal S1x1x512x128 .bf16) (Q : Vec Ideal S1x1x128x1024 .bf16) (u : Fin 1024) :
    k0_pay46 (F := Ideal) m K Q (ix2 0 u) = newMax ((k0_pay45 (F := Ideal) m) (ix2 0 u)) fun k => k0_pay44 (F := Ideal) K Q (ix2 k u) :=
  rowMax (k0_pay45 (F := Ideal) m) (k0_pay44 (F := Ideal) K Q) _ _ _ _ u

theorem sum_d2h0 (m : FVec Ideal S1x2048 .f32) (K : Vec Ideal S1x1x512x128 .bf16) (Q : Vec Ideal S1x1x128x1024 .bf16)
    (A : Vec Ideal S80x1024 .f32) (V : Vec Ideal S1x1x1x80x512 .bf16) (r : Fin 80) (u : Fin 1024) :
    k0_pay49 (F := Ideal) (k0_pay47 m K Q) A (k0_pay48 m K Q) V (ix2 r u)
      = newSum ((k0_pay45 (F := Ideal) m) (ix2 0 u)) (A (ix2 r u)) (fun k => k0_pay44 (F := Ideal) K Q (ix2 k u)) fun k => V (ix5 0 0 0 r k) := by
  unfold k0_pay47 k0_pay48 k0_pay49
  rw [shapeCast_id]
  refine accSum (k0_pay45 (F := Ideal) m) (k0_pay46 (F := Ideal) m K Q) (k0_pay44 (F := Ideal) K Q) A _ V _ r u (by norm_num) (max_d2h0 m K Q u) ?_
  rw [matV1024]
  refine Finset.sum_congr rfl fun k _ => ?_
  rw [weight _ _ _ _ _ _ (by norm_num)]

theorem keep_d2h0 (m : FVec Ideal S1x2048 .f32) (v : FVec Ideal S1x1024 .f32) (t : Fin 2048) :
    k0_pay50 (F := Ideal) m v (ix2 0 t) = if h : t.val < 1024 then m (ix2 0 t) else v (ix2 0 ⟨t.val - 1024, by omega⟩) := by
  pointwise [k0_pay50]

theorem diag2_head0 {b : Blk} (hb : b.Finite) {q n : ℕ} (hn : n = 2048 * q + 1024) {h : Fin 2} {m : FVec Ideal S1x2048 .f32}
    {A : Vec Ideal S80x1024 .f32} {K : Vec Ideal S1x1x512x128 .bf16} {Q : Vec Ideal S1x1x128x1024 .bf16} {V : Vec Ideal S1x1x1x80x512 .bf16}
    (hK : IsKeys b h n K) (hQ : IsQueries b h 1024 (w := 1024) rfl Q) (hV : IsVals b h n V)
    {a a' : Fin 80 → Fin 2048 → EReal} (H : After b q h n (fun t => m (ix2 0 t)) a)
    (hA : ∀ r (u : Fin 1024), A (ix2 r u) = a r ⟨1024 + u, by omega⟩) (ha0 : ∀ r t, t.val < 1024 → a' r t = a r t)
    (ha1 : ∀ r (u : Fin 1024), a' r ⟨1024 + u, by omega⟩ = k0_pay49 (F := Ideal) (k0_pay47 m K Q) A (k0_pay48 m K Q) V (ix2 r u)) :
    After b q h (n + 512) (fun t => k0_pay50 (F := Ideal) m (k0_pay46 (F := Ideal) m K Q) (ix2 0 t)) a' := by
  refine H.diag hb (o := 1024) (w := 1024) rfl hn (S := fun k u => k0_pay44 (F := Ideal) K Q (ix2 k u)) (V := fun r k => V (ix5 0 0 0 r k))
    (fun k u => ?_) hV (fun t ht => ?_) ha0 (fun u => ?_) (fun r u => ?_)
  · rw [score_d2h0, dot_of hK hQ]
  · rw [keep_d2h0, dif_pos ht]
  · rw [keep_d2h0, dif_neg (by dsimp only; omega), ← row_d2h0 m u]
    have z : (⟨1024 + u.val - 1024, by omega⟩ : Fin 1024) = u := Fin.ext (Nat.add_sub_cancel_left _ _)
    rw [z]; exact max_d2h0 m K Q u
  · rw [ha1, sum_d2h0, hA, row_d2h0]

/-! ### Block 2 of the diagonal, head 1 -/

theorem score_d2h1 (K : Vec Ideal S1x1x512x128 .bf16) (Q : Vec Ideal S1x1x128x1024 .bf16) (k : Fin 512) (u : Fin 1024) :
    k0_pay51 (F := Ideal) K Q (ix2 k u) = if k.val ≤ u.val then ∑ d : Fin 128, (K (ix4 0 0 k d) * Q (ix4 0 0 d u) : EReal) else ⊥ := by
  have e := matS1024 K Q shapeCasts_S1x1x512x128_S512x128 shapeCasts_S1x1x128x1024_S128x1024 k u
  rw [← e]
  exact masked _ _ _ k u (by norm_num)

theorem row_d2h1 (m : FVec Ideal S1x2048 .f32) (u : Fin 1024) : k0_pay52 (F := Ideal) m (ix2 0 u) = m (ix2 0 ⟨1024 + u, by omega⟩) :=
  row_slice m slices_S1x2048_o0_1024_S1x1024 u rfl

theorem max_d2h1 (m : FVec Ideal S1x2048 .f32) (K : Vec Ideal S1x1x512x128 .bf16) (Q : Vec Ideal S1x1x128x1024 .bf16) (u : Fin 1024) :
    k0_pay53 (F := Ideal) m K Q (ix2 0 u) = newMax ((k0_pay52 (F := Ideal) m) (ix2 0 u)) fun k => k0_pay51 (F := Ideal) K Q (ix2 k u) :=
  rowMax (k0_pay52 (F := Ideal) m) (k0_pay51 (F := Ideal) K Q) _ _ _ _ u

theorem sum_d2h1 (m : FVec Ideal S1x2048 .f32) (K : Vec Ideal S1x1x512x128 .bf16) (Q : Vec Ideal S1x1x128x1024 .bf16)
    (A : Vec Ideal S80x1024 .f32) (V : Vec Ideal S1x1x1x80x512 .bf16) (r : Fin 80) (u : Fin 1024) :
    k0_pay56 (F := Ideal) (k0_pay54 m K Q) (k0_pay55 m K Q A) V (ix2 r u)
      = newSum ((k0_pay52 (F := Ideal) m) (ix2 0 u)) (A (ix2 r u)) (fun k => k0_pay51 (F := Ideal) K Q (ix2 k u)) fun k => V (ix5 0 0 0 r k) := by
  unfold k0_pay54 k0_pay55 k0_pay56
  rw [shapeCast_id]
  refine accSum (k0_pay52 (F := Ideal) m) (k0_pay53 (F := Ideal) m K Q) (k0_pay51 (F := Ideal) K Q) A _ V _ r u (by norm_num) (max_d2h1 m K Q u) ?_
  rw [matV1024]
  refine Finset.sum_congr rfl fun k _ => ?_
  rw [weight _ _ _ _ _ _ (by norm_num)]

theorem keep_d2h1 (m : FVec Ideal S1x2048 .f32) (v : FVec Ideal S1x1024 .f32) (t : Fin 2048) :
    k0_pay57 (F := Ideal) m v (ix2 0 t) = if h : t.val < 1024 then m (ix2 0 t) else v (ix2 0 ⟨t.val - 1024, by omega⟩) := by
  pointwise [k0_pay57]

theorem diag2_head1 {b : Blk} (hb : b.Finite) {q n : ℕ} (hn : n = 2048 * q + 1024) {h : Fin 2} {m : FVec Ideal S1x2048 .f32}
    {A : Vec Ideal S80x1024 .f32} {K : Vec Ideal S1x1x512x128 .bf16} {Q : Vec Ideal S1x1x128x1024 .bf16} {V : Vec Ideal S1x1x1x80x512 .bf16}
    (hK : IsKeys b h n K) (hQ : IsQueries b h 1024 (w := 1024) rfl Q) (hV : IsVals b h n V)
    {a a' : Fin 80 → Fin 2048 → EReal} (H : After b q h n (fun t => m (ix2 0 t)) a)
    (hA : ∀ r (u : Fin 1024), A (ix2 r u) = a r ⟨1024 + u, by omega⟩) (ha0 : ∀ r t, t.val < 1024 → a' r t = a r t)
    (ha1 : ∀ r (u : Fin 1024), a' r ⟨1024 + u, by omega⟩ = k0_pay56 (F := Ideal) (k0_pay54 m K Q) (k0_pay55 m K Q A) V (ix2 r u)) :
    After b q h (n + 512) (fun t => k0_pay57 (F := Ideal) m (k0_pay53 (F := Ideal) m K Q) (ix2 0 t)) a' := by
  refine H.diag hb (o := 1024) (w := 1024) rfl hn (S := fun k u => k0_pay51 (F := Ideal) K Q (ix2 k u)) (V := fun r k => V (ix5 0 0 0 r k))
    (fun k u => ?_) hV (fun t ht => ?_) ha0 (fun u => ?_) (fun r u => ?_)
  · rw [score_d2h1, dot_of hK hQ]
  · rw [keep_d2h1, dif_pos ht]
  · rw [keep_d2h1, dif_neg (by dsimp only; omega), ← row_d2h1 m u]
    have z : (⟨1024 + u.val - 1024, by omega⟩ : Fin 1024) = u := Fin.ext (Nat.add_sub_cancel_left _ _)
    rw [z]; exact max_d2h1 m K Q u
  · rw [ha1, sum_d2h1, hA, row_d2h1]

/-! ### Block 3 of the diagonal, head 0 -/

theorem score_d3h0 (K : Vec Ideal S1x1x512x128 .bf16) (Q : Vec Ideal S1x1x128x512 .bf16) (k : Fin 512) (u : Fin 512) :
    k0_pay58 (F := Ideal) K Q (ix2 k u) = if k.val ≤ u.val then ∑ d : Fin 128, (K (ix4 0 0 k d) * Q (ix4 0 0 d u) : EReal) else ⊥ := by
  have e := matS512 K Q shapeCasts_S1x1x512x128_S512x128 shapeCasts_S1x1x128x512_S128x512 k u
  rw [← e]
  exact masked _ _ _ k u (by norm_num)

theorem row_d3h0 (m : FVec Ideal S1x2048 .f32) (u : Fin 512) : k0_pay59 (F := Ideal) m (ix2 0 u) = m (ix2 0 ⟨1536 + u, by omega⟩) :=
  row_slice m slices_S1x2048_o0_1536_S1x512 u rfl

theorem max_d3h0 (m : FVec Ideal S1x2048 .f32) (K : Vec Ideal S1x1x512x128 .bf16) (Q : Vec Ideal S1x1x128x512 .bf16) (u : Fin 512) :
    k0_pay60 (F := Ideal) m K Q (ix2 0 u) = newMax ((k0_pay59 (F := Ideal) m) (ix2 0 u)) fun k => k0_pay58 (F := Ideal) K Q (ix2 k u) :=
  rowMax (k0_pay59 (F := Ideal) m) (k0_pay58 (F := Ideal) K Q) _ _ _ _ u

theorem sum_d3h0 (m : FVec Ideal S1x2048 .f32) (K : Vec Ideal S1x1x512x128 .bf16) (Q : Vec Ideal S1x1x128x512 .bf16)
    (A : Vec Ideal S80x512 .f32) (V : Vec Ideal S1x1x1x80x512 .bf16) (r : Fin 80) (u : Fin 512) :
    k0_pay63 (F := Ideal) (k0_pay61 m K Q) (k0_pay62 m K Q A) V (ix2 r u)
      = newSum ((k0_pay59 (F := Ideal) m) (ix2 0 u)) (A (ix2 r u)) (fun k => k0_pay58 (F := Ideal) K Q (ix2 k u)) fun k => V (ix5 0 0 0 r k) := by
  unfold k0_pay61 k0_pay62 k0_pay63
  rw [shapeCast_id]
  refine accSum (k0_pay59 (F := Ideal) m) (k0_pay60 (F := Ideal) m K Q) (k0_pay58 (F := Ideal) K Q) A _ V _ r u (by norm_num) (max_d3h0 m K Q u) ?_
  rw [matV512]
  refine Finset.sum_congr rfl fun k _ => ?_
  rw [weight _ _ _ _ _ _ (by norm_num)]

theorem diag3_head0 {b : Blk} (hb : b.Finite) {q n : ℕ} (hn : n = 2048 * q + 1536) {h : Fin 2} {m : FVec Ideal S1x2048 .f32}
    {A : Vec Ideal S80x512 .f32} {K : Vec Ideal S1x1x512x128 .bf16} {Q : Vec Ideal S1x1x128x512 .bf16} {V : Vec Ideal S1x1x1x80x512 .bf16}
    (hK : IsKeys b h n K) (hQ : IsQueries b h 1536 (w := 512) rfl Q) (hV : IsVals b h n V)
    {a a' : Fin 80 → Fin 2048 → EReal} (H : After b q h n (fun t => m (ix2 0 t)) a)
    (hA : ∀ r (u : Fin 512), A (ix2 r u) = a r ⟨1536 + u, by omega⟩) (ha0 : ∀ r t, t.val < 1536 → a' r t = a r t)
    (ha1 : ∀ r (u : Fin 512), a' r ⟨1536 + u, by omega⟩ = k0_pay63 (F := Ideal) (k0_pay61 m K Q) (k0_pay62 m K Q A) V (ix2 r u)) :
    ∃ m', After b q h (n + 512) m' a' := by
  refine ⟨fun t => if ht : t.val < 1536 then m (ix2 0 t) else k0_pay60 (F := Ideal) m K Q (ix2 0 ⟨t.val - 1536, by omega⟩), ?_⟩
  refine H.diag hb (o := 1536) (w := 512) rfl hn (S := fun k u => k0_pay58 (F := Ideal) K Q (ix2 k u)) (V := fun r k => V (ix5 0 0 0 r k))
    (fun k u => ?_) hV (fun t ht => ?_) ha0 (fun u => ?_) (fun r u => ?_)
  · rw [score_d3h0, dot_of hK hQ]
  · rw [dif_pos ht]
  · rw [dif_neg (by dsimp only; omega), ← row_d3h0 m u]
    have z : (⟨1536 + u.val - 1536, by omega⟩ : Fin 512) = u := Fin.ext (Nat.add_sub_cancel_left _ _)
    rw [z]; exact max_d3h0 m K Q u
  · rw [ha1, sum_d3h0, hA, row_d3h0]

/-! ### Block 3 of the diagonal, head 1 -/

theorem sum_d3h1 (m : FVec Ideal S1x2048 .f32) (K : Vec Ideal S1x1x512x128 .bf16) (Q : Vec Ideal S1x1x128x512 .bf16)
    (A : Vec Ideal S80x512 .f32) (V : Vec Ideal S1x1x1x80x512 .bf16) (r : Fin 80) (u : Fin 512) :
    k0_pay1 (F := Ideal) (k0_pay64 m K Q A V) (ix2 r u)
      = newSum ((k0_pay59 (F := Ideal) m) (ix2 0 u)) (A (ix2 r u)) (fun k => k0_pay58 (F := Ideal) K Q (ix2 k u)) fun k => V (ix5 0 0 0 r k) := by
  unfold k0_pay1 k0_pay64
  rw [shapeCast_id]
  show addf (mulf (broadcastTo S80x512 (exp2 (subf (k0_pay59 (F := Ideal) m) (k0_pay60 (F := Ideal) m K Q))) broadcasts_S1x512_S80x512) A)
    (matmul (F := Ideal) (φ₁ := .bf16) (φ₂ := .bf16) dot_S80x512_S512x512_S80x512_1_0_0_1_n_n none (shapeCast S80x512 V shapeCasts_S1x1x1x80x512_S80x512)
      (truncf .bf16 (exp2 (subf (k0_pay58 (F := Ideal) K Q) (broadcastTo S512x512 (k0_pay60 (F := Ideal) m K Q) broadcasts_S1x512_S512x512))) bitsLt_bf16_f32)
      (constant S80x512 .f32 0x00000000#32)) (ix2 r u) = _
  refine accSum (k0_pay59 (F := Ideal) m) (k0_pay60 (F := Ideal) m K Q) (k0_pay58 (F := Ideal) K Q) A _ V _ r u (by norm_num) (max_d3h0 m K Q u) ?_
  rw [matV512]
  refine Finset.sum_congr rfl fun k _ => ?_
  rw [weight _ _ _ _ _ _ (by norm_num)]

theorem diag3_head1 {b : Blk} (hb : b.Finite) {q n : ℕ} (hn : n = 2048 * q + 1536) {h : Fin 2} {m : FVec Ideal S1x2048 .f32}
    {A : Vec Ideal S80x512 .f32} {K : Vec Ideal S1x1x512x128 .bf16} {Q : Vec Ideal S1x1x128x512 .bf16} {V : Vec Ideal S1x1x1x80x512 .bf16}
    (hK : IsKeys b h n K) (hQ : IsQueries b h 1536 (w := 512) rfl Q) (hV : IsVals b h n V)
    {a a' : Fin 80 → Fin 2048 → EReal} (H : After b q h n (fun t => m (ix2 0 t)) a)
    (hA : ∀ r (u : Fin 512), A (ix2 r u) = a r ⟨1536 + u, by omega⟩) (ha0 : ∀ r t, t.val < 1536 → a' r t = a r t)
    (ha1 : ∀ r (u : Fin 512), a' r ⟨1536 + u, by omega⟩ = k0_pay1 (F := Ideal) (k0_pay64 m K Q A V) (ix2 r u)) :
    ∃ m', After b q h (n + 512) m' a' := by
  refine ⟨fun t => if ht : t.val < 1536 then m (ix2 0 t) else k0_pay60 (F := Ideal) m K Q (ix2 0 ⟨t.val - 1536, by omega⟩), ?_⟩
  refine H.diag hb (o := 1536) (w := 512) rfl hn (S := fun k u => k0_pay58 (F := Ideal) K Q (ix2 k u)) (V := fun r k => V (ix5 0 0 0 r k))
    (fun k u => ?_) hV (fun t ht => ?_) ha0 (fun u => ?_) (fun r u => ?_)
  · rw [score_d3h0, dot_of hK hQ]
  · rw [dif_pos ht]
  · rw [dif_neg (by dsimp only; omega), ← row_d3h0 m u]
    have z : (⟨1536 + u.val - 1536, by omega⟩ : Fin 512) = u := Fin.ext (Nat.add_sub_cancel_left _ _)
    rw [z]; exact max_d3h0 m K Q u
  · rw [ha1, sum_d3h1, hA, row_d3h0]

end Cert.Attn

end
-- ==== Proof.Loads.lean ====
/-
  The loads of one grid point: where each starts, and that it reads the queries, keys or values meant.
-/
module

public import proofs.«01_k».proof.Proof.Payloads
public import Idealize.ShloMosaic.Lib.Pipeline.Value
public import Idealize.ShloMosaic.Lib.Pipeline.ValueKit

@[expose] public section

set_option maxRecDepth 16384

noncomputable section

namespace Cert.Attn

open Idealize.ShloMosaic Idealize.ShloMosaic.TcCoe Cert.KernelIdeal Cert.KernelIdeal.Gen

/-! ### Trip counts and offsets -/

/-- The unrolled half of the loop runs `4 q` trips at tile `q`, -/
theorem trips1 (i : grid0.Coords) : (k0_t1_loop i).trips = 4 * (i 2).val :=
  (by decide +kernel : ∀ j : Fin 8, Scf.trips (0#32) (Scalar.addi 0#32 (Scalar.muli (Scalar.divsi
    (Scalar.subi (Scalar.muli (BitVec.ofNat 32 j.val) 4#32) 0#32) 1#32) 1#32)) 1#32 = 4 * j.val) (i 2)

/-- and the rest of it none. -/
theorem trips2 (i : grid0.Coords) : (k0_t2_loop i).trips = 0 :=
  (by decide +kernel : ∀ j : Fin 8, Scf.trips (Scalar.addi 0#32 (Scalar.muli (Scalar.divsi
    (Scalar.subi (Scalar.muli (BitVec.ofNat 32 j.val) 4#32) 0#32) 1#32) 1#32))
    (Scalar.addi 0#32 (Scalar.subi (Scalar.muli (BitVec.ofNat 32 j.val) 4#32) 0#32)) 1#32 = 0) (i 2)

theorem trip_words : ∀ k : Fin 32, (Scalar.indexCast (Scalar.muli (Scf.iv 0#32 1#32 k.val) 512#32)).toNat = 512 * k.val
    ∧ (Scalar.indexCast (Scf.iv 0#32 1#32 k.val)).toNat = k.val := by decide +kernel

theorem diag_words : ∀ (j : Fin 8) (d : Fin 4),
    (Scalar.indexCast (Scalar.muli (Scalar.addi (Scalar.muli (BitVec.ofNat 32 j.val) 4#32) (BitVec.ofNat 32 d.val)) 512#32)).toNat
      = 2048 * j.val + 512 * d.val
    ∧ (Scalar.indexCast (Scalar.addi (Scalar.muli (BitVec.ofNat 32 j.val) 4#32) (BitVec.ofNat 32 d.val))).toNat
      = 4 * j.val + d.val := by decide +kernel

theorem trip_lt (i : grid0.Coords) (k : Fin (k0_t1_loop i).trips) : k.val < 4 * (i 2).val := (trips1 i) ▸ k.isLt

theorem i2_lt (i : grid0.Coords) : (i 2).val < 8 := (i 2).isLt

theorem off1_eq (i : grid0.Coords) (k : Fin (k0_t1_loop i).trips) : k0_off1 i k = ![0, 0, 512 * k.val, 0] :=
  congrArg (fun n => ![0, 0, n, 0]) (trip_words ⟨k.val, by have := trip_lt i k; have := i2_lt i; omega⟩).1
theorem off2_eq (i : grid0.Coords) (k : Fin (k0_t1_loop i).trips) : k0_off2 i k = ![0, 0, k.val, 0, 0] :=
  congrArg (fun n => ![0, 0, n, 0, 0]) (trip_words ⟨k.val, by have := trip_lt i k; have := i2_lt i; omega⟩).2
theorem off3_eq (i : grid0.Coords) (k : Fin (k0_t1_loop i).trips) : k0_off3 i k = ![0, 1, 512 * k.val, 0] :=
  congrArg (fun n => ![0, 1, n, 0]) (trip_words ⟨k.val, by have := trip_lt i k; have := i2_lt i; omega⟩).1
theorem off4_eq (i : grid0.Coords) (k : Fin (k0_t1_loop i).trips) : k0_off4 i k = ![0, 1, k.val, 0, 0] :=
  congrArg (fun n => ![0, 1, n, 0, 0]) (trip_words ⟨k.val, by have := trip_lt i k; have := i2_lt i; omega⟩).2
theorem off9_eq (i : grid0.Coords) (d : Fin 4) :
    k0_off9 i (BitVec.ofNat 32 d.val) = ![0, 0, 2048 * (i 2).val + 512 * d.val, 0] :=
  congrArg (fun n => ![0, 0, n, 0]) (diag_words (i 2) d).1
theorem off10_eq (i : grid0.Coords) (d : Fin 4) : k0_off10 i (BitVec.ofNat 32 d.val) = ![0, 0, 4 * (i 2).val + d.val, 0, 0] :=
  congrArg (fun n => ![0, 0, n, 0, 0]) (diag_words (i 2) d).2
theorem off11_eq (i : grid0.Coords) (d : Fin 4) :
    k0_off11 i (BitVec.ofNat 32 d.val) = ![0, 1, 2048 * (i 2).val + 512 * d.val, 0] :=
  congrArg (fun n => ![0, 1, n, 0]) (diag_words (i 2) d).1
theorem off12_eq (i : grid0.Coords) (d : Fin 4) : k0_off12 i (BitVec.ofNat 32 d.val) = ![0, 1, 4 * (i 2).val + d.val, 0, 0] :=
  congrArg (fun n => ![0, 1, n, 0, 0]) (diag_words (i 2) d).2

/-! ### The loads -/

variable (b : Blk) (h : Fin 2)

/-- A load of 512 keys of head `h` from key `n` on. -/
theorem keys_load {arg4 : Memref sig .tc .vmem S1x2x16384x128 .bf16} (harg4 : arg4.IsWhole) {off : Fin 4 → ℕ} {n : ℕ}
    (e : off = ![0, h.val, n, 0]) (inb : ∀ a, off a + S1x1x512x128.size a ≤ S1x2x16384x128.size a) :
    IsKeys b h n (View.readAt (Elt Ideal) arg4.view (Rect.unit (s := S1x2x16384x128) off S1x1x512x128.size inb).toLoadRect
      (harg4.unread b.k)) := by
  subst e
  intro k d
  rw [View.readAt_eq_ld, harg4.read_unread, View.ld_unit]
  have hn : n + 512 ≤ 16384 := inb 2
  refine congrArg b.k (funext fun a => Fin.ext ?_)
  match a with
  | ⟨0, _⟩ => rfl
  | ⟨1, _⟩ => rfl
  | ⟨2, _⟩ => exact (Nat.mod_eq_of_lt (show n + k.val < 16384 by omega)).symm
  | ⟨3, _⟩ => exact Nat.zero_add _

/-- A load of the queries of head `h` from column `o` on. -/
theorem queries_load {arg3 : Memref sig .tc .vmem S1x2x128x2048 .bf16} (harg3 : arg3.IsWhole) {off : Fin 4 → ℕ} {o w : ℕ}
    (e : off = ![0, h.val, 0, o]) (hw : o + w = 2048)
    (inb : ∀ a, off a + (![1, 1, 128, w] : Fin 4 → ℕ) a ≤ S1x2x128x2048.size a) :
    IsQueries b h o hw (View.readAt (Elt Ideal) arg3.view (Rect.unit (s := S1x2x128x2048) off ![1, 1, 128, w] inb).toLoadRect
      (harg3.unread b.q)) := by
  subst e
  intro d u
  rw [View.readAt_eq_ld, harg3.read_unread, View.ld_unit]
  refine congrArg b.q (funext fun a => Fin.ext ?_)
  match a with
  | ⟨0, _⟩ => rfl
  | ⟨1, _⟩ => rfl
  | ⟨2, _⟩ => exact Nat.zero_add _
  | ⟨3, _⟩ => rfl

/-- A load of one block of values of head `h`: block `g`, of the keys from `512 g` on. -/
theorem vals_load {arg5 : Memref sig .tc .vmem S1x2x32x80x512 .bf16} (harg5 : arg5.IsWhole) {off : Fin 5 → ℕ} {g n : ℕ}
    (e : off = ![0, h.val, g, 0, 0]) (hn : n = 512 * g) (inb : ∀ a, off a + S1x1x1x80x512.size a ≤ S1x2x32x80x512.size a) :
    IsVals b h n (View.readAt (Elt Ideal) arg5.view (Rect.unit (s := S1x2x32x80x512) off S1x1x1x80x512.size inb).toLoadRect
      (harg5.unread b.v)) := by
  subst e hn
  intro r k
  rw [View.readAt_eq_ld, harg5.read_unread, View.ld_unit]
  have hg : g + 1 ≤ 32 := inb 2
  unfold Blk.val
  refine congrArg b.v (funext fun a => Fin.ext ?_)
  match a with
  | ⟨0, _⟩ => rfl
  | ⟨1, _⟩ => rfl
  | ⟨2, _⟩ => show g + 0 = (512 * g + k.val) / 512 % 32; omega
  | ⟨3, _⟩ => exact Nat.zero_add _
  | ⟨4, _⟩ => show 0 + k.val = (512 * g + k.val) % 512; omega

end Cert.Attn

end
-- ==== Proof.Columns.lean ====
/-
  A [80, 2048] accumulator filled by stores of whole columns from some column on: what it holds afterwards, and what a
  load of the columns from some column on reads.
-/
module

public import Idealize.ShloMosaic.Lib.Pipeline.Value
public import Idealize.ShloMosaic.Lib.Pipeline.ValueKit
public import Idealize.ShloMosaic.Lib.Pointwise
public import proofs.«01_k».proof.KernelIdeal

@[expose] public section

noncomputable section

namespace Cert.Attn

open Idealize.ShloMosaic Idealize.ShloMosaic.TcCoe Cert.KernelIdeal

variable {o w : ℕ} (inb : ∀ a, (![0, o] : Fin 2 → ℕ) a + (![80, w] : Fin 2 → ℕ) a ≤ S80x2048.size a)

theorem zero2 : (![0, 0] : Fin 2 → Nat) = fun _ => 0 := funext fun a => by fin_cases a <;> rfl
theorem zero3 : (![0, 0, 0] : Fin 3 → Nat) = fun _ => 0 := funext fun a => by fin_cases a <;> rfl

/-- The rectangle's index `(r, u)` in the accumulator. -/
theorem cols_idx (hw : o + w = 2048) (r : Fin 80) (u : Fin w) :
    (Rect.unit (s := S80x2048) ![0, o] ![80, w] inb).idx (ix2 r u) = ix2 r ⟨o + u, by omega⟩ := by
  funext a
  apply Fin.ext
  match a with
  | ⟨0, _⟩ => show 0 + 1 * r.val = r.val; omega
  | ⟨1, _⟩ => show o + 1 * u.val = o + u.val; omega

/-- A store of the columns from `o` on, last: those columns are its payload's, -/
theorem canon_cols_ge (hw : o + w = 2048) (p : (⟨2, ![80, w]⟩ : Shape).Idx → Elt Ideal .f32)
    (L : List (View.Piece (Elt Ideal) S80x2048 .f32)) (r : Fin 80) (u : Fin w) :
    View.canon (⟨Rect.unit ![0, o] ![80, w] inb, p⟩ :: L) (ix2 r ⟨o + u, by omega⟩) = p (ix2 r u) := by
  rw [← cols_idx inb hw r u]
  exact View.canon_cons_emb (Rect.unit (s := S80x2048) ![0, o] ![80, w] inb) p L (ix2 r u)

/-- and the others are what the earlier stores left. -/
theorem canon_cols_lt (p : (⟨2, ![80, w]⟩ : Shape).Idx → Elt Ideal .f32)
    (L : List (View.Piece (Elt Ideal) S80x2048 .f32)) (r : Fin 80) (t : Fin 2048) (ht : t.val < o) :
    View.canon (⟨Rect.unit ![0, o] ![80, w] inb, p⟩ :: L) (ix2 r t) = View.canon L (ix2 r t) := by
  refine View.canon_cons_of_not_mem _ L fun hm => ?_
  rw [Rect.mem_set_unit] at hm
  have h := (hm 1).1
  change o ≤ t.val at h
  omega

/-- A load of the columns from `o` on. -/
theorem readCov_cols {sig : RefSig} {κ : Kind} {sp : Space} (hw : o + w = 2048) (v : View sig κ sp S80x2048 .f32)
    (L : List (View.Piece (Elt Ideal) S80x2048 .f32)) (r : Fin 80) (u : Fin w) :
    v.readCov L (Rect.unit (s := S80x2048) ![0, o] ![80, w] inb).toLoadRect (ix2 r u) = View.canon L (ix2 r ⟨o + u, by omega⟩) := by
  rw [View.readCov_eq_canon']
  show View.canon L ((Rect.unit (s := S80x2048) ![0, o] ![80, w] inb).idx (ix2 r u)) = _
  rw [cols_idx inb hw]

/-- A load of everything. -/
theorem readCov_all {sig : RefSig} {κ : Kind} {sp : Space} (v : View sig κ sp S80x2048 .f32)
    (inb : ∀ a, (![0, 0] : Fin 2 → ℕ) a + S80x2048.size a ≤ S80x2048.size a)
    (L : List (View.Piece (Elt Ideal) S80x2048 .f32)) :
    v.readCov L (Rect.unit ![0, 0] S80x2048.size inb).toLoadRect = View.canon L := by
  rw [View.readCov_eq_canon']
  exact View.ld_unit_zero zero2 inb (View.canon L)

end Cert.Attn

end
-- ==== Proof.Loop.lean ====
/-
  The loop over the key blocks before the tile: what one trip yields and stores, and by induction what the running
  maxima and weighted sums of both heads are before each trip.
-/
module

public import proofs.«01_k».proof.Proof.Loads
public import proofs.«01_k».proof.Proof.Columns
public import proofs.«01_k».proof.Proof.Gen.KernelIdeal.Loops

@[expose] public section

set_option maxRecDepth 16384

noncomputable section

namespace Cert.Attn

open Idealize.ShloMosaic Idealize.ShloMosaic.TcCoe Cert.KernelIdeal Cert.KernelIdeal.Gen

variable (c : Dev nD) (i : grid0.Coords)
variable (arg3 : Memref sig .tc .vmem S1x2x128x2048 .bf16) (harg3 : arg3.IsWhole)
variable (arg4 : Memref sig .tc .vmem S1x2x16384x128 .bf16) (harg4 : arg4.IsWhole)
variable (arg5 : Memref sig .tc .vmem S1x2x32x80x512 .bf16) (harg5 : arg5.IsWhole)
variable (arg6 : Memref sig .tc .vmem S1x2048x128 .bf16) (harg6 : arg6.IsWhole)
variable (arg7 : Memref sig .tc .vmem S80x2048 .f32) (harg7 : arg7.IsWhole)
variable (arg8 : Memref sig .tc .vmem S80x2048 .f32) (harg8 : arg8.IsWhole)

section Trip

variable (X3 : BufTy.Contents (Elt Ideal) arg3.view.ty) (X4 : BufTy.Contents (Elt Ideal) arg4.view.ty)
variable (X5 : BufTy.Contents (Elt Ideal) arg5.view.ty) (k : Fin (k0_t1_loop i).trips)

/-- The keys trip `k` loads for head 0 and head 1, -/
abbrev tripK0 : Vec Ideal S1x1x512x128 .bf16 :=
  View.readAt (Elt Ideal) arg4.view (Rect.unit (s := S1x2x16384x128) (k0_off1 i k) S1x1x512x128.size (k0_off1_inb i k)).toLoadRect X4
abbrev tripK1 : Vec Ideal S1x1x512x128 .bf16 :=
  View.readAt (Elt Ideal) arg4.view (Rect.unit (s := S1x2x16384x128) (k0_off3 i k) S1x1x512x128.size (k0_off3_inb i k)).toLoadRect X4
/-- the values, -/
abbrev tripV0 : Vec Ideal S1x1x1x80x512 .bf16 :=
  View.readAt (Elt Ideal) arg5.view (Rect.unit (s := S1x2x32x80x512) (k0_off2 i k) S1x1x1x80x512.size (k0_off2_inb i k)).toLoadRect X5
abbrev tripV1 : Vec Ideal S1x1x1x80x512 .bf16 :=
  View.readAt (Elt Ideal) arg5.view (Rect.unit (s := S1x2x32x80x512) (k0_off4 i k) S1x1x1x80x512.size (k0_off4_inb i k)).toLoadRect X5
/-- the queries, -/
abbrev tripQ0 : Vec Ideal S1x1x128x2048 .bf16 :=
  View.readAt (Elt Ideal) arg3.view (Rect.unit (s := S1x2x128x2048) ![0, 0, 0, 0] S1x1x128x2048.size inb_S1x2x128x2048_S1x1x128x2048_0_0_0_0).toLoadRect X3
abbrev tripQ1 : Vec Ideal S1x1x128x2048 .bf16 :=
  View.readAt (Elt Ideal) arg3.view (Rect.unit (s := S1x2x128x2048) ![0, 1, 0, 0] S1x1x128x2048.size inb_S1x2x128x2048_S1x1x128x2048_0_1_0_0).toLoadRect X3
/-- and the whole of an accumulator. -/
abbrev accAll (arg : Memref sig .tc .vmem S80x2048 .f32) (f : BufTy.Contents (Elt Ideal) arg.view.ty) : Vec Ideal S80x2048 .f32 :=
  View.readAt (Elt Ideal) arg.view (Rect.unit (s := S80x2048) ![0, 0] S80x2048.size inb_S80x2048_S80x2048_0_0).toLoadRect f

variable (acc : FVec Ideal S1x2048 .f32 × FVec Ideal S1x2048 .f32)
variable (f7 : BufTy.Contents (Elt Ideal) arg7.view.ty) (f8 : BufTy.Contents (Elt Ideal) arg8.view.ty)

/-- A trip yields the new maxima, -/
theorem trip_yield : tripR_k0_t1 (F := Ideal) Variants.none c none i arg3 harg3 arg4 harg4 arg5 harg5 arg6 harg6 arg7 harg7 arg8 harg8 X3 X4 X5 k acc f7 f8
    = (k0_pay4 acc.1 (tripK0 i arg4 X4 k) (tripQ0 arg3 X3), k0_pay15 acc.2 (k0_pay6 (tripK1 i arg4 X4 k)) (tripQ1 arg3 X3)) := by
  unfold tripR_k0_t1 trip_k0_t1; rfl

/-- and stores the new weighted sums. -/
theorem trip_stores : tripL_k0_t1 (F := Ideal) Variants.none c none i arg3 harg3 arg4 harg4 arg5 harg5 arg6 harg6 arg7 harg7 arg8 harg8 X3 X4 X5 k acc f7 f8
    = ([⟨Rect.unit (s := S80x2048) ![0, 0] S80x2048.size inb_S80x2048_S80x2048_0_0,
          k0_pay5 acc.1 (tripK0 i arg4 X4 k) (tripQ0 arg3 X3) (accAll arg7 f7) (tripV0 i arg5 X5 k)⟩],
       [⟨Rect.unit (s := S80x2048) ![0, 0] S80x2048.size inb_S80x2048_S80x2048_0_0,
          k0_pay16 acc.2 (k0_pay6 (tripK1 i arg4 X4 k)) (tripQ1 arg3 X3) (accAll arg8 f8) (tripV1 i arg5 X5 k)⟩]) := by
  unfold tripL_k0_t1 trip_k0_t1; rfl

end Trip

/-- The accumulator a trip finds: what the stores before it left. -/
theorem accAll_writes (arg : Memref sig .tc .vmem S80x2048 .f32) (L L' : List (View.Piece (Elt Ideal) S80x2048 .f32)) :
    accAll arg (arg.view.writes (Elt Ideal) (arg.view.writes (Elt Ideal) arg.view.junk L') L) = View.canon (L ++ L') := by
  rw [accAll, ← View.writes_append, View.readAt_writes_junk_eq_canon]
  exact View.ld_unit_zero zero2 _ (View.canon (L ++ L'))

/-- Before trip `k`, both heads have folded in the first `512 k` keys. -/
theorem loop_after {b : Blk} (hb : b.Finite) (init : FVec Ideal S1x2048 .f32 × FVec Ideal S1x2048 .f32)
    (L7 L8 : List (View.Piece (Elt Ideal) S80x2048 .f32))
    (h0 : After b (i 2).val 0 0 (fun t => init.1 (ix2 0 t)) fun r t => View.canon L7 (ix2 r t))
    (h1 : After b (i 2).val 1 0 (fun t => init.2 (ix2 0 t)) fun r t => View.canon L8 (ix2 r t))
    (k : ℕ) (hk : k ≤ (k0_t1_loop i).trips) :
    let st := st_k0_t1 (F := Ideal) Variants.none c none i arg3 harg3 arg4 harg4 arg5 harg5 arg6 harg6 arg7 harg7 arg8 harg8 (harg3.unread b.q) (harg4.unread b.k) (harg5.unread b.v)
      (arg7.view.writes (Elt Ideal) arg7.view.junk L7) (arg8.view.writes (Elt Ideal) arg8.view.junk L8) init k
    After b (i 2).val 0 (512 * k) (fun t => st.1.1 (ix2 0 t)) (fun r t => View.canon (st.2.1 ++ L7) (ix2 r t))
    ∧ After b (i 2).val 1 (512 * k) (fun t => st.1.2 (ix2 0 t)) (fun r t => View.canon (st.2.2 ++ L8) (ix2 r t)) := by
  induction k with
  | zero => exact ⟨h0, h1⟩
  | succ k ih =>
    have hk' : k < (k0_t1_loop i).trips := hk
    have hlt := trip_lt i ⟨k, hk'⟩
    dsimp only at hlt ih
    obtain ⟨i0, i1⟩ := ih hk'.le
    have e := st_k0_t1_succ (F := Ideal) Variants.none c none i arg3 harg3 arg4 harg4 arg5 harg5 arg6 harg6 arg7 harg7 arg8 harg8 (harg3.unread b.q) (harg4.unread b.k) (harg5.unread b.v)
      (arg7.view.writes (Elt Ideal) arg7.view.junk L7) (arg8.view.writes (Elt Ideal) arg8.view.junk L8) init ⟨k, hk'⟩
    rw [trip_yield, trip_stores] at e
    dsimp only at e ⊢
    rw [e]
    dsimp only
    rw [accAll_writes, accAll_writes]
    simp only [List.cons_append, List.nil_append]
    rw [View.canon_cons_unit_zero zero2, View.canon_cons_unit_zero zero2]
    generalize st_k0_t1 (F := Ideal) Variants.none c none i arg3 harg3 arg4 harg4 arg5 harg5 arg6 harg6 arg7 harg7 arg8 harg8 (harg3.unread b.q) (harg4.unread b.k) (harg5.unread b.v)
      (arg7.view.writes (Elt Ideal) arg7.view.junk L7) (arg8.view.writes (Elt Ideal) arg8.view.junk L8) init k = st at i0 i1 ⊢
    rw [Nat.mul_succ]
    exact ⟨trip_head0 hb i0 (by omega) (keys_load b 0 harg4 (off1_eq i ⟨k, hk'⟩) _) (queries_load b 0 harg3 rfl rfl _)
        (vals_load b 0 harg5 (off2_eq i ⟨k, hk'⟩) rfl _),
      trip_head1 hb i1 (by omega) (keys_load b 1 harg4 (off3_eq i ⟨k, hk'⟩) _) (queries_load b 1 harg3 rfl rfl _)
        (vals_load b 1 harg5 (off4_eq i ⟨k, hk'⟩) rfl _)⟩

end Cert.Attn

end
-- ==== Proof.Diag.lean ====
/-
  The diagonal of one grid point: from what the loop over the earlier keys leaves, through the four diagonal blocks of
  each head, to the two accumulators the result is divided out of.
-/
module

public import proofs.«01_k».proof.Proof.Loop
public import proofs.«01_k».proof.Proof.Gen.KernelIdeal.Frame.RunA

@[expose] public section

set_option maxRecDepth 16384

noncomputable section

namespace Cert.Attn

open Cert.Online Idealize.ShloMosaic Idealize.ShloMosaic.TcCoe Cert.KernelIdeal Cert.KernelIdeal.Gen Cert.KernelIdeal.Gen.kernelRun0_A

variable (c : Dev nD) (i : grid0.Coords)
variable (arg3 : Memref sig .tc .vmem S1x2x128x2048 .bf16) (harg3 : arg3.IsWhole)
variable (arg4 : Memref sig .tc .vmem S1x2x16384x128 .bf16) (harg4 : arg4.IsWhole)
variable (arg5 : Memref sig .tc .vmem S1x2x32x80x512 .bf16) (harg5 : arg5.IsWhole)
variable (arg6 : Memref sig .tc .vmem S1x2048x128 .bf16) (harg6 : arg6.IsWhole)
variable (arg7 : Memref sig .tc .vmem S80x2048 .f32) (harg7 : arg7.IsWhole)
variable (arg8 : Memref sig .tc .vmem S80x2048 .f32) (harg8 : arg8.IsWhole)
variable {b : Blk}

/-- The maxima start at −∞ and the accumulators at 0: nothing folded in yet. -/
theorem start (q : ℕ) (h : Fin 2) {p : FVec Ideal S80x2048 .f32} (hp : p = k0_pay11 (F := Ideal)) :
    After b q h 0 (fun t => k0_pay13 (F := Ideal) (ix2 0 t)) fun r t =>
      View.canon (Val := Elt Ideal) (e := .f32) [⟨Rect.unit (s := S80x2048) ![0, 0] S80x2048.size inb_S80x2048_S80x2048_0_0, p⟩] (ix2 r t) := by
  subst hp
  have e1 : (fun t : Fin 2048 => k0_pay13 (F := Ideal) (ix2 0 t)) = fun _ => (⊥ : EReal) := funext fun t => mask_eq
  have e2 : (fun (r : Fin 80) (t : Fin 2048) =>
      View.canon (Val := Elt Ideal) (e := .f32) [⟨Rect.unit (s := S80x2048) ![0, 0] S80x2048.size inb_S80x2048_S80x2048_0_0, k0_pay11 (F := Ideal)⟩] (ix2 r t))
      = fun _ _ => (0 : EReal) := funext fun r => funext fun t => by
    rw [View.canon_unit_zero zero2]
    unfold k0_pay11
    rw [shapeCast_id]
    show Ideal.ofBits .f32 0x00000000#32 = 0
    simp [Ideal.ofBits, Ideal.ieee]
  rw [e1, e2]
  exact After.zero q h

/-- Head 0 once the keys before the tile are folded in. -/
theorem head0_loop (hb : b.Finite) :
    After b (i 2).val 0 (2048 * (i 2).val + 512 * 0) (fun t => (sl.r c i arg3 harg3 arg4 harg4 arg5 harg5 arg6 harg6 arg7 harg7 arg8 harg8 b.q b.k b.v) (ix2 0 t))
      fun r t => (sl.v41 c i arg3 harg3 arg4 harg4 arg5 harg5 arg6 harg6 arg7 harg7 arg8 harg8 b.q b.k b.v) (ix2 r t) := by
  have H := (loop_after c i arg3 harg3 arg4 harg4 arg5 harg5 arg6 harg6 arg7 harg7 arg8 harg8 hb (k0_pay13, k0_pay13) sl.HS0_1 sl.HS1_1
    (start _ _ rfl) (start _ _ rfl) (k0_t1_loop i).trips le_rfl).1
  have t2 : Scf.trips (k0_t2_loop i).lb (k0_t2_loop i).ub (k0_t2_loop i).st = 0 := trips2 i
  have er : sl.r c i arg3 harg3 arg4 harg4 arg5 harg5 arg6 harg6 arg7 harg7 arg8 harg8 b.q b.k b.v = (st_k0_t1 (F := Ideal) Variants.none c none i arg3 harg3 arg4 harg4 arg5 harg5 arg6 harg6 arg7 harg7 arg8 harg8 (harg3.unread b.q) (harg4.unread b.k) (harg5.unread b.v)
      (arg7.view.writes (Elt Ideal) arg7.view.junk sl.HS0_1) (arg8.view.writes (Elt Ideal) arg8.view.junk sl.HS1_1)
      (k0_pay13, k0_pay13) (k0_t1_loop i).trips).1.1 := by
    unfold sl.r
    rw [t2]; rfl
  have ea : sl.v41 c i arg3 harg3 arg4 harg4 arg5 harg5 arg6 harg6 arg7 harg7 arg8 harg8 b.q b.k b.v = View.canon ((st_k0_t1 (F := Ideal) Variants.none c none i arg3 harg3 arg4 harg4 arg5 harg5 arg6 harg6 arg7 harg7 arg8 harg8 (harg3.unread b.q) (harg4.unread b.k) (harg5.unread b.v)
      (arg7.view.writes (Elt Ideal) arg7.view.junk sl.HS0_1) (arg8.view.writes (Elt Ideal) arg8.view.junk sl.HS1_1)
      (k0_pay13, k0_pay13) (k0_t1_loop i).trips).2.1 ++ sl.HS0_1) := by
    unfold sl.v41
    rw [readCov_all, t2]; rfl
  rw [er, ea]
  have hn : 2048 * (i 2).val + 512 * 0 = 512 * (k0_t1_loop i).trips := by rw [trips1]; ring
  rw [hn]
  exact H

/-- Head 0 after diagonal block 0, -/
theorem head0_diag0 (hb : b.Finite) :
    After b (i 2).val 0 (2048 * (i 2).val + 512 * 1) (fun t => (sl.r_3 c i arg3 harg3 arg4 harg4 arg5 harg5 arg6 harg6 arg7 harg7 arg8 harg8 b.q b.k b.v) (ix2 0 t))
      fun r t => View.canon (sl.HS0_1_1 c i arg3 harg3 arg4 harg4 arg5 harg5 arg6 harg6 arg7 harg7 arg8 harg8 b.q b.k b.v) (ix2 r t) := by
  have e : 2048 * (i 2).val + 512 * 1 = 2048 * (i 2).val + 512 * 0 + 512 := by ring
  unfold sl.HS0_1_1
  rw [View.canon_cons_unit_zero zero2, e]
  exact diag0_head0 hb rfl (keys_load b 0 harg4 (off9_eq i 0) (Facts₀.k0_off9_inb i 0)) (queries_load b 0 harg3 (o := 0) (w := 2048) rfl rfl inb_S1x2x128x2048_S1x1x128x2048_0_0_0_0) (vals_load b 0 harg5 (off10_eq i 0) (by show _ = 512 * (4 * (i 2).val + 0); omega) (Facts₀.k0_off10_inb i 0)) (head0_loop c i arg3 harg3 arg4 harg4 arg5 harg5 arg6 harg6 arg7 harg7 arg8 harg8 hb)

/-- after diagonal block 1, -/
theorem head0_diag1 (hb : b.Finite) :
    After b (i 2).val 0 (2048 * (i 2).val + 512 * 2) (fun t => (sl.r_9 c i arg3 harg3 arg4 harg4 arg5 harg5 arg6 harg6 arg7 harg7 arg8 harg8 b.q b.k b.v) (ix2 0 t))
      fun r t => View.canon (sl.HS0_2 c i arg3 harg3 arg4 harg4 arg5 harg5 arg6 harg6 arg7 harg7 arg8 harg8 b.q b.k b.v) (ix2 r t) := by
  have e : 2048 * (i 2).val + 512 * 2 = 2048 * (i 2).val + 512 * 1 + 512 := by ring
  rw [e]
  refine diag1_head0 hb rfl (keys_load b 0 harg4 (off9_eq i 1) (Facts₀.k0_off9_inb i 1)) (queries_load b 0 harg3 (o := 512) (w := 1536) rfl rfl inb_S1x2x128x2048_S1x1x128x1536_0_0_0_512) (vals_load b 0 harg5 (off10_eq i 1) (by show _ = 512 * (4 * (i 2).val + 1); omega) (Facts₀.k0_off10_inb i 1)) (A := sl.v108 c i arg3 harg3 arg4 harg4 arg5 harg5 arg6 harg6 arg7 harg7 arg8 harg8 b.q b.k b.v)
    (head0_diag0 c i arg3 harg3 arg4 harg4 arg5 harg5 arg6 harg6 arg7 harg7 arg8 harg8 hb) (fun r u => ?_) (fun r t ht => ?_) fun r u => ?_
  · unfold sl.v108
    exact readCov_cols _ rfl _ _ r u
  · exact canon_cols_lt _ _ _ r t ht
  · exact canon_cols_ge _ rfl _ _ r u

/-- after diagonal block 2, -/
theorem head0_diag2 (hb : b.Finite) :
    After b (i 2).val 0 (2048 * (i 2).val + 512 * 3) (fun t => (sl.r_17 c i arg3 harg3 arg4 harg4 arg5 harg5 arg6 harg6 arg7 harg7 arg8 harg8 b.q b.k b.v) (ix2 0 t))
      fun r t => View.canon (sl.HS0_3 c i arg3 harg3 arg4 harg4 arg5 harg5 arg6 harg6 arg7 harg7 arg8 harg8 b.q b.k b.v) (ix2 r t) := by
  have e : 2048 * (i 2).val + 512 * 3 = 2048 * (i 2).val + 512 * 2 + 512 := by ring
  rw [e]
  refine diag2_head0 hb rfl (keys_load b 0 harg4 (off9_eq i 2) (Facts₀.k0_off9_inb i 2)) (queries_load b 0 harg3 (o := 1024) (w := 1024) rfl rfl inb_S1x2x128x2048_S1x1x128x1024_0_0_0_1024) (vals_load b 0 harg5 (off10_eq i 2) (by show _ = 512 * (4 * (i 2).val + 2); omega) (Facts₀.k0_off10_inb i 2)) (A := sl.v180 c i arg3 harg3 arg4 harg4 arg5 harg5 arg6 harg6 arg7 harg7 arg8 harg8 b.q b.k b.v)
    (head0_diag1 c i arg3 harg3 arg4 harg4 arg5 harg5 arg6 harg6 arg7 harg7 arg8 harg8 hb) (fun r u => ?_) (fun r t ht => ?_) fun r u => ?_
  · unfold sl.v180
    exact readCov_cols _ rfl _ _ r u
  · exact canon_cols_lt _ _ _ r t ht
  · exact canon_cols_ge _ rfl _ _ r u

/-- after diagonal block 3, -/
theorem head0_diag3 (hb : b.Finite) :
    ∃ m', After b (i 2).val 0 (2048 * (i 2).val + 512 * 4) m'
      fun r t => View.canon (sl.HS0_4 c i arg3 harg3 arg4 harg4 arg5 harg5 arg6 harg6 arg7 harg7 arg8 harg8 b.q b.k b.v) (ix2 r t) := by
  have e : 2048 * (i 2).val + 512 * 4 = 2048 * (i 2).val + 512 * 3 + 512 := by ring
  rw [e]
  refine diag3_head0 hb rfl (keys_load b 0 harg4 (off9_eq i 3) (Facts₀.k0_off9_inb i 3)) (queries_load b 0 harg3 (o := 1536) (w := 512) rfl rfl inb_S1x2x128x2048_S1x1x128x512_0_0_0_1536) (vals_load b 0 harg5 (off10_eq i 3) (by show _ = 512 * (4 * (i 2).val + 3); omega) (Facts₀.k0_off10_inb i 3)) (A := sl.v252 c i arg3 harg3 arg4 harg4 arg5 harg5 arg6 harg6 arg7 harg7 arg8 harg8 b.q b.k b.v)
    (head0_diag2 c i arg3 harg3 arg4 harg4 arg5 harg5 arg6 harg6 arg7 harg7 arg8 harg8 hb) (fun r u => ?_) (fun r t ht => ?_) fun r u => ?_
  · unfold sl.v252
    exact readCov_cols _ rfl _ _ r u
  · exact canon_cols_lt _ _ _ r t ht
  · exact canon_cols_ge _ rfl _ _ r u

/-- and so, in the end, its accumulator holds the weighted sums over all the keys. -/
theorem head0_sums (hb : b.Finite) (r : Fin 80) (t : Fin 2048) :
    (sl.v295 c i arg3 harg3 arg4 harg4 arg5 harg5 arg6 harg6 arg7 harg7 arg8 harg8 b.q b.k b.v) (ix2 r t) = wsum (b.score (i 2).val 0 t) (b.val 0 r) 16384 := by
  obtain ⟨m', H⟩ := head0_diag3 c i arg3 harg3 arg4 harg4 arg5 harg5 arg6 harg6 arg7 harg7 arg8 harg8 hb
  unfold sl.v295
  rw [readCov_all]
  exact (H.all (i2_lt i)).sum_eq r t

/-- Head 1 once the keys before the tile are folded in. -/
theorem head1_loop (hb : b.Finite) :
    After b (i 2).val 1 (2048 * (i 2).val + 512 * 0) (fun t => (sl.r_1 c i arg3 harg3 arg4 harg4 arg5 harg5 arg6 harg6 arg7 harg7 arg8 harg8 b.q b.k b.v) (ix2 0 t))
      fun r t => (sl.v72 c i arg3 harg3 arg4 harg4 arg5 harg5 arg6 harg6 arg7 harg7 arg8 harg8 b.q b.k b.v) (ix2 r t) := by
  have H := (loop_after c i arg3 harg3 arg4 harg4 arg5 harg5 arg6 harg6 arg7 harg7 arg8 harg8 hb (k0_pay13, k0_pay13) sl.HS0_1 sl.HS1_1
    (start _ _ rfl) (start _ _ rfl) (k0_t1_loop i).trips le_rfl).2
  have t2 : Scf.trips (k0_t2_loop i).lb (k0_t2_loop i).ub (k0_t2_loop i).st = 0 := trips2 i
  have er : sl.r_1 c i arg3 harg3 arg4 harg4 arg5 harg5 arg6 harg6 arg7 harg7 arg8 harg8 b.q b.k b.v = (st_k0_t1 (F := Ideal) Variants.none c none i arg3 harg3 arg4 harg4 arg5 harg5 arg6 harg6 arg7 harg7 arg8 harg8 (harg3.unread b.q) (harg4.unread b.k) (harg5.unread b.v)
      (arg7.view.writes (Elt Ideal) arg7.view.junk sl.HS0_1) (arg8.view.writes (Elt Ideal) arg8.view.junk sl.HS1_1)
      (k0_pay13, k0_pay13) (k0_t1_loop i).trips).1.2 := by
    unfold sl.r_1
    rw [t2]; rfl
  have ea : sl.v72 c i arg3 harg3 arg4 harg4 arg5 harg5 arg6 harg6 arg7 harg7 arg8 harg8 b.q b.k b.v = View.canon ((st_k0_t1 (F := Ideal) Variants.none c none i arg3 harg3 arg4 harg4 arg5 harg5 arg6 harg6 arg7 harg7 arg8 harg8 (harg3.unread b.q) (harg4.unread b.k) (harg5.unread b.v)
      (arg7.view.writes (Elt Ideal) arg7.view.junk sl.HS0_1) (arg8.view.writes (Elt Ideal) arg8.view.junk sl.HS1_1)
      (k0_pay13, k0_pay13) (k0_t1_loop i).trips).2.2 ++ sl.HS1_1) := by
    unfold sl.v72
    rw [readCov_all, t2]; rfl
  rw [er, ea]
  have hn : 2048 * (i 2).val + 512 * 0 = 512 * (k0_t1_loop i).trips := by rw [trips1]; ring
  rw [hn]
  exact H

/-- Head 1 after diagonal block 0, -/
theorem head1_diag0 (hb : b.Finite) :
    After b (i 2).val 1 (2048 * (i 2).val + 512 * 1) (fun t => (sl.r_4 c i arg3 harg3 arg4 harg4 arg5 harg5 arg6 harg6 arg7 harg7 arg8 harg8 b.q b.k b.v) (ix2 0 t))
      fun r t => View.canon (sl.HS1_1_1 c i arg3 harg3 arg4 harg4 arg5 harg5 arg6 harg6 arg7 harg7 arg8 harg8 b.q b.k b.v) (ix2 r t) := by
  have e : 2048 * (i 2).val + 512 * 1 = 2048 * (i 2).val + 512 * 0 + 512 := by ring
  unfold sl.HS1_1_1
  rw [View.canon_cons_unit_zero zero2, e]
  exact diag0_head1 hb rfl (keys_load b 1 harg4 (off11_eq i 0) (Facts₀.k0_off11_inb i 0)) (queries_load b 1 harg3 (o := 0) (w := 2048) rfl rfl inb_S1x2x128x2048_S1x1x128x2048_0_1_0_0) (vals_load b 1 harg5 (off12_eq i 0) (by show _ = 512 * (4 * (i 2).val + 0); omega) (Facts₀.k0_off12_inb i 0)) (head1_loop c i arg3 harg3 arg4 harg4 arg5 harg5 arg6 harg6 arg7 harg7 arg8 harg8 hb)

/-- after diagonal block 1, -/
theorem head1_diag1 (hb : b.Finite) :
    After b (i 2).val 1 (2048 * (i 2).val + 512 * 2) (fun t => (sl.r_13 c i arg3 harg3 arg4 harg4 arg5 harg5 arg6 harg6 arg7 harg7 arg8 harg8 b.q b.k b.v) (ix2 0 t))
      fun r t => View.canon (sl.HS1_2 c i arg3 harg3 arg4 harg4 arg5 harg5 arg6 harg6 arg7 harg7 arg8 harg8 b.q b.k b.v) (ix2 r t) := by
  have e : 2048 * (i 2).val + 512 * 2 = 2048 * (i 2).val + 512 * 1 + 512 := by ring
  rw [e]
  refine diag1_head1 hb rfl (keys_load b 1 harg4 (off11_eq i 1) (Facts₀.k0_off11_inb i 1)) (queries_load b 1 harg3 (o := 512) (w := 1536) rfl rfl inb_S1x2x128x2048_S1x1x128x1536_0_1_0_512) (vals_load b 1 harg5 (off12_eq i 1) (by show _ = 512 * (4 * (i 2).val + 1); omega) (Facts₀.k0_off12_inb i 1)) (A := sl.v142 c i arg3 harg3 arg4 harg4 arg5 harg5 arg6 harg6 arg7 harg7 arg8 harg8 b.q b.k b.v)
    (head1_diag0 c i arg3 harg3 arg4 harg4 arg5 harg5 arg6 harg6 arg7 harg7 arg8 harg8 hb) (fun r u => ?_) (fun r t ht => ?_) fun r u => ?_
  · unfold sl.v142
    exact readCov_cols _ rfl _ _ r u
  · exact canon_cols_lt _ _ _ r t ht
  · exact canon_cols_ge _ rfl _ _ r u

/-- after diagonal block 2, -/
theorem head1_diag2 (hb : b.Finite) :
    After b (i 2).val 1 (2048 * (i 2).val + 512 * 3) (fun t => (sl.r_21 c i arg3 harg3 arg4 harg4 arg5 harg5 arg6 harg6 arg7 harg7 arg8 harg8 b.q b.k b.v) (ix2 0 t))
      fun r t => View.canon (sl.HS1_3 c i arg3 harg3 arg4 harg4 arg5 harg5 arg6 harg6 arg7 harg7 arg8 harg8 b.q b.k b.v) (ix2 r t) := by
  have e : 2048 * (i 2).val + 512 * 3 = 2048 * (i 2).val + 512 * 2 + 512 := by ring
  rw [e]
  refine diag2_head1 hb rfl (keys_load b 1 harg4 (off11_eq i 2) (Facts₀.k0_off11_inb i 2)) (queries_load b 1 harg3 (o := 1024) (w := 1024) rfl rfl inb_S1x2x128x2048_S1x1x128x1024_0_1_0_1024) (vals_load b 1 harg5 (off12_eq i 2) (by show _ = 512 * (4 * (i 2).val + 2); omega) (Facts₀.k0_off12_inb i 2)) (A := sl.v214 c i arg3 harg3 arg4 harg4 arg5 harg5 arg6 harg6 arg7 harg7 arg8 harg8 b.q b.k b.v)
    (head1_diag1 c i arg3 harg3 arg4 harg4 arg5 harg5 arg6 harg6 arg7 harg7 arg8 harg8 hb) (fun r u => ?_) (fun r t ht => ?_) fun r u => ?_
  · unfold sl.v214
    exact readCov_cols _ rfl _ _ r u
  · exact canon_cols_lt _ _ _ r t ht
  · exact canon_cols_ge _ rfl _ _ r u

/-- after diagonal block 3, -/
theorem head1_diag3 (hb : b.Finite) :
    ∃ m', After b (i 2).val 1 (2048 * (i 2).val + 512 * 4) m'
      fun r t => View.canon (sl.HS1_4 c i arg3 harg3 arg4 harg4 arg5 harg5 arg6 harg6 arg7 harg7 arg8 harg8 b.q b.k b.v) (ix2 r t) := by
  have e : 2048 * (i 2).val + 512 * 4 = 2048 * (i 2).val + 512 * 3 + 512 := by ring
  rw [e]
  refine diag3_head1 hb rfl (keys_load b 1 harg4 (off11_eq i 3) (Facts₀.k0_off11_inb i 3)) (queries_load b 1 harg3 (o := 1536) (w := 512) rfl rfl inb_S1x2x128x2048_S1x1x128x512_0_1_0_1536) (vals_load b 1 harg5 (off12_eq i 3) (by show _ = 512 * (4 * (i 2).val + 3); omega) (Facts₀.k0_off12_inb i 3)) (A := sl.v284 c i arg3 harg3 arg4 harg4 arg5 harg5 arg6 harg6 arg7 harg7 arg8 harg8 b.q b.k b.v)
    (head1_diag2 c i arg3 harg3 arg4 harg4 arg5 harg5 arg6 harg6 arg7 harg7 arg8 harg8 hb) (fun r u => ?_) (fun r t ht => ?_) fun r u => ?_
  · unfold sl.v284
    exact readCov_cols _ rfl _ _ r u
  · exact canon_cols_lt _ _ _ r t ht
  · exact canon_cols_ge _ rfl _ _ r u

/-- and so, in the end, its accumulator holds the weighted sums over all the keys. -/
theorem head1_sums (hb : b.Finite) (r : Fin 80) (t : Fin 2048) :
    (sl.v300 c i arg3 harg3 arg4 harg4 arg5 harg5 arg6 harg6 arg7 harg7 arg8 harg8 b.q b.k b.v) (ix2 r t) = wsum (b.score (i 2).val 1 t) (b.val 1 r) 16384 := by
  obtain ⟨m', H⟩ := head1_diag3 c i arg3 harg3 arg4 harg4 arg5 harg5 arg6 harg6 arg7 harg7 arg8 harg8 hb
  unfold sl.v300
  rw [readCov_all]
  exact (H.all (i2_lt i)).sum_eq r t

end Cert.Attn

end
-- ==== Proof.Out.lean ====
/-
  What one grid point leaves in the block of the result: of each of its two heads, the quotients of the weighted sums
  of the values by the sum of the weights, which are the softmax averages.
-/
module

public import proofs.«01_k».proof.Proof.Diag
public import proofs.«01_k».proof.Proof.Gen.KernelIdeal.Value

@[expose] public section

set_option maxRecDepth 16384

noncomputable section

namespace Cert.Attn

open Cert.Online Idealize.ShloMosaic Idealize.ShloMosaic.TcCoe Cert.KernelIdeal Cert.KernelIdeal.Gen Cert.KernelIdeal.Gen.kernelRun0_A

/-- The stored block: lane `l` is row `l` of the first head's sums over its row 64, and from lane 64 on the second's. -/
theorem pay2_at (x y : Vec Ideal S80x2048 .f32) (t : Fin 2048) (l : Fin 128) :
    k0_pay2 x y (ix3 0 t l) = if h : l.val < 64 then Ideal.div (x (ix2 ⟨l.val, by omega⟩ t)) (x (ix2 64 t))
      else Ideal.div (y (ix2 ⟨l.val - 64, by omega⟩ t)) (y (ix2 64 t)) := by
  pointwise [k0_pay2]

variable {b : Blk}

/-- Row 64 of the values is all ones. -/
def Blk.Ones (b : Blk) : Prop := ∀ h s, b.val h 64 s = 1

/-- Column `d` of the attention of column `t` of tile `q`. -/
def Blk.attn (b : Blk) (q : ℕ) (h : Fin 2) (t : Fin 2048) (d : Fin 64) : EReal :=
  ∑ s ∈ Finset.range 16384, b.val h (d.castLE (by norm_num)) s *
    Ideal.div (nat (b.score q h t) (Real.log 2) 16384 s)
      (∑ s ∈ Finset.range 16384, nat (b.score q h t) (Real.log 2) 16384 s)

/-- The quotient of the weighted sums is the average. -/
theorem Blk.average (hb : b.Finite) (h1 : b.Ones) (q : ℕ) (h : Fin 2) (t : Fin 2048) (d : Fin 64) (r : Fin 80) (hr : r.val = d.val) :
    Ideal.div (wsum (b.score q h t) (b.val h r) 16384) (wsum (b.score q h t) (b.val h 64) 16384) = b.attn q h t d := by
  obtain rfl : r = d.castLE (by norm_num) := Fin.ext hr
  have e : b.val h 64 = fun _ => 1 := funext fun s => h1 h s
  rw [e]
  exact quotient (hb.score_ne_top q h t) (s₀ := 0) (by norm_num) (hb.score_ne_bot (Nat.zero_le _))

variable (c : Dev nD) (i : grid0.Coords)
variable (arg3 : Memref sig .tc .vmem S1x2x128x2048 .bf16) (harg3 : arg3.IsWhole)
variable (arg4 : Memref sig .tc .vmem S1x2x16384x128 .bf16) (harg4 : arg4.IsWhole)
variable (arg5 : Memref sig .tc .vmem S1x2x32x80x512 .bf16) (harg5 : arg5.IsWhole)
variable (arg6 : Memref sig .tc .vmem S1x2048x128 .bf16) (harg6 : arg6.IsWhole)
variable (arg7 : Memref sig .tc .vmem S80x2048 .f32) (harg7 : arg7.IsWhole)
variable (arg8 : Memref sig .tc .vmem S80x2048 .f32) (harg8 : arg8.IsWhole)

/-- The block a grid point leaves is its one store's. -/
theorem out_eq_pay2 (x0 : Vec Ideal S1x2x128x2048 .bf16) (x1 : Vec Ideal S1x2x16384x128 .bf16) (x2 : Vec Ideal S1x2x32x80x512 .bf16) :
    out0_A_3 c i arg3 harg3 arg4 harg4 arg5 harg5 arg6 harg6 arg7 harg7 arg8 harg8 x0 x1 x2
      = k0_pay2 (sl.v295 c i arg3 harg3 arg4 harg4 arg5 harg5 arg6 harg6 arg7 harg7 arg8 harg8 x0 x1 x2)
          (sl.v300 c i arg3 harg3 arg4 harg4 arg5 harg5 arg6 harg6 arg7 harg7 arg8 harg8 x0 x1 x2) := by
  unfold out0_A_3
  rw [View.read_writes_eq_canon _ _ _ (cover0_A_3 c i arg3 harg3 arg4 harg4 arg5 harg5 arg6 harg6 arg7 harg7 arg8 harg8 x0 x1 x2)]
  unfold kernelRun0_A
  dsimp only
  rw [View.canon_unit_zero zero3]

/-- The block of the result, entry by entry: lane `64 h + d` of row `t` is column `d` of head `h`'s attention. -/
theorem out_at (hb : b.Finite) (h1 : b.Ones) (t : Fin 2048) (l : Fin 128) :
    out0_A_3 c i arg3 harg3 arg4 harg4 arg5 harg5 arg6 harg6 arg7 harg7 arg8 harg8 b.q b.k b.v (ix3 0 t l)
      = b.attn (i 2).val ⟨l.val / 64, by omega⟩ t ⟨l.val % 64, Nat.mod_lt _ (by norm_num)⟩ := by
  rw [out_eq_pay2, pay2_at]
  split
  · next h =>
    rw [head0_sums c i arg3 harg3 arg4 harg4 arg5 harg5 arg6 harg6 arg7 harg7 arg8 harg8 hb,
      head0_sums c i arg3 harg3 arg4 harg4 arg5 harg5 arg6 harg6 arg7 harg7 arg8 harg8 hb]
    have e : (⟨l.val / 64, by omega⟩ : Fin 2) = 0 := Fin.ext (show l.val / 64 = 0 by omega)
    rw [e]
    exact Blk.average hb h1 _ _ _ _ _ (show l.val = l.val % 64 by omega)
  · next h =>
    rw [head1_sums c i arg3 harg3 arg4 harg4 arg5 harg5 arg6 harg6 arg7 harg7 arg8 harg8 hb,
      head1_sums c i arg3 harg3 arg4 harg4 arg5 harg5 arg6 harg6 arg7 harg7 arg8 harg8 hb]
    have e : (⟨l.val / 64, by omega⟩ : Fin 2) = 1 := Fin.ext (show l.val / 64 = 1 by omega)
    rw [e]
    exact Blk.average hb h1 _ _ _ _ _ (show l.val - 64 = l.val % 64 by omega)

end Cert.Attn

end
-- ==== Proof.Target.lean ====
/-
  The causal attention of whole arrays, as mathematics: what every entry of the result is.
-/
module

public import proofs.«01_k».proof.Proof.Online
public import proofs.«01_k».proof.KernelIdeal
public import Idealize.ShloMosaic.Lib.Pointwise

@[expose] public section

noncomputable section

namespace Cert.Attn

open Idealize.ShloMosaic Cert.KernelIdeal Cert.Online

/-- The arguments: the queries (column by position), the keys, and the values in pages of 512 keys. -/
structure Args where
  q : Vec Ideal S2x8x128x16384 .bf16
  k : Vec Ideal S2x8x16384x128 .bf16
  v : Vec Ideal S2x8x32x80x512 .bf16

variable (a : Args)

/-- Key `s` against query `t`, of head `h` of sequence `n`. -/
def Args.dot (n : Fin 2) (h : Fin 8) (t : Fin 16384) (s : ℕ) : EReal :=
  ∑ d : Fin 128, a.k (ix4 n h ⟨s % 16384, Nat.mod_lt _ (by norm_num)⟩ d) * a.q (ix4 n h d t)

/-- Row `r` of the values of key `s`. -/
def Args.val (n : Fin 2) (h : Fin 8) (r : Fin 80) (s : ℕ) : EReal :=
  a.v (ix5 n h ⟨s / 512 % 32, Nat.mod_lt _ (by norm_num)⟩ r ⟨s % 512, Nat.mod_lt _ (by norm_num)⟩)

/-- The masked score: query `t` sees the keys up to its own position. -/
def Args.score (n : Fin 2) (h : Fin 8) (t : Fin 16384) (s : ℕ) : EReal :=
  if s ≤ t then a.dot n h t s else ⊥

/-- Column `d` of the attention of query `t`: the softmax average (base `e` of the score times `log 2`) of the values. -/
def Args.attn (n : Fin 2) (h : Fin 8) (t : Fin 16384) (d : Fin 64) : EReal :=
  ∑ s ∈ Finset.range 16384, a.val n h (d.castLE (by norm_num)) s *
    Ideal.div (nat (a.score n h t) (Real.log 2) 16384 s)
      (∑ s ∈ Finset.range 16384, nat (a.score n h t) (Real.log 2) 16384 s)

/-- The whole result: lane `64 h + d` is column `d` of head `h`. -/
def Args.result : Vec Ideal S2x16384x512 .bf16 := fun i =>
  a.attn (i 0) ⟨(i 2).val / 64, by have : (i 2).val < 512 := (i 2).isLt; omega⟩ (i 1) ⟨(i 2).val % 64, Nat.mod_lt _ (by norm_num)⟩

theorem Args.result_at (n : Fin 2) (t : Fin 16384) (l : Fin 512) :
    a.result (ix3 n t l) = a.attn n ⟨l.val / 64, by omega⟩ t ⟨l.val % 64, Nat.mod_lt _ (by norm_num)⟩ := rfl

/-- An index of three axes is its three coordinates. -/
theorem eq_ix3 {x y z : ℕ} (i : Shape.Idx ⟨3, ![x, y, z]⟩) : i = ix3 (i 0) (i 1) (i 2) := by
  funext d
  match d with
  | ⟨0, _⟩ => rfl
  | ⟨1, _⟩ => rfl
  | ⟨2, _⟩ => rfl

end Cert.Attn

end
-- ==== Proof.Whole.lean ====
/-
  From grid points to whole arrays: each point's blocks are slices of the arguments, and the blocks it leaves tile the
  result, so the result is the attention of the whole arrays.
-/
module

public import proofs.«01_k».proof.Proof.Out
public import proofs.«01_k».proof.Proof.Target
public import Idealize.ShloMosaic.Lib.Pipeline.Value

@[expose] public section

set_option maxRecDepth 16384

noncomputable section

namespace Cert.Attn

open Cert.Online Idealize.ShloMosaic Idealize.ShloMosaic.TcCoe Cert.KernelIdeal Cert.KernelIdeal.Gen Idealize.SL.Sem
open Idealize.ShloMosaic.Pipeline (Dat)

variable (m : (ℓ : Loc nD τ sig) → Buf (Elt Ideal) ℓ) (ρ : Dev nD → PrngReg) (c : Dev nD)

/-- Every score is a real number. -/
def Args.Finite (a : Args) : Prop := ∀ n h t s, a.dot n h t s ≠ ⊤ ∧ a.dot n h t s ≠ ⊥

/-- Row 64 of the values is all ones. -/
def Args.Ones (a : Args) : Prop := ∀ n h s, a.val n h 64 s = 1

/-- The arguments of device `c`. -/
def argsOf : Args :=
  ⟨m ((c : Thread nD τ).loc main_arg0), m ((c : Thread nD τ).loc main_arg1), m ((c : Thread nD τ).loc main_arg2)⟩

/-- The blocks point `t` reads. -/
def blkOf (t : Fin cfg0.N) : Blk := ⟨iblk m c 0 t, iblk m c 1 t, iblk m c 2 t⟩

/-- The block indices of the four windows, at the grid's coordinates. -/
theorem index_eq : ∀ t : Fin grid0.N,
    win0_0.index t = ![(grid0.coords t 0).val, (grid0.coords t 1).val, 0, (grid0.coords t 2).val]
    ∧ win0_1.index t = ![(grid0.coords t 0).val, (grid0.coords t 1).val, 0, 0]
    ∧ win0_2.index t = ![(grid0.coords t 0).val, (grid0.coords t 1).val, 0, 0, 0]
    ∧ win0_3.index t = ![(grid0.coords t 0).val, (grid0.coords t 2).val, (grid0.coords t 1).val] := by decide +kernel

section

variable (t : Fin cfg0.N)

/-- The sequence, the head and the query that a point's head `h` and column `u` are. -/
def seqAt : Fin 2 := grid0.coords t 0
def headAt (h : Fin 2) : Fin 8 := ⟨2 * (grid0.coords t 1).val + h.val, by have : (grid0.coords t 1).val < 4 := (grid0.coords t 1).isLt; omega⟩
def posAt (u : Fin 2048) : Fin 16384 := ⟨2048 * (grid0.coords t 2).val + u.val, by have : (grid0.coords t 2).val < 8 := (grid0.coords t 2).isLt; omega⟩

theorem q_at (h : Fin 2) (d : Fin 128) (u : Fin 2048) :
    (blkOf m c t).q (ix4 0 h d u) = (argsOf m c).q (ix4 (seqAt t) (headAt t h) d (posAt t u)) := by
  have hi := (index_eq t).1
  show iblk m c 0 t _ = _
  unfold iblk
  rw [View.read_apply]
  show V m c main_arg0 _ = m ((c : Thread nD τ).loc main_arg0) _
  unfold V
  congr 1
  funext a
  apply Fin.ext
  match a with
  | ⟨0, _⟩ => show win0_0.index t 0 * 1 + 1 * 0 = (grid0.coords t 0).val; rw [hi]; show (grid0.coords t 0).val * 1 + 1 * 0 = _; omega
  | ⟨1, _⟩ => show win0_0.index t 1 * 2 + 1 * h.val = 2 * (grid0.coords t 1).val + h.val; rw [hi]; show (grid0.coords t 1).val * 2 + 1 * h.val = _; omega
  | ⟨2, _⟩ => show win0_0.index t 2 * 128 + 1 * d.val = d.val; rw [hi]; show 0 * 128 + 1 * d.val = _; omega
  | ⟨3, _⟩ => show win0_0.index t 3 * 2048 + 1 * u.val = 2048 * (grid0.coords t 2).val + u.val; rw [hi]; show (grid0.coords t 2).val * 2048 + 1 * u.val = _; omega

theorem k_at (h : Fin 2) (s : Fin 16384) (d : Fin 128) :
    (blkOf m c t).k (ix4 0 h s d) = (argsOf m c).k (ix4 (seqAt t) (headAt t h) s d) := by
  have hi := (index_eq t).2.1
  show iblk m c 1 t _ = _
  unfold iblk
  rw [View.read_apply]
  show V m c main_arg1 _ = m ((c : Thread nD τ).loc main_arg1) _
  unfold V
  congr 1
  funext a
  apply Fin.ext
  match a with
  | ⟨0, _⟩ => show win0_1.index t 0 * 1 + 1 * 0 = (grid0.coords t 0).val; rw [hi]; show (grid0.coords t 0).val * 1 + 1 * 0 = _; omega
  | ⟨1, _⟩ => show win0_1.index t 1 * 2 + 1 * h.val = 2 * (grid0.coords t 1).val + h.val; rw [hi]; show (grid0.coords t 1).val * 2 + 1 * h.val = _; omega
  | ⟨2, _⟩ => show win0_1.index t 2 * 16384 + 1 * s.val = s.val; rw [hi]; show 0 * 16384 + 1 * s.val = _; omega
  | ⟨3, _⟩ => show win0_1.index t 3 * 128 + 1 * d.val = d.val; rw [hi]; show 0 * 128 + 1 * d.val = _; omega

theorem v_at (h : Fin 2) (p : Fin 32) (r : Fin 80) (l : Fin 512) :
    (blkOf m c t).v (ix5 0 h p r l) = (argsOf m c).v (ix5 (seqAt t) (headAt t h) p r l) := by
  have hi := (index_eq t).2.2.1
  show iblk m c 2 t _ = _
  unfold iblk
  rw [View.read_apply]
  show V m c main_arg2 _ = m ((c : Thread nD τ).loc main_arg2) _
  unfold V
  congr 1
  funext a
  apply Fin.ext
  match a with
  | ⟨0, _⟩ => show win0_2.index t 0 * 1 + 1 * 0 = (grid0.coords t 0).val; rw [hi]; show (grid0.coords t 0).val * 1 + 1 * 0 = _; omega
  | ⟨1, _⟩ => show win0_2.index t 1 * 2 + 1 * h.val = 2 * (grid0.coords t 1).val + h.val; rw [hi]; show (grid0.coords t 1).val * 2 + 1 * h.val = _; omega
  | ⟨2, _⟩ => show win0_2.index t 2 * 32 + 1 * p.val = p.val; rw [hi]; show 0 * 32 + 1 * p.val = _; omega
  | ⟨3, _⟩ => show win0_2.index t 3 * 80 + 1 * r.val = r.val; rw [hi]; show 0 * 80 + 1 * r.val = _; omega
  | ⟨4, _⟩ => show win0_2.index t 4 * 512 + 1 * l.val = l.val; rw [hi]; show 0 * 512 + 1 * l.val = _; omega

theorem dot_blk (h : Fin 2) (u : Fin 2048) (s : ℕ) :
    (blkOf m c t).dot h u s = (argsOf m c).dot (seqAt t) (headAt t h) (posAt t u) s := by
  unfold Blk.dot Args.dot
  simp only [q_at, k_at]

theorem val_blk (h : Fin 2) (r : Fin 80) (s : ℕ) :
    (blkOf m c t).val h r s = (argsOf m c).val (seqAt t) (headAt t h) r s := by
  unfold Blk.val Args.val
  rw [v_at]

theorem score_blk (h : Fin 2) (u : Fin 2048) :
    (blkOf m c t).score (grid0.coords t 2).val h u = (argsOf m c).score (seqAt t) (headAt t h) (posAt t u) := by
  funext s
  unfold Blk.score Args.score
  rw [dot_blk]
  rfl

theorem attn_blk (h : Fin 2) (u : Fin 2048) (d : Fin 64) :
    (blkOf m c t).attn (grid0.coords t 2).val h u d = (argsOf m c).attn (seqAt t) (headAt t h) (posAt t u) d := by
  unfold Blk.attn Args.attn
  simp only [score_blk, val_blk]

theorem finite_blk (ha : (argsOf m c).Finite) : (blkOf m c t).Finite := fun h u s => by
  rw [dot_blk]; exact ha _ _ _ _

theorem ones_blk (ha : (argsOf m c).Ones) : (blkOf m c t).Ones := fun h s => by
  rw [val_blk]; exact ha _ _ _

/-- What point `t` writes back is its block of the whole result. -/
theorem flushed_eq (ha : (argsOf m c).Finite) (h1 : (argsOf m c).Ones) :
    (dats m 0 c).flushed 3 t = ((cfg0.win 3).blk t).view.read (Elt Ideal) ((argsOf m c).result) := by
  rw [Value.flushed3_A]
  funext j
  obtain ⟨z, u, l, rfl⟩ : ∃ (z : Fin 1) (u : Fin 2048) (l : Fin 128), j = ix3 z u l := ⟨j 0, j 1, j 2, eq_ix3 (x := 1) (y := 2048) (z := 128) j⟩
  obtain rfl : z = 0 := Subsingleton.elim _ _
  rw [View.read_apply]
  refine (out_at (b := blkOf m c t) c (grid0.coords t) (ms0_0 t) (hs0_0 t) (ms0_1 t) (hs0_1 t) (ms0_2 t) (hs0_2 t) (ms0_3 t) (hs0_3 t) scM0_0 (Memref.isWhole_whole _) scM0_1 (Memref.isWhole_whole _) (finite_blk m c t ha) (ones_blk m c t h1) u l).trans ?_
  rw [attn_blk]
  have hi := (index_eq t).2.2.2
  have hp : (grid0.coords t 1).val < 4 := (grid0.coords t 1).isLt
  have e : (argsOf m c).attn (seqAt t) (headAt t ⟨l.val / 64, by omega⟩) (posAt t u) ⟨l.val % 64, Nat.mod_lt _ (by norm_num)⟩
      = (argsOf m c).result (ix3 (seqAt t) (posAt t u) (⟨128 * (grid0.coords t 1).val + l.val, by omega⟩ : Fin 512)) := by
    rw [Args.result_at]
    congr 1
    · exact Fin.ext (show 2 * (grid0.coords t 1).val + l.val / 64 = (128 * (grid0.coords t 1).val + l.val) / 64 by omega)
    · exact Fin.ext (show l.val % 64 = (128 * (grid0.coords t 1).val + l.val) % 64 by omega)
  rw [e]
  generalize (argsOf m c).result = R
  refine congrArg R (funext fun a => Fin.ext ?_)
  match a with
  | ⟨0, _⟩ => show (grid0.coords t 0).val = win0_3.index t 0 * 1 + 1 * 0; rw [hi]; show _ = (grid0.coords t 0).val * 1 + 1 * 0; omega
  | ⟨1, _⟩ => show 2048 * (grid0.coords t 2).val + u.val = win0_3.index t 1 * 2048 + 1 * u.val; rw [hi]; show _ = (grid0.coords t 2).val * 2048 + 1 * u.val; omega
  | ⟨2, _⟩ => show 128 * (grid0.coords t 1).val + l.val = win0_3.index t 2 * 128 + 1 * l.val; rw [hi]; show _ = (grid0.coords t 1).val * 128 + 1 * l.val; omega

end

/-- Every triple of coordinates is some point's. -/
theorem point_at : ∀ (n : Fin 2) (p : Fin 4) (q : Fin 8), ∃ t : Fin grid0.N,
    (grid0.coords t 0).val = n.val ∧ (grid0.coords t 1).val = p.val ∧ (grid0.coords t 2).val = q.val := by decide +kernel

/-- Every entry of the result is in some point's block. -/
theorem cover (i : S2x16384x512.Idx) : ∃ t : Fin cfg0.N, (cfg0.win 3).flush t = true ∧ i ∈ ((cfg0.win 3).blk t).view.set := by
  have h0 : (i 0).val < 2 := (i 0).isLt
  have h1 : (i 1).val < 16384 := (i 1).isLt
  have h2 : (i 2).val < 512 := (i 2).isLt
  obtain ⟨t, e0, e1, e2⟩ := point_at ⟨(i 0).val, h0⟩ ⟨(i 2).val / 128, by omega⟩ ⟨(i 1).val / 2048, by omega⟩
  refine ⟨t, flush0_3 t, ?_⟩
  show i ∈ ((View.whole main_v0).slice (win0_3.rect t)).set
  rw [View.set_slice_whole, Rect.mem_set_unit]
  have hi := (index_eq t).2.2.2
  dsimp only at e0 e1 e2
  intro a
  match a with
  | ⟨0, _⟩ =>
    show win0_3.index t 0 * 1 ≤ (i 0).val ∧ (i 0).val < win0_3.index t 0 * 1 + 1
    rw [hi]; show (grid0.coords t 0).val * 1 ≤ _ ∧ _ < (grid0.coords t 0).val * 1 + 1; omega
  | ⟨1, _⟩ =>
    show win0_3.index t 1 * 2048 ≤ (i 1).val ∧ (i 1).val < win0_3.index t 1 * 2048 + 2048
    rw [hi]; show (grid0.coords t 2).val * 2048 ≤ _ ∧ _ < (grid0.coords t 2).val * 2048 + 2048; omega
  | ⟨2, _⟩ =>
    show win0_3.index t 2 * 128 ≤ (i 2).val ∧ (i 2).val < win0_3.index t 2 * 128 + 128
    rw [hi]; show (grid0.coords t 1).val * 128 ≤ _ ∧ _ < (grid0.coords t 1).val * 128 + 128; omega

/-- So the result array ends as the attention of the whole arrays, -/
theorem final (ha : (argsOf m c).Finite) (h1 : (argsOf m c).Ones) : (dats m 0 c).arrAt 3 cfg0.N = (argsOf m c).result :=
  (dats m 0 c).arrAt_eq_of_cover 3 (argsOf m c).result (fun t _ => flushed_eq m c t ha h1) cover

end Cert.Attn

end
-- ==== Proof.Given.lean ====
/-
  What the precondition says: the queries and the keys are finite, so that every score is a real number, and row 64 of
  the values is all ones.
-/
module

public import proofs.«01_k».proof.Defs
public import proofs.«01_k».proof.Proof.Whole
public import proofs.«01_k».proof.Proof.Gen.Pre_finite_ones
public import Idealize.ShloMosaic.Lib.ReduceAll
public import Idealize.ShloMosaic.Lib.Pointwise

@[expose] public section

set_option maxRecDepth 16384

noncomputable section

namespace Cert.Attn.Given

open Idealize.ShloMosaic Idealize.ShloMosaic.TcCoe Cert.Pre_finite_ones

/-- Infinity and one as they are printed. -/
theorem inf : Ideal.ofBits .f32 0x7F800000#32 = ⊤ := by
  simp [Ideal.ofBits, Ideal.ieee]

/-- A comparison's bit that is set is a comparison that holds. -/
theorem of_bit {p : Prop} [Decidable p] (h : BitVec.ofBool (decide p) = 1#1) : p := by
  by_contra hp
  simp [hp] at h

section

variable {S : Shape}

/-- An array all of whose absolute values are below infinity is finite. -/
theorem finite_at (x : FVec Ideal S .bf16) (hb) (h) (i : S.Idx)
    (e : cmpf .olt (Host.absf (extf .f32 x hb)) (broadcastInDim S ![] h (constant (F := Ideal) S_ .f32 0x7F800000#32)) i = 1#1) :
    x i ≠ ⊤ ∧ x i ≠ ⊥ := by
  have e' : BitVec.ofBool (decide (max (x i) (-(x i)) < Ideal.ofBits .f32 0x7F800000#32)) = 1#1 := e
  have := of_bit e'
  rw [inf] at this
  refine ⟨fun h => ?_, fun h => ?_⟩ <;> rw [h] at this <;> simp at this

/-- An array that compares equal to one is one. -/
theorem one_at (x : FVec Ideal S .bf16) (hb) (h) (i : S.Idx)
    (e : cmpf .oeq (extf .f32 x hb) (broadcastInDim S ![] h (constant (F := Ideal) S_ .f32 0x3F800000#32)) i = 1#1) :
    x i = 1 := by
  have e' : BitVec.ofBool (decide (x i = Ideal.ofBits .f32 0x3F800000#32)) = 1#1 := e
  have := of_bit e'
  rwa [Ideal.ofBits_one_f32] at this

end

instance : Subsingleton S_.Idx := ⟨fun i j => funext fun a => a.elim0⟩

/-- The precondition, opened. -/
theorem opened {Q : FVec Ideal S2x8x128x16384 .bf16} {K : FVec Ideal S2x8x16384x128 .bf16} {W : FVec Ideal S2x8x32x80x512 .bf16}
    (h : fn (F := Ideal) Q K W = fun _ => 1#1) :
    (∀ i, Q i ≠ ⊤ ∧ Q i ≠ ⊥) ∧ (∀ i, K i ≠ ⊤ ∧ K i ≠ ⊥)
      ∧ ∀ i, shapeCast S2x8x32x512 (extractStridedSlice S2x8x32x1x512 ![0, 0, 0, 64, 0] W Facts.slices_S2x8x32x80x512_S2x8x32x1x512_0_0_0_64_0) Facts.shapeCasts_S2x8x32x1x512_S2x8x32x512 i = (1 : EReal) := by
  have h0 := congrFun h ix0
  unfold fn at h0
  dsimp only at h0
  rw [WordCmp.andi_at, WordCmp.andi_at] at h0
  obtain ⟨h1, h3⟩ := IntOp.andi_eq_one.1 h0
  obtain ⟨h1, h2⟩ := IntOp.andi_eq_one.1 h1
  refine ⟨fun i => ?_, fun i => ?_, fun i => ?_⟩
  · exact finite_at _ _ _ i (Host.reduce_andi_all _ _ _ _ _ h1 i)
  · exact finite_at _ _ _ i (Host.reduce_andi_all _ _ _ _ _ h2 i)
  · exact one_at _ _ _ i (Host.reduce_andi_all _ _ _ _ _ h3 i)

/-- Row 64 of the values, by page. -/
theorem ones_row (W : FVec Ideal S2x8x32x80x512 .bf16) (h1) (h2) (n : Fin 2) (h : Fin 8) (p : Fin 32) (l : Fin 512) :
    shapeCast S2x8x32x512 (extractStridedSlice S2x8x32x1x512 ![0, 0, 0, 64, 0] W h1) h2 (ix4 n h p l) = W (ix5 n h p 64 l) := by
  pointwise

/-- A finite sum of products of real numbers is a real number. -/
theorem sum_real {n : ℕ} (f g : Fin n → EReal) (hf : ∀ i, f i ≠ ⊤ ∧ f i ≠ ⊥) (hg : ∀ i, g i ≠ ⊤ ∧ g i ≠ ⊥) :
    (∑ i, f i * g i) ≠ ⊤ ∧ (∑ i, f i * g i) ≠ ⊥ := by
  refine Finset.sum_induction _ (fun x : EReal => x ≠ ⊤ ∧ x ≠ ⊥) ?_ ⟨EReal.zero_ne_top, EReal.zero_ne_bot⟩ fun i _ => ?_
  · rintro x y hx hy
    lift x to ℝ using hx
    lift y to ℝ using hy
    rw [← EReal.coe_add]
    exact ⟨EReal.coe_ne_top _, EReal.coe_ne_bot _⟩
  · obtain ⟨hx, hy⟩ := And.intro (hf i) (hg i)
    generalize f i = x at hx
    generalize g i = y at hy
    lift x to ℝ using hx
    lift y to ℝ using hy
    rw [← EReal.coe_mul]
    exact ⟨EReal.coe_ne_top _, EReal.coe_ne_bot _⟩

variable {m : (ℓ : Loc Cert.KernelIdeal.nD Cert.KernelIdeal.τ Cert.KernelIdeal.sig) → Buf (Elt Ideal) ℓ}

/-- Under the precondition every score is a real number, -/
theorem finite (h : Cert.Pre_KernelIdeal_finite_ones m) (c : Dev Cert.KernelIdeal.nD) : (argsOf m c).Finite := by
  obtain ⟨hq, hk, -⟩ := opened (h c)
  intro n hd t s
  exact sum_real _ _ (fun d => hk _) fun d => hq _

/-- and row 64 of the values all ones. -/
theorem ones (h : Cert.Pre_KernelIdeal_finite_ones m) (c : Dev Cert.KernelIdeal.nD) : (argsOf m c).Ones := by
  obtain ⟨-, -, hv⟩ := opened (h c)
  intro n hd s
  exact (ones_row _ _ _ n hd _ _).symm.trans (hv _)

end Cert.Attn.Given

end
-- ==== Proof.Reference.lean ====
/-
  The reference, entry by entry: its masked scaled scores, its softmax, and the average of the values, which is the
  attention of the whole arrays.
-/
module

public import proofs.«01_k».proof.Proof.Target
public import proofs.«01_k».proof.Proof.Gen.ReferenceIdeal.Run
public import Idealize.ShloMosaic.Lib.Pointwise
public import Idealize.ShloMosaic.Lib.WordCmp

@[expose] public section

set_option maxRecDepth 16384

noncomputable section

namespace Cert.Attn.Ref

open Idealize.ShloMosaic Idealize.ShloMosaic.TcCoe Cert.ReferenceIdeal Cert.ReferenceIdeal.Gen Cert.Online

/-- Two as it is printed. -/
theorem two : Ideal.ofBits .f32 0x40000000#32 = ((2 : ℝ) : EReal) := by
  simp [Ideal.ofBits, Ideal.ieee]
  rw [← EReal.coe_mul]
  norm_num

/-- A maximum over indices below `n`. -/
theorem fold_sup {n : ℕ} (f : ℕ → EReal) : (Finset.univ.fold max ⊥ fun s : Fin n => f s) = (Finset.range n).sup f := by
  apply le_antisymm
  · refine Finset.sup_le fun k _ => ?_
    exact Finset.le_sup (f := f) (Finset.mem_range.mpr k.isLt)
  · refine Finset.sup_le fun k hk => ?_
    exact Finset.le_sup (f := fun s : Fin n => f s) (Finset.mem_univ (⟨k, Finset.mem_range.mp hk⟩ : Fin n))

/-- Minus infinity as it is printed. -/
theorem negInf : Ideal.ofBits .f32 0xFF800000#32 = ⊥ := by
  simp [Ideal.ofBits, Ideal.ieee]

section

variable {S : Shape}

/-! The elementwise operations at an index, for any shape. -/

theorem exp_sub_at (x y : FVec Ideal S .f32) (i : S.Idx) : Host.exp (subf x y) i = Ideal.exp (x i - y i) := rfl
theorem div_at (x y : FVec Ideal S .f32) (i : S.Idx) : Host.divf x y i = Ideal.div (x i) (y i) := rfl
theorem max_at (x y : FVec Ideal S .f32) (i : S.Idx) : maximumf x y i = max (x i) (y i) := rfl
theorem mul_at (x y : FVec Ideal S .f32) (i : S.Idx) : mulf x y i = x i * y i := rfl
theorem select_at (c : IVec S 1) (x y : FVec Ideal S .f32) (i : S.Idx) : select c x y i = Scalar.select (c i) (x i) (y i) := rfl
theorem trunc_at (x : FVec Ideal S .f32) (i : S.Idx) (h) : truncf .bf16 x h i = x i := rfl

/-- One value laid over a shape. -/
theorem fill_at (h) (x : FVec Ideal S_ .f32) (i : S.Idx) (v : EReal) (hv : ∀ j, x j = v) :
    broadcastInDim S ![] h x i = v := hv _

end

/-- The products of queries and keys. -/
theorem dots (Q : FVec Ideal S2x8x128x16384 .bf16) (K : FVec Ideal S2x8x16384x128 .bf16) (n : Fin 2) (h : Fin 8) (t s : Fin 16384) :
    Host.dotGeneral dot_S2x8x128x16384_S2x8x16384x128_S2x8x16384x16384_2_3_3_2_01_01 none Q K (ix4 n h t s)
      = ∑ d, Q (ix4 n h d t) * K (ix4 n h s d) := by
  pointwise [dot_S2x8x128x16384_S2x8x16384x128_S2x8x16384x16384_2_3_3_2_01_01]

/-- The causal mask. -/
def mask : IVec S2x8x16384x16384 1 :=
  broadcastInDim S2x8x16384x16384 ![2, 3] bcast_S16384x16384_S2x8x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

theorem mask_at (n : Fin 2) (h : Fin 8) (t s : Fin 16384) :
    mask (ix4 n h t s) = IntOp.cmpi .sle (BitVec.ofNat 32 s) (BitVec.ofNat 32 t) := by
  unfold mask
  pointwise

/-- The scale is the natural logarithm of two. -/
theorem scale (n : Fin 2) (h : Fin 8) (t s : Fin 16384) :
    broadcastInDim S2x8x16384x16384 ![] bcast_S_S2x8x16384x16384 (Host.log (constant (F := Ideal) S_ .f32 0x40000000#32)) (ix4 n h t s) = ((Real.log 2 : ℝ) : EReal) := by
  refine fill_at _ _ _ _ fun j => ?_
  show Ideal.log (Ideal.ofBits .f32 0x40000000#32) = _
  rw [two, Ideal.log_coe, if_neg (by norm_num)]

/-- Minus infinity, everywhere. -/
theorem bots {S : Shape} (h) (i : S.Idx) : broadcastInDim S ![] h (constant (F := Ideal) S_ .f32 0xFF800000#32) i = (⊥ : EReal) :=
  fill_at _ _ _ _ fun _ => negInf

/-- The row maxima. -/
theorem rowMax (x : FVec Ideal S2x8x16384x16384 .f32) (n : Fin 2) (h : Fin 8) (t : Fin 16384) :
    Host.reduce FloatOps.maximumf x (constant S_ .f32 0xFF800000#32) reducesTo_S2x8x16384x16384_S2x8x16384_d3 h_S_ (ix3 n h t)
      = Finset.univ.fold max ⊥ fun s => x (ix4 n h t s) := by
  pointwise
  rw [negInf]

/-- The row sums. -/
theorem rowSum (x : FVec Ideal S2x8x16384x16384 .f32) (n : Fin 2) (h : Fin 8) (t : Fin 16384) :
    Host.reduceAdd x (constant S_ .f32 0x00000000#32) reducesTo_S2x8x16384x16384_S2x8x16384_d3 h_S_ (ix3 n h t)
      = ∑ s, x (ix4 n h t s) := by
  pointwise

/-- A row value laid over its row. -/
theorem spread {φ : FTy} (x : FVec Ideal S2x8x16384 φ) (n : Fin 2) (h : Fin 8) (t s : Fin 16384) :
    broadcastInDim S2x8x16384x16384 ![0, 1, 2, 3] bcast_S2x8x16384x1_S2x8x16384x16384_0_1_2_3 (broadcastInDim S2x8x16384x1 ![0, 1, 2] bcast_S2x8x16384_S2x8x16384x1_0_1_2 x) (ix4 n h t s) = x (ix3 n h t) := by
  pointwise

/-- The values, with rows and keys exchanged in each page, -/
theorem page (V : FVec Ideal S2x8x32x80x512 .bf16) (n : Fin 2) (h : Fin 8) (p : Fin 32) (l : Fin 512) (d : Fin 64) :
    transpose S2x8x32x512x64 [0, 1, 2, 4, 3] (extractStridedSlice S2x8x32x64x512 ![0, 0, 0, 0, 0] V slices_S2x8x32x80x512_S2x8x32x64x512_0_0_0_0_0) transposes_S2x8x32x64x512_S2x8x32x512x64_0_1_2_4_3 (ix5 n h p l d)
      = V (ix5 n h p (d.castLE (by norm_num)) l) := by
  pointwise
  rfl

/-- and read by key. -/
theorem unpage (W : FVec Ideal S2x8x32x512x64 .bf16) (n : Fin 2) (h : Fin 8) (s : Fin 16384) (d : Fin 64) :
    shapeCast S2x8x16384x64 W shapeCasts_S2x8x32x512x64_S2x8x16384x64 (ix4 n h s d)
      = W (ix5 n h ⟨s.val / 512, by omega⟩ ⟨s.val % 512, Nat.mod_lt _ (by norm_num)⟩ d) :=
  congrArg W (Shape.reshapeEquiv_eq_of_rowMajor _ (by
    rw [Shape.rowMajor_val_four, Shape.rowMajor_val_five]
    show (((n.val * 8 + h.val) * 32 + s.val / 512) * 512 + s.val % 512) * 64 + d.val = ((n.val * 8 + h.val) * 16384 + s.val) * 64 + d.val
    omega))

/-- The average, laid out by position and head. -/
theorem avg (V : FVec Ideal S2x8x16384x64 .bf16) (P : FVec Ideal S2x8x16384x16384 .bf16) (n : Fin 2) (h : Fin 8) (t : Fin 16384) (d : Fin 64) :
    Host.dotGeneral (F := Ideal) (φ₁ := .bf16) (φ₂ := .bf16) dot_S2x8x16384x64_S2x8x16384x16384_S2x8x64x16384_2_3_3_2_01_01 none V P (ix4 n h d t)
      = ∑ s, V (ix4 n h s d) * P (ix4 n h t s) := by
  pointwise [dot_S2x8x16384x64_S2x8x16384x16384_S2x8x64x16384_2_3_3_2_01_01]

/-- The averages, by position, head and column, -/
theorem turn (O : FVec Ideal S2x8x64x16384 .f32) (n : Fin 2) (t : Fin 16384) (h : Fin 8) (d : Fin 64) :
    transpose S2x16384x8x64 [0, 3, 1, 2] O transposes_S2x8x64x16384_S2x16384x8x64_0_3_1_2 (ix4 n t h d) = O (ix4 n h d t) := by
  pointwise

/-- and the heads side by side in the lanes. -/
theorem lanes (O : FVec Ideal S2x16384x8x64 .f32) (n : Fin 2) (t : Fin 16384) (l : Fin 512) :
    shapeCast S2x16384x512 O shapeCasts_S2x16384x8x64_S2x16384x512 (ix3 n t l)
      = O (ix4 n t ⟨l.val / 64, by omega⟩ ⟨l.val % 64, Nat.mod_lt _ (by norm_num)⟩) :=
  congrArg O (Shape.reshapeEquiv_eq_of_rowMajor _ (by
    rw [Shape.rowMajor_val_four, Shape.rowMajor_val_three]
    show ((n.val * 16384 + t.val) * 8 + l.val / 64) * 64 + l.val % 64 = (n.val * 16384 + t.val) * 512 + l.val
    omega))

/-- The masked scaled scores. -/
def masked (Q : FVec Ideal S2x8x128x16384 .bf16) (K : FVec Ideal S2x8x16384x128 .bf16) : FVec Ideal S2x8x16384x16384 .f32 :=
  select mask (mulf (Host.dotGeneral dot_S2x8x128x16384_S2x8x16384x128_S2x8x16384x16384_2_3_3_2_01_01 none Q K) (broadcastInDim S2x8x16384x16384 ![] bcast_S_S2x8x16384x16384 (Host.log (constant S_ .f32 0x40000000#32)))) (broadcastInDim S2x8x16384x16384 ![] bcast_S_S2x8x16384x16384 (id (constant S_ .f32 0xFF800000#32)))

/-- The exponentials of scores less their row's maximum. -/
def exps (x : FVec Ideal S2x8x16384x16384 .f32) : FVec Ideal S2x8x16384x16384 .f32 :=
  Host.exp (subf x (broadcastInDim S2x8x16384x16384 ![0, 1, 2, 3] bcast_S2x8x16384x1_S2x8x16384x16384_0_1_2_3 (broadcastInDim S2x8x16384x1 ![0, 1, 2] bcast_S2x8x16384_S2x8x16384x1_0_1_2 (maximumf (broadcastInDim S2x8x16384 ![] bcast_S_S2x8x16384 (constant S_ .f32 0xFF800000#32)) (Host.reduce FloatOps.maximumf x (constant S_ .f32 0xFF800000#32) reducesTo_S2x8x16384x16384_S2x8x16384_d3 h_S_)))))

/-- The softmax of each row. -/
def soft (x : FVec Ideal S2x8x16384x16384 .f32) : FVec Ideal S2x8x16384x16384 .f32 :=
  Host.divf (exps x) (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd (exps x) (constant S_ .f32 0x00000000#32) reducesTo_S2x8x16384x16384_S2x8x16384_d3 h_S_)))

theorem exps_at (x : FVec Ideal S2x8x16384x16384 .f32) (n : Fin 2) (h : Fin 8) (t s : Fin 16384) :
    exps x (ix4 n h t s) = Ideal.exp (x (ix4 n h t s) - Finset.univ.fold max ⊥ fun s => x (ix4 n h t s)) := by
  unfold exps
  rw [exp_sub_at, spread, max_at, bots, rowMax, max_eq_right bot_le]

theorem soft_at (x : FVec Ideal S2x8x16384x16384 .f32) (n : Fin 2) (h : Fin 8) (t s : Fin 16384) :
    soft x (ix4 n h t s) = Ideal.div (exps x (ix4 n h t s)) (∑ s, exps x (ix4 n h t s)) := by
  unfold soft
  rw [div_at, spread, rowSum]

theorem masked_at (a : Args) (n : Fin 2) (h : Fin 8) (t s : Fin 16384) :
    masked a.q a.k (ix4 n h t s) = a.score n h t s * ((Real.log 2 : ℝ) : EReal) := by
  unfold masked
  rw [select_at, mul_at, dots, scale, mask_at, id_eq, bots, WordCmp.cmpi_sle_ofNat (by omega) (by omega)]
  have hd : ∑ d, a.q (ix4 n h d t) * a.k (ix4 n h s d) = a.dot n h t s := by
    unfold Args.dot
    refine Finset.sum_congr rfl fun d _ => ?_
    rw [mul_comm]
    congr 4
    exact Fin.ext (Nat.mod_eq_of_lt s.isLt).symm
  rw [hd]
  unfold Args.score
  by_cases hst : s.val ≤ t.val
  · simp [hst, Scalar.select]
  · have hl : (0 : ℝ) < Real.log 2 := Real.log_pos (by norm_num)
    simp [hst, Scalar.select, EReal.bot_mul_coe_of_pos hl]

/-- The softmax weights are the attention's. -/
theorem exps_masked (a : Args) (n : Fin 2) (h : Fin 8) (t s : Fin 16384) :
    exps (masked a.q a.k) (ix4 n h t s) = nat (a.score n h t) (Real.log 2) 16384 s := by
  rw [exps_at]
  simp only [masked_at]
  unfold nat
  rw [fold_sup fun s => a.score n h t s * ((Real.log 2 : ℝ) : EReal)]

/-- The reference's result, from its arguments. -/
def out (Q : FVec Ideal S2x8x128x16384 .bf16) (K : FVec Ideal S2x8x16384x128 .bf16) (V : FVec Ideal S2x8x32x80x512 .bf16) : FVec Ideal S2x16384x512 .bf16 :=
  truncf .bf16 (shapeCast S2x16384x512 (transpose S2x16384x8x64 [0, 3, 1, 2] (Host.dotGeneral dot_S2x8x16384x64_S2x8x16384x16384_S2x8x64x16384_2_3_3_2_01_01 none
    (shapeCast S2x8x16384x64 (transpose S2x8x32x512x64 [0, 1, 2, 4, 3] (extractStridedSlice S2x8x32x64x512 ![0, 0, 0, 0, 0] V slices_S2x8x32x80x512_S2x8x32x64x512_0_0_0_0_0) transposes_S2x8x32x64x512_S2x8x32x512x64_0_1_2_4_3) shapeCasts_S2x8x32x512x64_S2x8x16384x64)
    (truncf .bf16 (soft (masked Q K)) bitsLt_bf16_f32)) transposes_S2x8x64x16384_S2x16384x8x64_0_3_1_2) shapeCasts_S2x16384x8x64_S2x16384x512) bitsLt_bf16_f32

/-- It is the attention of the whole arrays. -/
theorem out_eq (a : Args) : out a.q a.k a.v = a.result := by
  funext i
  obtain ⟨n, t, l, rfl⟩ : ∃ (n : Fin 2) (t : Fin 16384) (l : Fin 512), i = ix3 n t l := ⟨i 0, i 1, i 2, eq_ix3 i⟩
  rw [Args.result_at]
  unfold out Args.attn
  rw [trunc_at, lanes, turn, avg]
  rw [Finset.sum_range]
  refine Finset.sum_congr rfl fun s _ => ?_
  rw [unpage, page, trunc_at, soft_at]
  simp only [exps_masked]
  rw [Finset.sum_range]
  congr 1
  unfold Args.val
  congr 2
  exact Fin.ext (Nat.mod_eq_of_lt (by omega)).symm

/-- The reference's run ends with it. -/
theorem result_eq (m : (ℓ : Loc nD τ sig) → Buf (Elt Ideal) ℓ) (c : Dev nD) :
    Value.res_out0 m c = (Args.mk (m ((c.tc : Thread nD τ).loc main_arg0)) (m ((c.tc : Thread nD τ).loc main_arg1)) (m ((c.tc : Thread nD τ).loc main_arg2))).result := by
  rw [← out_eq]
  unfold out soft exps masked mask Value.res_out0 Value.res_main_v29
  rfl

end Cert.Attn.Ref

end
-- ==== Proof.Layer.lean ====
/-
  The input projection of the layer, entry by entry, over the extended reals: the root-mean-square norm of a row, its
  product with a column of the weights, and the two gates the layer makes of such products.
-/
module

public import Idealize.ShloMosaic.Lib.Pointwise

@[expose] public section

noncomputable section

namespace Cert.Layer

open Idealize.ShloMosaic

/-- Coordinate `j` of a row over the square root of the mean of its squares (plus a small number), times the gain. -/
def normed (x g : Fin 1024 → EReal) (j : Fin 1024) : EReal :=
  x j * Ideal.rsqrt (Ideal.div (∑ k, x k * x k) (Ideal.ofBits .f32 0x44800000#32) + Ideal.ofBits .f32 0x358637BD#32) * g j

/-- The normed row times a column of weights. -/
def proj (x g w : Fin 1024 → EReal) : EReal := ∑ j, normed x g j * w j

/-- `log (1 + e^y)`, as `max y 0 + log (1 + e^(-|y|))`. -/
def softplus (y : EReal) : EReal := max y 0 + Ideal.log1p (Ideal.exp (-(max y (-y))))

/-- The logarithm of the sigmoid. -/
def logSigmoid (y : EReal) : EReal := -softplus (-y)

/-- The sigmoid. -/
def sigmoid (y : EReal) : EReal := Ideal.div 1 (1 + Ideal.exp (-y))

end Cert.Layer
-- ==== Proof.ProjPay.lean ====
/-
  What one tile of the input projection computes, entry by entry: every product of the normed rows with a block of the
  weights, the gates made of two of them, and the lane tiles of a third.
-/
module

public import proofs.«01_k».proof.Proof.Layer
public import proofs.«01_k».proof.Proof.Gen.ProjectIdeal.Skeleton
public import Idealize.ShloMosaic.Lib.Pointwise

@[expose] public section

set_option maxRecDepth 16384

noncomputable section

namespace Cert.Proj

open Idealize.ShloMosaic Idealize.ShloMosaic.TcCoe Cert.ProjectIdeal Cert.ProjectIdeal.Gen Cert.Layer

variable (x : Vec Ideal S1x256x1024 .f32) (g : Vec Ideal S1x1024 .f32)

/-- The normed rows. -/
theorem normed_at (r : Fin 256) (j : Fin 1024) :
    k0_pay2 (F := Ideal) x g (ix2 r j) = normed (fun j => x (ix3 0 r j)) (fun j => g (ix2 0 j)) j := by
  pointwise [k0_pay2]
  rfl

theorem log_at (w : Vec Ideal S1024x128 .bf16) (b : Vec Ideal S1x128 .f32) (r : Fin 256) (h : Fin 8) :
    k0_pay6 (F := Ideal) (k0_pay3 x g w b) k0_pay4 (ix3 0 r h)
      = logSigmoid (proj (fun j => x (ix3 0 r j)) (fun j => g (ix2 0 j)) (fun j => w (ix2 j (h.castLE (by norm_num)))) + b (ix2 0 (h.castLE (by norm_num)))) := by
  pointwise [k0_pay6, k0_pay5, k0_pay4, k0_pay3]
  rw [if_neg (by simp)]
  simp only [normed_at, zero_sub]
  rfl

variable (H : FVec Ideal S256x1024 .bf16)

theorem keys_at (w : Vec Ideal S1024x512 .bf16) (r : Fin 256) (l : Fin 512) :
    k0_pay16 (F := Ideal) H w (ix3 0 r l) = ∑ j, H (ix2 r j) * w (ix2 j l) := by
  pointwise [k0_pay16, k0_pay15]

theorem vals_at (w : Vec Ideal S512x1024 .bf16) (l : Fin 512) (r : Fin 256) :
    k0_pay39 (F := Ideal) H w (ix3 0 l r) = ∑ j, w (ix2 l j) * H (ix2 r j) := by
  pointwise [k0_pay39, k0_pay38]

theorem tile0_at (w : Vec Ideal S1024x512 .bf16) (r : Fin 256) (l : Fin 128) :
    k0_pay8 (F := Ideal) H w (ix4 0 0 r l) = ∑ j, H (ix2 r j) * w (ix2 j ⟨l.val, by omega⟩) := by
  pointwise [k0_pay8, k0_pay7]

theorem tile1_at (w : Vec Ideal S1024x512 .bf16) (r : Fin 256) (l : Fin 128) :
    k0_pay9 (F := Ideal) H w (ix4 0 0 r l) = ∑ j, H (ix2 r j) * w (ix2 j ⟨128 + l.val, by omega⟩) := by
  pointwise [k0_pay9, k0_pay7]

theorem tile2_at (w : Vec Ideal S1024x512 .bf16) (r : Fin 256) (l : Fin 128) :
    k0_pay10 (F := Ideal) H w (ix4 0 0 r l) = ∑ j, H (ix2 r j) * w (ix2 j ⟨256 + l.val, by omega⟩) := by
  pointwise [k0_pay10, k0_pay7]

theorem tile3_at (w : Vec Ideal S1024x512 .bf16) (r : Fin 256) (l : Fin 128) :
    k0_pay11 (F := Ideal) H w (ix4 0 0 r l) = ∑ j, H (ix2 r j) * w (ix2 j ⟨384 + l.val, by omega⟩) := by
  pointwise [k0_pay11, k0_pay7]

theorem gateA_at (w : Vec Ideal S1024x1024 .bf16) (r : Fin 256) (l : Fin 1024) :
    k0_pay13 (F := Ideal) (k0_pay12 H w) (ix3 0 r l) = sigmoid (∑ j, H (ix2 r j) * w (ix2 j l)) := by
  pointwise [k0_pay13, k0_pay12]
  rfl

theorem gateS_at (w : Vec Ideal S1024x1024 .bf16) (r : Fin 256) (l : Fin 1024) :
    k0_pay14 (F := Ideal) H w (ix3 0 r l) = sigmoid (∑ j, H (ix2 r j) * w (ix2 j l)) := by
  pointwise [k0_pay14]
  rfl

end Cert.Proj
-- ==== Proof.ProjOut.lean ====
/-
  What one grid point leaves in each block of its results, entry by entry: products of the tile's normed rows with
  columns of the weights, and the gates made of them.
-/
module

public import proofs.«01_k».proof.Proof.ProjPay
public import proofs.«01_k».proof.Proof.Gen.ProjectIdeal.Frame
public import Idealize.ShloMosaic.Lib.Pipeline.ValueKit

@[expose] public section

set_option maxRecDepth 16384

noncomputable section

namespace Cert.Proj

open Idealize.ShloMosaic Idealize.ShloMosaic.TcCoe Cert.ProjectIdeal Cert.ProjectIdeal.Gen Cert.Layer

/-- A load of a whole block reads the block. -/
theorem load_whole {S : Shape} {e : EltTy} {M : Memref sig .tc .vmem S e} (h : M.IsWhole) {off : Fin S.rank → ℕ}
    (inb : ∀ a, off a + S.size a ≤ S.size a) (X : Vec Ideal S e) (h0 : ∀ a, off a = 0) :
    View.readAt (Elt Ideal) M.view (Rect.unit off S.size inb).toLoadRect (h.unread X) = X := by
  rw [View.readAt_eq_ld, h.read_unread]
  exact View.ld_unit_lit inb X h0

theorem off2 : ∀ a : Fin 2, (![0, 0] : Fin 2 → ℕ) a = 0 := by decide
theorem off3 : ∀ a : Fin 3, (![0, 0, 0] : Fin 3 → ℕ) a = 0 := by decide

/-- A load of the key columns of the packed weights. -/
theorem load_keys {M : Memref sig .tc .vmem S1024x1536 .bf16} (h : M.IsWhole) (inb : ∀ a, (![0, 512] : Fin 2 → ℕ) a + S1024x512.size a ≤ S1024x1536.size a) (X : Vec Ideal S1024x1536 .bf16) (j : Fin 1024) (l : Fin 512) :
    View.readAt (Elt Ideal) M.view (Rect.unit (s := S1024x1536) ![0, 512] S1024x512.size inb).toLoadRect (h.unread X) (ix2 j l) = X (ix2 j ⟨512 + l.val, by omega⟩) := by
  rw [View.readAt_eq_ld, h.read_unread]
  refine View.ld_unit_apply_of X _ _ inb _ _ fun a => ?_
  match a with
  | ⟨0, _⟩ => exact (Nat.zero_add _).symm
  | ⟨1, _⟩ => rfl

/-- Row `r` of a tile, and the gain. -/
abbrev row (x : Vec Ideal S1x256x1024 .f32) (r : Fin 256) : Fin 1024 → EReal := fun j => x (ix3 0 r j)
abbrev gain (g : Vec Ideal S1x1024 .f32) : Fin 1024 → EReal := fun j => g (ix2 0 j)

section

variable {x : Vec Ideal S1x256x1024 .f32} {g : Vec Ideal S1x1024 .f32} {H : FVec Ideal S256x1024 .bf16} (hH : H = k0_pay2 x g)
include hH

theorem sum_normed (r : Fin 256) (w : Fin 1024 → EReal) : (∑ j, H (ix2 r j) * w j : EReal) = proj (row x r) (gain g) w := by
  subst hH
  simp only [normed_at]
  rfl

/-- The four lane tiles of the drive, one store each, make one block. -/
theorem tiles_at (w : Vec Ideal S1024x512 .bf16) (i0 i1 i2 i3) (q : Fin 4) (r : Fin 256) (l : Fin 128) :
    View.canon (Val := Elt Ideal) (s := S1x4x256x128) (e := .f32) [⟨Rect.unit ![0, 3, 0, 0] ![1, 1, 256, 128] i3, k0_pay11 H w⟩, ⟨Rect.unit ![0, 2, 0, 0] ![1, 1, 256, 128] i2, k0_pay10 H w⟩,
      ⟨Rect.unit ![0, 1, 0, 0] ![1, 1, 256, 128] i1, k0_pay9 H w⟩, ⟨Rect.unit ![0, 0, 0, 0] ![1, 1, 256, 128] i0, k0_pay8 H w⟩] (ix4 0 q r l)
      = proj (row x r) (gain g) fun j => w (ix2 j ⟨128 * q.val + l.val, by omega⟩) := by
  rw [← sum_normed hH]
  have split (o : ℕ) (P : Vec Ideal S1x1x256x128 .f32) (hP : ∀ (r : Fin 256) (l : Fin 128) (h : 128 * o + l.val < 512), P (ix4 0 0 r l) = ∑ j, H (ix2 r j) * w (ix2 j ⟨128 * o + l.val, h⟩)) :
      View.TileAt (Val := Elt Ideal) (S := S1x4x256x128) (e := .f32) (ix4 0 q r l) ![0, o, 0, 0] ![1, 1, 256, 128] P (∑ j, H (ix2 r j) * w (ix2 j ⟨128 * q.val + l.val, by omega⟩)) := by
    intro y hy
    have h1 : q.val = o + (y 1).val := hy 1
    have h2 : r.val = 0 + (y 2).val := hy 2
    have h3 : l.val = 0 + (y 3).val := hy 3
    have y0 : (y 0).val < 1 := (y 0).isLt
    have y1 : (y 1).val < 1 := (y 1).isLt
    have ey : y = ix4 0 0 r l := by
      funext a
      apply Fin.ext
      match a with
      | ⟨0, _⟩ => show (y 0).val = 0; omega
      | ⟨1, _⟩ => show (y 1).val = 0; omega
      | ⟨2, _⟩ => show (y 2).val = r.val; omega
      | ⟨3, _⟩ => show (y 3).val = l.val; omega
    obtain rfl : o = q.val := by omega
    rw [ey]
    exact hP r l _
  refine View.canon_eq_of_allAt _ _ _ ?_
    (View.allAt_cons_unit _ _ _ _ _ (split 3 _ ?_) (View.allAt_cons_unit _ _ _ _ _ (split 2 _ ?_)
      (View.allAt_cons_unit _ _ _ _ _ (split 1 _ ?_) (View.allAt_cons_unit _ _ _ _ _ (split 0 _ ?_) (View.allAt_nil _ _)))))
  · refine View.cover_of_tiledL (s := S1x4x256x128) _ ![1, 1, 256, 128] ?_ _
    sl_kernel_rfl
  · intro r l h; exact tile3_at H w r l
  · intro r l h; exact tile2_at H w r l
  · intro r l h; exact tile1_at H w r l
  · intro r l h
    rw [tile0_at]
    refine Finset.sum_congr rfl fun j _ => ?_
    congr 3
    exact Fin.ext (show l.val = 128 * 0 + l.val by omega)

/-- The block of keys, -/
theorem keys_block {M : Memref sig .tc .vmem S1024x1536 .bf16} (h : M.IsWhole) (inb) (inb' : ∀ a, (![0, 512] : Fin 2 → ℕ) a + S1024x512.size a ≤ S1024x1536.size a) (w : Vec Ideal S1024x1536 .bf16) (r : Fin 256) (l : Fin 512) :
    View.canon (Val := Elt Ideal) (s := S1x256x512) (e := .f32) [⟨Rect.unit ![0, 0, 0] ![1, 256, 512] inb, k0_pay16 H (View.readAt (Elt Ideal) M.view (Rect.unit (s := S1024x1536) ![0, 512] S1024x512.size inb').toLoadRect (h.unread w))⟩] (ix3 0 r l)
      = proj (row x r) (gain g) fun j => w (ix2 j ⟨512 + l.val, by omega⟩) := by
  refine (congrFun (View.canon_cons_unit_lit (S := S1x256x512) inb _ [] off3) _).trans ?_
  rw [keys_at]
  exact (Finset.sum_congr rfl fun j _ => congrArg (H (ix2 r j) * ·) (load_keys h inb' w j l)).trans (sum_normed hH r _)

/-- of values, -/
theorem values_block {M : Memref sig .tc .vmem S512x1024 .bf16} (h : M.IsWhole) (inb) (inb' : ∀ a, (![0, 0] : Fin 2 → ℕ) a + S512x1024.size a ≤ S512x1024.size a) (w : Vec Ideal S512x1024 .bf16) (l : Fin 512) (r : Fin 256) :
    View.canon (Val := Elt Ideal) (s := S1x512x256) (e := .f32) [⟨Rect.unit ![0, 0, 0] ![1, 512, 256] inb, k0_pay39 H (View.readAt (Elt Ideal) M.view (Rect.unit (s := S512x1024) ![0, 0] S512x1024.size inb').toLoadRect (h.unread w))⟩] (ix3 0 l r)
      = proj (row x r) (gain g) fun j => w (ix2 l j) := by
  refine (congrFun (View.canon_cons_unit_lit (S := S1x512x256) inb _ [] off3) _).trans ?_
  rw [vals_at, ← sum_normed hH]
  refine Finset.sum_congr rfl fun j _ => ?_
  rw [mul_comm, load_whole (S := S512x1024) h inb' w off2]

/-- of the attention's output gate, -/
theorem outA_block {M : Memref sig .tc .vmem S1024x1024 .bf16} (h : M.IsWhole) (inb) (inb' : ∀ a, (![0, 0] : Fin 2 → ℕ) a + S1024x1024.size a ≤ S1024x1024.size a) (w : Vec Ideal S1024x1024 .bf16) (r : Fin 256) (l : Fin 1024) :
    View.canon (Val := Elt Ideal) (s := S1x256x1024) (e := .f32) [⟨Rect.unit ![0, 0, 0] ![1, 256, 1024] inb, k0_pay13 (k0_pay12 H (View.readAt (Elt Ideal) M.view (Rect.unit (s := S1024x1024) ![0, 0] S1024x1024.size inb').toLoadRect (h.unread w)))⟩] (ix3 0 r l)
      = sigmoid (proj (row x r) (gain g) fun j => w (ix2 j l)) := by
  refine (congrFun (View.canon_cons_unit_lit (S := S1x256x1024) inb _ [] off3) _).trans ?_
  rw [gateA_at, load_whole (S := S1024x1024) h inb' w off2, sum_normed hH]

/-- and of the state space's. -/
theorem outS_block {M : Memref sig .tc .vmem S1024x1024 .bf16} (h : M.IsWhole) (inb) (inb' : ∀ a, (![0, 0] : Fin 2 → ℕ) a + S1024x1024.size a ≤ S1024x1024.size a) (w : Vec Ideal S1024x1024 .bf16) (r : Fin 256) (l : Fin 1024) :
    View.canon (Val := Elt Ideal) (s := S1x256x1024) (e := .f32) [⟨Rect.unit ![0, 0, 0] ![1, 256, 1024] inb, k0_pay14 H (View.readAt (Elt Ideal) M.view (Rect.unit (s := S1024x1024) ![0, 0] S1024x1024.size inb').toLoadRect (h.unread w))⟩] (ix3 0 r l)
      = sigmoid (proj (row x r) (gain g) fun j => w (ix2 j l)) := by
  refine (congrFun (View.canon_cons_unit_lit (S := S1x256x1024) inb _ [] off3) _).trans ?_
  rw [gateS_at, load_whole (S := S1024x1024) h inb' w off2, sum_normed hH]

end

/-- The block of gate logarithms. -/
theorem gates_block {x : Vec Ideal S1x256x1024 .f32} {g : Vec Ideal S1x1024 .f32} {w : Vec Ideal S1024x128 .bf16} {b : Vec Ideal S1x128 .f32} {P : FVec Ideal S256x128 .f32}
    (hP : P = k0_pay3 x g w b) (inb) (r : Fin 256) (h : Fin 8) :
    View.canon (Val := Elt Ideal) (s := S1x256x8) (e := .f32) [⟨Rect.unit ![0, 0, 0] ![1, 256, 8] inb, k0_pay6 P k0_pay4⟩] (ix3 0 r h)
      = logSigmoid (proj (row x r) (gain g) (fun j => w (ix2 j (h.castLE (by norm_num)))) + b (ix2 0 (h.castLE (by norm_num)))) := by
  subst hP
  refine (congrFun (View.canon_cons_unit_lit (S := S1x256x8) inb _ [] off3) _).trans ?_
  exact log_at x g w b r h

variable (c : Dev nD) (i : grid0.Coords)
variable (arg2 : Memref sig .tc .vmem S1x256x1024 .f32) (harg2 : arg2.IsWhole)
variable (arg3 : Memref sig .tc .vmem S1x1024 .f32) (harg3 : arg3.IsWhole)
variable (arg4 : Memref sig .tc .vmem S1024x1536 .bf16) (harg4 : arg4.IsWhole)
variable (arg5 : Memref sig .tc .vmem S1024x128 .bf16) (harg5 : arg5.IsWhole)
variable (arg6 : Memref sig .tc .vmem S1x128 .f32) (harg6 : arg6.IsWhole)
variable (arg7 : Memref sig .tc .vmem S1024x512 .bf16) (harg7 : arg7.IsWhole)
variable (arg8 : Memref sig .tc .vmem S1024x1024 .bf16) (harg8 : arg8.IsWhole)
variable (arg9 : Memref sig .tc .vmem S1024x1024 .bf16) (harg9 : arg9.IsWhole)
variable (arg10 : Memref sig .tc .vmem S512x1024 .bf16) (harg10 : arg10.IsWhole)
variable (arg11 : Memref sig .tc .vmem S512x1024 .bf16) (harg11 : arg11.IsWhole)
variable (arg12 : Memref sig .tc .vmem S384x1024 .bf16) (harg12 : arg12.IsWhole)
variable (arg13 : Memref sig .tc .vmem S1x256x512 .f32) (harg13 : arg13.IsWhole)
variable (arg14 : Memref sig .tc .vmem S1x512x256 .f32) (harg14 : arg14.IsWhole)
variable (arg15 : Memref sig .tc .vmem S1x256x8 .f32) (harg15 : arg15.IsWhole)
variable (arg16 : Memref sig .tc .vmem S1x4x256x128 .f32) (harg16 : arg16.IsWhole)
variable (arg17 : Memref sig .tc .vmem S1x256x1024 .f32) (harg17 : arg17.IsWhole)
variable (arg18 : Memref sig .tc .vmem S1x256x1024 .f32) (harg18 : arg18.IsWhole)
variable (arg19 : Memref sig .tc .vmem S1x8x128x256 .bf16) (harg19 : arg19.IsWhole)
variable (arg20 : Memref sig .tc .vmem S1x8x256x128 .bf16) (harg20 : arg20.IsWhole)
variable (arg21 : Memref sig .tc .vmem S1x8x1x80x256 .bf16) (harg21 : arg21.IsWhole)
variable (arg22 : Memref sig .tc .vmem S1x128 .f32) (harg22 : arg22.IsWhole)
variable (x0 : Vec Ideal S1x256x1024 .f32) (x1 : Vec Ideal S1x1024 .f32) (x2 : Vec Ideal S1024x1536 .bf16) (x3 : Vec Ideal S1024x128 .bf16)
variable (x4 : Vec Ideal S1x128 .f32) (x5 : Vec Ideal S1024x512 .bf16) (x6 : Vec Ideal S1024x1024 .bf16) (x7 : Vec Ideal S1024x1024 .bf16)
variable (x8 : Vec Ideal S512x1024 .bf16) (x9 : Vec Ideal S512x1024 .bf16) (x10 : Vec Ideal S384x1024 .bf16)

/-! ### The first tile of a sequence -/

section

open kernelRun0_A

variable (hc0 : cond0_0 i)

theorem hid_A : sl.r c arg2 harg2 arg3 harg3 x0 x1 = k0_pay2 (F := Ideal) x0 x1 := by
  unfold sl.r
  rw [load_whole (S := S1x256x1024) harg2 _ x0 off3, load_whole (S := S1x1024) harg3 _ x1 off2]

theorem log_A : sl.r_1 c arg2 harg2 arg3 harg3 arg5 harg5 arg6 harg6 x0 x1 x3 x4 = k0_pay3 (F := Ideal) x0 x1 x3 x4 := by
  unfold sl.r_1
  rw [load_whole (S := S1x256x1024) harg2 _ x0 off3, load_whole (S := S1x1024) harg3 _ x1 off2, load_whole (S := S1024x128) harg5 _ x3 off2, load_whole (S := S1x128) harg6 _ x4 off2]

theorem keys_A (r : Fin 256) (l : Fin 512) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 (ix3 0 r l)
      = proj (row x0 r) (gain x1) fun j => x2 (ix2 j ⟨512 + l.val, by omega⟩) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10)]
  unfold kernelRun0_A
  dsimp only
  exact keys_block (hid_A c arg2 harg2 arg3 harg3 x0 x1) harg4 _ _ x2 r l

theorem values_A (l : Fin 512) (r : Fin 256) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 (ix3 0 l r)
      = proj (row x0 r) (gain x1) fun j => x9 (ix2 l j) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10)]
  unfold kernelRun0_A
  dsimp only
  exact values_block (hid_A c arg2 harg2 arg3 harg3 x0 x1) harg11 _ _ x9 l r

theorem gates_A (r : Fin 256) (h : Fin 8) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 (ix3 0 r h)
      = logSigmoid (proj (row x0 r) (gain x1) (fun j => x3 (ix2 j (h.castLE (by norm_num)))) + x4 (ix2 0 (h.castLE (by norm_num)))) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10)]
  unfold kernelRun0_A
  dsimp only
  exact gates_block (log_A c arg2 harg2 arg3 harg3 arg5 harg5 arg6 harg6 x0 x1 x3 x4) _ r h

theorem drives_A (q : Fin 4) (r : Fin 256) (l : Fin 128) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 (ix4 0 q r l)
      = proj (row x0 r) (gain x1) fun j => x5 (ix2 j ⟨128 * q.val + l.val, by omega⟩) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10)]
  unfold kernelRun0_A
  dsimp only
  refine (tiles_at (hid_A c arg2 harg2 arg3 harg3 x0 x1) _ _ _ _ _ q r l).trans ?_
  rw [load_whole (S := S1024x512) harg7 _ x5 off2]

theorem outAs_A (r : Fin 256) (l : Fin 1024) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 (ix3 0 r l)
      = sigmoid (proj (row x0 r) (gain x1) fun j => x6 (ix2 j l)) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10)]
  unfold kernelRun0_A
  dsimp only
  exact outA_block (hid_A c arg2 harg2 arg3 harg3 x0 x1) harg8 _ _ x6 r l

theorem outSs_A (r : Fin 256) (l : Fin 1024) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 (ix3 0 r l)
      = sigmoid (proj (row x0 r) (gain x1) fun j => x7 (ix2 j l)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10)]
  unfold kernelRun0_A
  dsimp only
  exact outS_block (hid_A c arg2 harg2 arg3 harg3 x0 x1) harg9 _ _ x7 r l

end

/-! ### A later tile -/

section

open kernelRun0_B

variable (hc0 : ¬cond0_0 i) (xs0 : Vec Ideal S1x128 .f32)

theorem hid_B : sl.r c arg2 harg2 arg3 harg3 x0 x1 = k0_pay2 (F := Ideal) x0 x1 := by
  unfold sl.r
  rw [load_whole (S := S1x256x1024) harg2 _ x0 off3, load_whole (S := S1x1024) harg3 _ x1 off2]

theorem log_B : sl.r_1 c arg2 harg2 arg3 harg3 arg5 harg5 arg6 harg6 x0 x1 x3 x4 = k0_pay3 (F := Ideal) x0 x1 x3 x4 := by
  unfold sl.r_1
  rw [load_whole (S := S1x256x1024) harg2 _ x0 off3, load_whole (S := S1x1024) harg3 _ x1 off2, load_whole (S := S1024x128) harg5 _ x3 off2, load_whole (S := S1x128) harg6 _ x4 off2]

theorem keys_B (r : Fin 256) (l : Fin 512) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0 (ix3 0 r l)
      = proj (row x0 r) (gain x1) fun j => x2 (ix2 j ⟨512 + l.val, by omega⟩) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0)]
  unfold kernelRun0_B
  dsimp only
  exact keys_block (hid_B c arg2 harg2 arg3 harg3 x0 x1) harg4 _ _ x2 r l

theorem values_B (l : Fin 512) (r : Fin 256) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0 (ix3 0 l r)
      = proj (row x0 r) (gain x1) fun j => x9 (ix2 l j) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0)]
  unfold kernelRun0_B
  dsimp only
  exact values_block (hid_B c arg2 harg2 arg3 harg3 x0 x1) harg11 _ _ x9 l r

theorem gates_B (r : Fin 256) (h : Fin 8) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0 (ix3 0 r h)
      = logSigmoid (proj (row x0 r) (gain x1) (fun j => x3 (ix2 j (h.castLE (by norm_num)))) + x4 (ix2 0 (h.castLE (by norm_num)))) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0)]
  unfold kernelRun0_B
  dsimp only
  exact gates_block (log_B c arg2 harg2 arg3 harg3 arg5 harg5 arg6 harg6 x0 x1 x3 x4) _ r h

theorem drives_B (q : Fin 4) (r : Fin 256) (l : Fin 128) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0 (ix4 0 q r l)
      = proj (row x0 r) (gain x1) fun j => x5 (ix2 j ⟨128 * q.val + l.val, by omega⟩) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0)]
  unfold kernelRun0_B
  dsimp only
  refine (tiles_at (hid_B c arg2 harg2 arg3 harg3 x0 x1) _ _ _ _ _ q r l).trans ?_
  rw [load_whole (S := S1024x512) harg7 _ x5 off2]

theorem outAs_B (r : Fin 256) (l : Fin 1024) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0 (ix3 0 r l)
      = sigmoid (proj (row x0 r) (gain x1) fun j => x6 (ix2 j l)) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0)]
  unfold kernelRun0_B
  dsimp only
  exact outA_block (hid_B c arg2 harg2 arg3 harg3 x0 x1) harg8 _ _ x6 r l

theorem outSs_B (r : Fin 256) (l : Fin 1024) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0 (ix3 0 r l)
      = sigmoid (proj (row x0 r) (gain x1) fun j => x7 (ix2 j l)) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 xs0)]
  unfold kernelRun0_B
  dsimp only
  exact outS_block (hid_B c arg2 harg2 arg3 harg3 x0 x1) harg9 _ _ x7 r l

end

end Cert.Proj

end
-- ==== Proof.ProjTarget.lean ====
/-
  The results of the input projection as mathematics: what every entry of the keys, values, gate logarithms, drive and
  output gates is.
-/
module

public import proofs.«01_k».proof.Proof.Layer
public import proofs.«01_k».proof.ProjectIdeal
public import Idealize.ShloMosaic.Lib.Pointwise

@[expose] public section

noncomputable section

namespace Cert.Proj

open Idealize.ShloMosaic Cert.ProjectIdeal Cert.Layer

/-- The arguments: the layer's input, `N` sequences of `T` positions, the gain of its norm, the weights (all columns side
    by side) and the bias of the gate logarithms. -/
structure Args (N T : ℕ) where
  x : Vec Ideal ⟨3, ![N, T, 1024]⟩ .f32
  g : Vec Ideal S1024 .f32
  w : Vec Ideal S1024x4104 .f32
  b : Vec Ideal S8 .f32

variable {N T : ℕ} (a : Args N T)

/-- The normed input at position `t` of sequence `n`, times column `p` of the weights. -/
def Args.z (n : Fin N) (t : Fin T) (p : Fin 4104) : EReal :=
  proj (fun j => a.x (ix3 n t j)) (fun j => a.g (ix1 j)) fun j => a.w (ix2 j p)

/-- The keys are columns 512 to 1024, -/
def Args.key (n : Fin N) (t : Fin T) (l : Fin 512) : EReal := a.z n t ⟨512 + l.val, by omega⟩
/-- the values columns 1024 to 1536, stored with positions last, -/
def Args.value (n : Fin N) (l : Fin 512) (t : Fin T) : EReal := a.z n t ⟨1024 + l.val, by omega⟩
/-- the forget gates' logarithms the log-sigmoid of columns 1536 to 1544 plus the bias, -/
def Args.gate (n : Fin N) (t : Fin T) (h : Fin 8) : EReal := logSigmoid (a.z n t ⟨1536 + h.val, by omega⟩ + a.b (ix1 h))
/-- the state space's drive columns 1544 to 2056, in four tiles of 128 lanes, -/
def Args.drive (n : Fin N) (q : Fin 4) (t : Fin T) (l : Fin 128) : EReal := a.z n t ⟨1544 + (128 * q.val + l.val), by omega⟩
/-- the attention's output gate the sigmoid of columns 2056 to 3080, -/
def Args.outA (n : Fin N) (t : Fin T) (l : Fin 1024) : EReal := sigmoid (a.z n t ⟨2056 + l.val, by omega⟩)
/-- and the state space's the sigmoid of the rest. -/
def Args.outS (n : Fin N) (t : Fin T) (l : Fin 1024) : EReal := sigmoid (a.z n t ⟨3080 + l.val, by omega⟩)

/-! The results as arrays, the values also with positions first. -/

def Args.keys : Vec Ideal ⟨3, ![N, T, 512]⟩ .f32 := fun i => a.key (i 0) (i 1) (i 2)
def Args.values : Vec Ideal ⟨3, ![N, 512, T]⟩ .f32 := fun i => a.value (i 0) (i 1) (i 2)
def Args.valueRows : Vec Ideal ⟨3, ![N, T, 512]⟩ .f32 := fun i => a.value (i 0) (i 2) (i 1)
def Args.gates : Vec Ideal ⟨3, ![N, T, 8]⟩ .f32 := fun i => a.gate (i 0) (i 1) (i 2)
def Args.drives : Vec Ideal ⟨4, ![N, 4, T, 128]⟩ .f32 := fun i => a.drive (i 0) (i 1) (i 2) (i 3)
def Args.outAs : Vec Ideal ⟨3, ![N, T, 1024]⟩ .f32 := fun i => a.outA (i 0) (i 1) (i 2)
def Args.outSs : Vec Ideal ⟨3, ![N, T, 1024]⟩ .f32 := fun i => a.outS (i 0) (i 1) (i 2)

theorem Args.keys_at (n : Fin N) (t : Fin T) (l : Fin 512) : a.keys (ix3 n t l) = a.key n t l := rfl
theorem Args.values_at (n : Fin N) (l : Fin 512) (t : Fin T) : a.values (ix3 n l t) = a.value n l t := rfl
theorem Args.valueRows_at (n : Fin N) (t : Fin T) (l : Fin 512) : a.valueRows (ix3 n t l) = a.value n l t := rfl
theorem Args.gates_at (n : Fin N) (t : Fin T) (h : Fin 8) : a.gates (ix3 n t h) = a.gate n t h := rfl
theorem Args.drives_at (n : Fin N) (q : Fin 4) (t : Fin T) (l : Fin 128) : a.drives (ix4 n q t l) = a.drive n q t l := rfl
theorem Args.outAs_at (n : Fin N) (t : Fin T) (l : Fin 1024) : a.outAs (ix3 n t l) = a.outA n t l := rfl
theorem Args.outSs_at (n : Fin N) (t : Fin T) (l : Fin 1024) : a.outSs (ix3 n t l) = a.outS n t l := rfl

/-- Arrays of three and of four axes agree where they agree at all coordinates. -/
theorem ext3 {α : Type} {x y z : ℕ} {f g : Shape.Idx ⟨3, ![x, y, z]⟩ → α} (h : ∀ a b c, f (ix3 a b c) = g (ix3 a b c)) : f = g := by
  funext i
  have e : i = ix3 (i 0) (i 1) (i 2) := by
    funext d
    match d with
    | ⟨0, _⟩ => rfl
    | ⟨1, _⟩ => rfl
    | ⟨2, _⟩ => rfl
  rw [e]
  exact h _ _ _

theorem ext4 {α : Type} {x y z w : ℕ} {f g : Shape.Idx ⟨4, ![x, y, z, w]⟩ → α} (h : ∀ a b c d, f (ix4 a b c d) = g (ix4 a b c d)) : f = g := by
  funext i
  have e : i = ix4 (i 0) (i 1) (i 2) (i 3) := by
    funext d
    match d with
    | ⟨0, _⟩ => rfl
    | ⟨1, _⟩ => rfl
    | ⟨2, _⟩ => rfl
    | ⟨3, _⟩ => rfl
  rw [e]
  exact h _ _ _ _

end Cert.Proj

end
-- ==== Proof.ProjWeights.lean ====
/-
  The operands the input projection is given, entry by entry: each block of the packed weights is a range of columns of
  the layer's weights.
-/
module

public import proofs.«01_k».proof.Proof.Gen.ProjectIdeal.Frame.Runs
public import Idealize.ShloMosaic.Lib.StableHlo.ReadAt
public import Idealize.ShloMosaic.Lib.Pointwise
public import Idealize.ShloMosaic.Lib.Claim

@[expose] public section

set_option maxRecDepth 16384

noncomputable section

namespace Cert.Proj

open Idealize.ShloMosaic Idealize.ShloMosaic.TcCoe Cert.ProjectIdeal Cert.ProjectIdeal.Gen

variable (m : (ℓ : Loc nD τ sig) → Buf (Elt Ideal) ℓ) (c : Dev nD)

theorem gain_at (j : Fin 1024) : V m c main_v0 (ix2 0 j) = m ((c.tc : Thread nD τ).loc main_arg1) (ix1 j) := by
  unfold V
  after_reads_at

theorem keyWeight_at (j : Fin 1024) (l : Fin 512) :
    V m c main_v6 (ix2 j ⟨512 + l.val, by omega⟩) = m ((c.tc : Thread nD τ).loc main_arg2) (ix2 j ⟨512 + l.val, by omega⟩) := by
  unfold V
  after_reads_at
  after_reads_at

theorem logWeight_at (j : Fin 1024) (h : Fin 8) :
    V m c main_v9 (ix2 j (h.castLE (by norm_num))) = m ((c.tc : Thread nD τ).loc main_arg2) (ix2 j ⟨1536 + h.val, by omega⟩) := by
  unfold V
  after_reads_at
  exact dif_pos h.isLt

theorem logBias_at (h : Fin 8) :
    V m c main_v11 (ix2 0 (h.castLE (by norm_num))) = m ((c.tc : Thread nD τ).loc main_arg3) (ix1 h) := by
  unfold V
  after_reads_at
  exact dif_pos h.isLt

theorem drive_at (j : Fin 1024) (l : Fin 512) :
    V m c main_v13 (ix2 j l) = m ((c.tc : Thread nD τ).loc main_arg2) (ix2 j ⟨1544 + l.val, by omega⟩) := by
  unfold V
  after_reads_at

theorem gateA_weight (j : Fin 1024) (l : Fin 1024) :
    V m c main_v15 (ix2 j l) = m ((c.tc : Thread nD τ).loc main_arg2) (ix2 j ⟨2056 + l.val, by omega⟩) := by
  unfold V
  after_reads_at

theorem gateS_weight (j : Fin 1024) (l : Fin 1024) :
    V m c main_v17 (ix2 j l) = m ((c.tc : Thread nD τ).loc main_arg2) (ix2 j ⟨3080 + l.val, by omega⟩) := by
  unfold V
  after_reads_at

theorem valWeight_at (l : Fin 512) (j : Fin 1024) :
    V m c main_v23 (ix2 l j) = m ((c.tc : Thread nD τ).loc main_arg2) (ix2 j ⟨1024 + l.val, by omega⟩) := by
  unfold V
  after_reads_at

end Cert.Proj
-- ==== Proof.ProjBlocks.lean ====
/-
  The blocks a tile reads are slices of the arguments and of the packed weights.
-/
module

public import proofs.«01_k».proof.Proof.ProjOut
public import proofs.«01_k».proof.Proof.ProjTarget
public import proofs.«01_k».proof.Proof.ProjWeights
public import Idealize.ShloMosaic.Lib.Pipeline.Value

@[expose] public section

set_option maxRecDepth 16384

noncomputable section

namespace Cert.Proj

open Idealize.ShloMosaic Idealize.ShloMosaic.TcCoe Cert.ProjectIdeal Cert.ProjectIdeal.Gen Cert.Layer Idealize.SL.Sem
open Idealize.ShloMosaic.Pipeline (Dat)

variable (m : (ℓ : Loc nD τ sig) → Buf (Elt Ideal) ℓ) (ρ : Dev nD → PrngReg) (c : Dev nD)

/-- The arguments of device `c`. -/
def argsOf : Args 2 16384 :=
  ⟨m ((c : Thread nD τ).loc main_arg0), m ((c : Thread nD τ).loc main_arg1), m ((c : Thread nD τ).loc main_arg2), m ((c : Thread nD τ).loc main_arg3)⟩

/-- The windows of rows, of the transposed values and of the lane tiles follow the grid's coordinates, -/
theorem index_rows : ∀ t : Fin grid0.N,
    win0_0.index t = ![(grid0.coords t 0).val, (grid0.coords t 1).val, 0]
    ∧ win0_11.index t = ![(grid0.coords t 0).val, (grid0.coords t 1).val, 0]
    ∧ win0_12.index t = ![(grid0.coords t 0).val, 0, (grid0.coords t 1).val]
    ∧ win0_13.index t = ![(grid0.coords t 0).val, (grid0.coords t 1).val, 0]
    ∧ win0_14.index t = ![(grid0.coords t 0).val, 0, (grid0.coords t 1).val, 0]
    ∧ win0_15.index t = ![(grid0.coords t 0).val, (grid0.coords t 1).val, 0]
    ∧ win0_16.index t = ![(grid0.coords t 0).val, (grid0.coords t 1).val, 0] := by decide +kernel

/-- and those of the weights stay. -/
theorem index_whole : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_9.index t = ![0, 0] := by decide +kernel

/-! Where the entries of a block lie in its array, and which block holds an entry. -/

section

variable {N T w n p : ℕ} {idx : Fin 3 → ℕ}

theorem rows_val (hi : idx = ![n, p, 0]) (hn : n < N) (r : Fin 256) (hr : 256 * p + r.val < T) (l : Fin w) (a : Fin 3) :
    idx a * (![1, 256, w] : Fin 3 → ℕ) a + 1 * (ix3 (0 : Fin 1) r l a).val = (ix3 (⟨n, hn⟩ : Fin N) (⟨256 * p + r.val, hr⟩ : Fin T) l a).val := by
  subst hi
  match a with
  | ⟨0, _⟩ => show n * 1 + 1 * 0 = n; omega
  | ⟨1, _⟩ => show p * 256 + 1 * r.val = 256 * p + r.val; omega
  | ⟨2, _⟩ => show 0 * w + 1 * l.val = l.val; omega

theorem rows_mem (hi : idx = ![n, p, 0]) (i : Shape.Idx ⟨3, ![N, T, w]⟩) (h0 : n = (i 0).val) (h1 : p = (i 1).val / 256) (a : Fin 3) :
    idx a * (![1, 256, w] : Fin 3 → ℕ) a ≤ (i a).val ∧ (i a).val < idx a * (![1, 256, w] : Fin 3 → ℕ) a + (![1, 256, w] : Fin 3 → ℕ) a := by
  subst hi
  have h2 : (i 2).val < w := (i 2).isLt
  match a with
  | ⟨0, _⟩ => show n * 1 ≤ (i 0).val ∧ (i 0).val < n * 1 + 1; omega
  | ⟨1, _⟩ => show p * 256 ≤ (i 1).val ∧ (i 1).val < p * 256 + 256; omega
  | ⟨2, _⟩ => show 0 * w ≤ (i 2).val ∧ (i 2).val < 0 * w + w; omega

theorem cols_val (hi : idx = ![n, 0, p]) (hn : n < N) (l : Fin w) (r : Fin 256) (hr : 256 * p + r.val < T) (a : Fin 3) :
    idx a * (![1, w, 256] : Fin 3 → ℕ) a + 1 * (ix3 (0 : Fin 1) l r a).val = (ix3 (⟨n, hn⟩ : Fin N) l (⟨256 * p + r.val, hr⟩ : Fin T) a).val := by
  subst hi
  match a with
  | ⟨0, _⟩ => show n * 1 + 1 * 0 = n; omega
  | ⟨1, _⟩ => show 0 * w + 1 * l.val = l.val; omega
  | ⟨2, _⟩ => show p * 256 + 1 * r.val = 256 * p + r.val; omega

theorem cols_mem (hi : idx = ![n, 0, p]) (i : Shape.Idx ⟨3, ![N, w, T]⟩) (h0 : n = (i 0).val) (h1 : p = (i 2).val / 256) (a : Fin 3) :
    idx a * (![1, w, 256] : Fin 3 → ℕ) a ≤ (i a).val ∧ (i a).val < idx a * (![1, w, 256] : Fin 3 → ℕ) a + (![1, w, 256] : Fin 3 → ℕ) a := by
  subst hi
  have h2 : (i 1).val < w := (i 1).isLt
  match a with
  | ⟨0, _⟩ => show n * 1 ≤ (i 0).val ∧ (i 0).val < n * 1 + 1; omega
  | ⟨1, _⟩ => show 0 * w ≤ (i 1).val ∧ (i 1).val < 0 * w + w; omega
  | ⟨2, _⟩ => show p * 256 ≤ (i 2).val ∧ (i 2).val < p * 256 + 256; omega

theorem tiles_val {idx : Fin 4 → ℕ} (hi : idx = ![n, 0, p, 0]) (hn : n < N) (q : Fin 4) (r : Fin 256) (hr : 256 * p + r.val < T) (l : Fin 128) (a : Fin 4) :
    idx a * (![1, 4, 256, 128] : Fin 4 → ℕ) a + 1 * (ix4 (0 : Fin 1) q r l a).val = (ix4 (⟨n, hn⟩ : Fin N) q (⟨256 * p + r.val, hr⟩ : Fin T) l a).val := by
  subst hi
  match a with
  | ⟨0, _⟩ => show n * 1 + 1 * 0 = n; omega
  | ⟨1, _⟩ => show 0 * 4 + 1 * q.val = q.val; omega
  | ⟨2, _⟩ => show p * 256 + 1 * r.val = 256 * p + r.val; omega
  | ⟨3, _⟩ => show 0 * 128 + 1 * l.val = l.val; omega

theorem tiles_mem {idx : Fin 4 → ℕ} (hi : idx = ![n, 0, p, 0]) (i : Shape.Idx ⟨4, ![N, 4, T, 128]⟩) (h0 : n = (i 0).val) (h1 : p = (i 2).val / 256) (a : Fin 4) :
    idx a * (![1, 4, 256, 128] : Fin 4 → ℕ) a ≤ (i a).val ∧ (i a).val < idx a * (![1, 4, 256, 128] : Fin 4 → ℕ) a + (![1, 4, 256, 128] : Fin 4 → ℕ) a := by
  subst hi
  have h2 : (i 1).val < 4 := (i 1).isLt
  have h3 : (i 3).val < 128 := (i 3).isLt
  match a with
  | ⟨0, _⟩ => show n * 1 ≤ (i 0).val ∧ (i 0).val < n * 1 + 1; omega
  | ⟨1, _⟩ => show 0 * 4 ≤ (i 1).val ∧ (i 1).val < 0 * 4 + 4; omega
  | ⟨2, _⟩ => show p * 256 ≤ (i 2).val ∧ (i 2).val < p * 256 + 256; omega
  | ⟨3, _⟩ => show 0 * 128 ≤ (i 3).val ∧ (i 3).val < 0 * 128 + 128; omega

theorem whole_val {x y : ℕ} {idx : Fin 2 → ℕ} (hi : idx = ![0, 0]) (j : Fin x) (l : Fin y) (a : Fin 2) :
    idx a * (![x, y] : Fin 2 → ℕ) a + 1 * (ix2 j l a).val = (ix2 j l a).val := by
  subst hi
  match a with
  | ⟨0, _⟩ => show 0 * x + 1 * j.val = j.val; omega
  | ⟨1, _⟩ => show 0 * y + 1 * l.val = l.val; omega

end

section

variable (t : Fin cfg0.N)

theorem seq_lt : (grid0.coords t 0).val < 2 := (grid0.coords t 0).isLt
theorem tile_lt : (grid0.coords t 1).val < 64 := (grid0.coords t 1).isLt

/-- The sequence of a point, and the position of its row `r`. -/
def seqAt : Fin 2 := ⟨(grid0.coords t 0).val, seq_lt t⟩
def posAt (r : Fin 256) : Fin 16384 := ⟨256 * (grid0.coords t 1).val + r.val, by have := tile_lt t; omega⟩

/-! The blocks a point reads. -/

theorem input_at (n : Fin 2) (p : Fin 16384) (j : Fin 1024) :
    V m c main_arg0 (ix3 n p j) = m ((c.tc : Thread nD τ).loc main_arg0) (ix3 n p j) := by
  unfold V
  after_reads_at

theorem x_blk (r : Fin 256) : row (iblk m c 0 t) r = fun j => (argsOf m c).x (ix3 (seqAt t) (posAt t r) j) := by
  funext j
  show iblk m c 0 t _ = _
  unfold iblk
  rw [View.read_apply]
  exact (congrArg (V m c main_arg0) (funext fun a => Fin.ext (rows_val (index_rows t).1 (seq_lt t) r (posAt t r).isLt j a))).trans
    (input_at m c (seqAt t) (posAt t r) j)

theorem gain_blk (j : Fin 1) (l : Fin 1024) : (iblk m c 1 t : Vec Ideal S1x1024 .f32) (ix2 j l) = V m c main_v0 (ix2 j l) := by
  unfold iblk
  rw [View.read_apply]
  exact congrArg (V m c main_v0) (funext fun a => Fin.ext (whole_val (index_whole t).1 j l a))

theorem key_blk (j : Fin 1024) (l : Fin 1536) : (iblk m c 2 t : Vec Ideal S1024x1536 .bf16) (ix2 j l) = V m c main_v6 (ix2 j l) := by
  unfold iblk
  rw [View.read_apply]
  exact congrArg (V m c main_v6) (funext fun a => Fin.ext (whole_val (index_whole t).2.1 j l a))

theorem log_blk (j : Fin 1024) (l : Fin 128) : (iblk m c 3 t : Vec Ideal S1024x128 .bf16) (ix2 j l) = V m c main_v9 (ix2 j l) := by
  unfold iblk
  rw [View.read_apply]
  exact congrArg (V m c main_v9) (funext fun a => Fin.ext (whole_val (index_whole t).2.2.1 j l a))

theorem bias_blk (j : Fin 1) (l : Fin 128) : (iblk m c 4 t : Vec Ideal S1x128 .f32) (ix2 j l) = V m c main_v11 (ix2 j l) := by
  unfold iblk
  rw [View.read_apply]
  exact congrArg (V m c main_v11) (funext fun a => Fin.ext (whole_val (index_whole t).2.2.2.1 j l a))

theorem drive_blk (j : Fin 1024) (l : Fin 512) : (iblk m c 5 t : Vec Ideal S1024x512 .bf16) (ix2 j l) = V m c main_v13 (ix2 j l) := by
  unfold iblk
  rw [View.read_apply]
  exact congrArg (V m c main_v13) (funext fun a => Fin.ext (whole_val (index_whole t).2.2.2.2.1 j l a))

theorem outA_blk (j : Fin 1024) (l : Fin 1024) : (iblk m c 6 t : Vec Ideal S1024x1024 .bf16) (ix2 j l) = V m c main_v15 (ix2 j l) := by
  unfold iblk
  rw [View.read_apply]
  exact congrArg (V m c main_v15) (funext fun a => Fin.ext (whole_val (index_whole t).2.2.2.2.2.1 j l a))

theorem outS_blk (j : Fin 1024) (l : Fin 1024) : (iblk m c 7 t : Vec Ideal S1024x1024 .bf16) (ix2 j l) = V m c main_v17 (ix2 j l) := by
  unfold iblk
  rw [View.read_apply]
  exact congrArg (V m c main_v17) (funext fun a => Fin.ext (whole_val (index_whole t).2.2.2.2.2.2.1 j l a))

theorem value_blk (j : Fin 512) (l : Fin 1024) : (iblk m c 9 t : Vec Ideal S512x1024 .bf16) (ix2 j l) = V m c main_v23 (ix2 j l) := by
  unfold iblk
  rw [View.read_apply]
  exact congrArg (V m c main_v23) (funext fun a => Fin.ext (whole_val (index_whole t).2.2.2.2.2.2.2 j l a))

/-- A row of the tile against a column of a block of weights that is column `p` of all of them. -/
theorem proj_blk (r : Fin 256) (w : Fin 1024 → EReal) (p : Fin 4104) (hw : ∀ j, w j = m ((c : Thread nD τ).loc main_arg2) (ix2 j p)) :
    proj (row (iblk m c 0 t) r) (gain (iblk m c 1 t)) w = (argsOf m c).z (seqAt t) (posAt t r) p := by
  have eg : gain (iblk m c 1 t) = fun j => (argsOf m c).g (ix1 j) := funext fun j => (gain_blk m c t 0 j).trans (gain_at m c j)
  rw [x_blk, eg, funext hw]
  rfl

end

end Cert.Proj

end
-- ==== Proof.ProjWhole.lean ====
/-
  From tiles to whole arrays: the blocks the tiles leave are slices of the six results, and cover them.
-/
module

public import proofs.«01_k».proof.Proof.ProjBlocks
public import proofs.«01_k».proof.Proof.Gen.ProjectIdeal.Value
public import Idealize.ShloMosaic.Lib.Pipeline.Value

@[expose] public section

set_option maxRecDepth 16384

noncomputable section

namespace Cert.Proj

open Idealize.ShloMosaic Idealize.ShloMosaic.TcCoe Cert.ProjectIdeal Cert.ProjectIdeal.Gen Cert.Layer Idealize.SL.Sem
open Idealize.ShloMosaic.Pipeline (Dat)

variable (m : (ℓ : Loc nD τ sig) → Buf (Elt Ideal) ℓ) (ρ : Dev nD → PrngReg) (c : Dev nD)

section

variable (t : Fin cfg0.N)

/-! What a point writes back. -/

theorem keys_flushed (r : Fin 256) (l : Fin 512) : ((dats m 0 c).flushed 11 t : Vec Ideal S1x256x512 .f32) (ix3 0 r l) = (argsOf m c).key (seqAt t) (posAt t r) l := by
  by_cases h0 : t.val % 64 = 0
  · rw [Value.flushed11_A m c t h0]
    exact (keys_A ..).trans (proj_blk m c t r _ ⟨512 + l.val, by omega⟩ fun j => (key_blk m c t j _).trans (keyWeight_at m c j l))
  · rw [Value.flushed11_B m c t h0]
    exact (keys_B ..).trans (proj_blk m c t r _ ⟨512 + l.val, by omega⟩ fun j => (key_blk m c t j _).trans (keyWeight_at m c j l))

theorem values_flushed (l : Fin 512) (r : Fin 256) : ((dats m 0 c).flushed 12 t : Vec Ideal S1x512x256 .f32) (ix3 0 l r) = (argsOf m c).value (seqAt t) l (posAt t r) := by
  by_cases h0 : t.val % 64 = 0
  · rw [Value.flushed12_A m c t h0]
    exact (values_A ..).trans (proj_blk m c t r _ ⟨1024 + l.val, by omega⟩ fun j => (value_blk m c t l j).trans (valWeight_at m c l j))
  · rw [Value.flushed12_B m c t h0]
    exact (values_B ..).trans (proj_blk m c t r _ ⟨1024 + l.val, by omega⟩ fun j => (value_blk m c t l j).trans (valWeight_at m c l j))

theorem gates_flushed (r : Fin 256) (h : Fin 8) : ((dats m 0 c).flushed 13 t : Vec Ideal S1x256x8 .f32) (ix3 0 r h) = (argsOf m c).gate (seqAt t) (posAt t r) h := by
  by_cases h0 : t.val % 64 = 0
  · rw [Value.flushed13_A m c t h0]
    exact (gates_A ..).trans (congrArg logSigmoid (congrArg₂ (· + ·) (proj_blk m c t r _ ⟨1536 + h.val, by omega⟩ fun j => (log_blk m c t j _).trans (logWeight_at m c j h)) ((bias_blk m c t 0 _).trans (logBias_at m c h))))
  · rw [Value.flushed13_B m c t h0]
    exact (gates_B ..).trans (congrArg logSigmoid (congrArg₂ (· + ·) (proj_blk m c t r _ ⟨1536 + h.val, by omega⟩ fun j => (log_blk m c t j _).trans (logWeight_at m c j h)) ((bias_blk m c t 0 _).trans (logBias_at m c h))))

theorem drives_flushed (q : Fin 4) (r : Fin 256) (l : Fin 128) : ((dats m 0 c).flushed 14 t : Vec Ideal S1x4x256x128 .f32) (ix4 0 q r l) = (argsOf m c).drive (seqAt t) q (posAt t r) l := by
  by_cases h0 : t.val % 64 = 0
  · rw [Value.flushed14_A m c t h0]
    exact (drives_A ..).trans (proj_blk m c t r _ ⟨1544 + (128 * q.val + l.val), by omega⟩ fun j => (drive_blk m c t j _).trans (drive_at m c j ⟨128 * q.val + l.val, by omega⟩))
  · rw [Value.flushed14_B m c t h0]
    exact (drives_B ..).trans (proj_blk m c t r _ ⟨1544 + (128 * q.val + l.val), by omega⟩ fun j => (drive_blk m c t j _).trans (drive_at m c j ⟨128 * q.val + l.val, by omega⟩))

theorem outAs_flushed (r : Fin 256) (l : Fin 1024) : ((dats m 0 c).flushed 15 t : Vec Ideal S1x256x1024 .f32) (ix3 0 r l) = (argsOf m c).outA (seqAt t) (posAt t r) l := by
  by_cases h0 : t.val % 64 = 0
  · rw [Value.flushed15_A m c t h0]
    exact (outAs_A ..).trans (congrArg sigmoid (proj_blk m c t r _ ⟨2056 + l.val, by omega⟩ fun j => (outA_blk m c t j l).trans (gateA_weight m c j l)))
  · rw [Value.flushed15_B m c t h0]
    exact (outAs_B ..).trans (congrArg sigmoid (proj_blk m c t r _ ⟨2056 + l.val, by omega⟩ fun j => (outA_blk m c t j l).trans (gateA_weight m c j l)))

theorem outSs_flushed (r : Fin 256) (l : Fin 1024) : ((dats m 0 c).flushed 16 t : Vec Ideal S1x256x1024 .f32) (ix3 0 r l) = (argsOf m c).outS (seqAt t) (posAt t r) l := by
  by_cases h0 : t.val % 64 = 0
  · rw [Value.flushed16_A m c t h0]
    exact (outSs_A ..).trans (congrArg sigmoid (proj_blk m c t r _ ⟨3080 + l.val, by omega⟩ fun j => (outS_blk m c t j l).trans (gateS_weight m c j l)))
  · rw [Value.flushed16_B m c t h0]
    exact (outSs_B ..).trans (congrArg sigmoid (proj_blk m c t r _ ⟨3080 + l.val, by omega⟩ fun j => (outS_blk m c t j l).trans (gateS_weight m c j l)))

/-! So each block is the point's slice of the whole result. -/

theorem keys_eq : (dats m 0 c).flushed 11 t = ((cfg0.win 11).blk t).view.read (Elt Ideal) ((argsOf m c).keys) := by
  refine ext3 (x := 1) (y := 256) (z := 512) fun z r l => ?_
  obtain rfl : z = 0 := Subsingleton.elim _ _
  refine (keys_flushed m c t r l).trans ?_
  rw [← Args.keys_at, View.read_apply]
  generalize (argsOf m c).keys = R
  exact congrArg R (funext fun a => Fin.ext (rows_val (index_rows t).2.1 (seq_lt t) r (posAt t r).isLt l a).symm)

theorem values_eq : (dats m 0 c).flushed 12 t = ((cfg0.win 12).blk t).view.read (Elt Ideal) ((argsOf m c).values) := by
  refine ext3 (x := 1) (y := 512) (z := 256) fun z l r => ?_
  obtain rfl : z = 0 := Subsingleton.elim _ _
  refine (values_flushed m c t l r).trans ?_
  rw [← Args.values_at, View.read_apply]
  generalize (argsOf m c).values = R
  exact congrArg R (funext fun a => Fin.ext (cols_val (index_rows t).2.2.1 (seq_lt t) l r (posAt t r).isLt a).symm)

theorem gates_eq : (dats m 0 c).flushed 13 t = ((cfg0.win 13).blk t).view.read (Elt Ideal) ((argsOf m c).gates) := by
  refine ext3 (x := 1) (y := 256) (z := 8) fun z r h => ?_
  obtain rfl : z = 0 := Subsingleton.elim _ _
  refine (gates_flushed m c t r h).trans ?_
  rw [← Args.gates_at, View.read_apply]
  generalize (argsOf m c).gates = R
  exact congrArg R (funext fun a => Fin.ext (rows_val (index_rows t).2.2.2.1 (seq_lt t) r (posAt t r).isLt h a).symm)

theorem drives_eq : (dats m 0 c).flushed 14 t = ((cfg0.win 14).blk t).view.read (Elt Ideal) ((argsOf m c).drives) := by
  refine ext4 (x := 1) (y := 4) (z := 256) (w := 128) fun z q r l => ?_
  obtain rfl : z = 0 := Subsingleton.elim _ _
  refine (drives_flushed m c t q r l).trans ?_
  rw [← Args.drives_at, View.read_apply]
  generalize (argsOf m c).drives = R
  exact congrArg R (funext fun a => Fin.ext (tiles_val (index_rows t).2.2.2.2.1 (seq_lt t) q r (posAt t r).isLt l a).symm)

theorem outAs_eq : (dats m 0 c).flushed 15 t = ((cfg0.win 15).blk t).view.read (Elt Ideal) ((argsOf m c).outAs) := by
  refine ext3 (x := 1) (y := 256) (z := 1024) fun z r l => ?_
  obtain rfl : z = 0 := Subsingleton.elim _ _
  refine (outAs_flushed m c t r l).trans ?_
  rw [← Args.outAs_at, View.read_apply]
  generalize (argsOf m c).outAs = R
  exact congrArg R (funext fun a => Fin.ext (rows_val (index_rows t).2.2.2.2.2.1 (seq_lt t) r (posAt t r).isLt l a).symm)

theorem outSs_eq : (dats m 0 c).flushed 16 t = ((cfg0.win 16).blk t).view.read (Elt Ideal) ((argsOf m c).outSs) := by
  refine ext3 (x := 1) (y := 256) (z := 1024) fun z r l => ?_
  obtain rfl : z = 0 := Subsingleton.elim _ _
  refine (outSs_flushed m c t r l).trans ?_
  rw [← Args.outSs_at, View.read_apply]
  generalize (argsOf m c).outSs = R
  exact congrArg R (funext fun a => Fin.ext (rows_val (index_rows t).2.2.2.2.2.2 (seq_lt t) r (posAt t r).isLt l a).symm)

end

/-- Every sequence and tile is some point's. -/
theorem point_at : ∀ (n : Fin 2) (p : Fin 64), ∃ t : Fin grid0.N,
    (grid0.coords t 0).val = n.val ∧ (grid0.coords t 1).val = p.val := by decide +kernel

/-! So each result ends as the whole array. -/

theorem keys_final : (dats m 0 c).arrAt 11 cfg0.N = (argsOf m c).keys := by
  refine (dats m 0 c).arrAt_eq_of_cover 11 (argsOf m c).keys (fun t _ => keys_eq m c t) fun (i : S2x16384x512.Idx) => ?_
  have h0 : (i 0).val < 2 := (i 0).isLt
  have h1 : (i 1).val < 16384 := (i 1).isLt
  obtain ⟨t, e0, e1⟩ := point_at ⟨(i 0).val, h0⟩ ⟨(i 1).val / 256, by omega⟩
  refine ⟨t, flush0_11 t, ?_⟩
  show i ∈ ((View.whole main_v45_0).slice (win0_11.rect t)).set
  rw [View.set_slice_whole, Rect.mem_set_unit]
  exact rows_mem (index_rows t).2.1 i e0 e1

theorem values_final : (dats m 0 c).arrAt 12 cfg0.N = (argsOf m c).values := by
  refine (dats m 0 c).arrAt_eq_of_cover 12 (argsOf m c).values (fun t _ => values_eq m c t) fun (i : S2x512x16384.Idx) => ?_
  have h0 : (i 0).val < 2 := (i 0).isLt
  have h1 : (i 2).val < 16384 := (i 2).isLt
  obtain ⟨t, e0, e1⟩ := point_at ⟨(i 0).val, h0⟩ ⟨(i 2).val / 256, by omega⟩
  refine ⟨t, flush0_12 t, ?_⟩
  show i ∈ ((View.whole main_v45_1).slice (win0_12.rect t)).set
  rw [View.set_slice_whole, Rect.mem_set_unit]
  exact cols_mem (index_rows t).2.2.1 i e0 e1

theorem gates_final : (dats m 0 c).arrAt 13 cfg0.N = (argsOf m c).gates := by
  refine (dats m 0 c).arrAt_eq_of_cover 13 (argsOf m c).gates (fun t _ => gates_eq m c t) fun (i : S2x16384x8.Idx) => ?_
  have h0 : (i 0).val < 2 := (i 0).isLt
  have h1 : (i 1).val < 16384 := (i 1).isLt
  obtain ⟨t, e0, e1⟩ := point_at ⟨(i 0).val, h0⟩ ⟨(i 1).val / 256, by omega⟩
  refine ⟨t, flush0_13 t, ?_⟩
  show i ∈ ((View.whole main_v45_2).slice (win0_13.rect t)).set
  rw [View.set_slice_whole, Rect.mem_set_unit]
  exact rows_mem (index_rows t).2.2.2.1 i e0 e1

theorem drives_final : (dats m 0 c).arrAt 14 cfg0.N = (argsOf m c).drives := by
  refine (dats m 0 c).arrAt_eq_of_cover 14 (argsOf m c).drives (fun t _ => drives_eq m c t) fun (i : S2x4x16384x128.Idx) => ?_
  have h0 : (i 0).val < 2 := (i 0).isLt
  have h1 : (i 2).val < 16384 := (i 2).isLt
  obtain ⟨t, e0, e1⟩ := point_at ⟨(i 0).val, h0⟩ ⟨(i 2).val / 256, by omega⟩
  refine ⟨t, flush0_14 t, ?_⟩
  show i ∈ ((View.whole main_v45_3).slice (win0_14.rect t)).set
  rw [View.set_slice_whole, Rect.mem_set_unit]
  exact tiles_mem (index_rows t).2.2.2.2.1 i e0 e1

theorem outAs_final : (dats m 0 c).arrAt 15 cfg0.N = (argsOf m c).outAs := by
  refine (dats m 0 c).arrAt_eq_of_cover 15 (argsOf m c).outAs (fun t _ => outAs_eq m c t) fun (i : S2x16384x1024.Idx) => ?_
  have h0 : (i 0).val < 2 := (i 0).isLt
  have h1 : (i 1).val < 16384 := (i 1).isLt
  obtain ⟨t, e0, e1⟩ := point_at ⟨(i 0).val, h0⟩ ⟨(i 1).val / 256, by omega⟩
  refine ⟨t, flush0_15 t, ?_⟩
  show i ∈ ((View.whole main_v45_4).slice (win0_15.rect t)).set
  rw [View.set_slice_whole, Rect.mem_set_unit]
  exact rows_mem (index_rows t).2.2.2.2.2.1 i e0 e1

theorem outSs_final : (dats m 0 c).arrAt 16 cfg0.N = (argsOf m c).outSs := by
  refine (dats m 0 c).arrAt_eq_of_cover 16 (argsOf m c).outSs (fun t _ => outSs_eq m c t) fun (i : S2x16384x1024.Idx) => ?_
  have h0 : (i 0).val < 2 := (i 0).isLt
  have h1 : (i 1).val < 16384 := (i 1).isLt
  obtain ⟨t, e0, e1⟩ := point_at ⟨(i 0).val, h0⟩ ⟨(i 1).val / 256, by omega⟩
  refine ⟨t, flush0_16 t, ?_⟩
  show i ∈ ((View.whole main_v45_5).slice (win0_16.rect t)).set
  rw [View.set_slice_whole, Rect.mem_set_unit]
  exact rows_mem (index_rows t).2.2.2.2.2.2 i e0 e1

end Cert.Proj

end
-- ==== Proof.ProjReference.lean ====
/-
  The reference of the input projection, entry by entry: its norm, its one product with all the weights, and the ranges
  of columns and gates its results are. Stated for any number of sequences and positions, so that it serves the prompt
  and the sample.
-/
module

public import proofs.«01_k».proof.Proof.ProjTarget
public import Idealize.ShloMosaic.Lib.Pointwise
public import Idealize.ShloMosaic.Lib.Pipeline.Value

@[expose] public section

set_option maxRecDepth 16384

noncomputable section

namespace Cert.Proj.Ref

open Idealize.ShloMosaic Idealize.ShloMosaic.TcCoe Cert.Layer

/-- The shapes: nothing, `w` numbers, and `w` numbers at each of `T` positions of `N` sequences. -/
abbrev S0 : Shape := ⟨0, ![]⟩
abbrev S1 (w : ℕ) : Shape := ⟨1, ![w]⟩
abbrev S3 (N T w : ℕ) : Shape := ⟨3, ![N, T, w]⟩

/-- That the shapes of the reference's operations fit one another. -/
structure Fits (N T : ℕ) : Prop where
  sum : (S3 N T 1024).ReducesTo [2] ⟨2, ![N, T]⟩
  one : 0 < S0.numel
  mean : (⟨2, ![N, T]⟩ : Shape).BroadcastsInDim (S3 N T 1) (![0, 1] : Fin 2 → Fin 3)
  const : S0.BroadcastsInDim (S3 N T 1) (![] : Fin 0 → Fin 3)
  scale : (S3 N T 1).BroadcastsInDim (S3 N T 1024) (![0, 1, 2] : Fin 3 → Fin 3)
  gain : (S1 1024).BroadcastsInDim (S3 1 1 1024) (![2] : Fin 1 → Fin 3)
  gains : (S3 1 1 1024).BroadcastsInDim (S3 N T 1024) (![0, 1, 2] : Fin 3 → Fin 3)
  keys : (S3 N T 4104).Slices ![0, 0, 512] (S3 N T 512)
  values : (S3 N T 4104).Slices ![0, 0, 1024] (S3 N T 512)
  logs : (S3 N T 4104).Slices ![0, 0, 1536] (S3 N T 8)
  drives : (S3 N T 4104).Slices ![0, 0, 1544] (S3 N T 512)
  outAs : (S3 N T 4104).Slices ![0, 0, 2056] (S3 N T 1024)
  outSs : (S3 N T 4104).Slices ![0, 0, 3080] (S3 N T 1024)
  bias : (S1 8).BroadcastsInDim (S3 1 1 8) (![2] : Fin 1 → Fin 3)
  biases : (S3 1 1 8).BroadcastsInDim (S3 N T 8) (![0, 1, 2] : Fin 3 → Fin 3)
  zero : S0.BroadcastsInDim (S3 N T 8) (![] : Fin 0 → Fin 3)
  ones : S0.BroadcastsInDim (S3 N T 1024) (![] : Fin 0 → Fin 3)
  dot : DotDims.WF (S3 N T 1024) ⟨2, ![1024, 4104]⟩ (S3 N T 4104) [2] [0] [0, 1] [1] [] []

variable {N T : ℕ} (F : Fits N T)

/-- The reciprocal root of the mean square, by position. -/
def root (x : FVec Ideal (S3 N T 1024) .f32) : FVec Ideal (S3 N T 1) .f32 :=
  Host.rsqrt (addf (Host.divf (broadcastInDim (S3 N T 1) ![0, 1] F.mean (Host.reduceAdd (mulf x x) (constant S0 .f32 0x00000000#32) F.sum F.one)) (broadcastInDim (S3 N T 1) ![] F.const (constant S0 .f32 0x44800000#32))) (broadcastInDim (S3 N T 1) ![] F.const (constant S0 .f32 0x358637BD#32)))

/-- The normed input, by position. -/
def hid (x : FVec Ideal (S3 N T 1024) .f32) (g : FVec Ideal (S1 1024) .f32) : FVec Ideal (S3 N T 1024) .f32 :=
  mulf (mulf x (broadcastInDim (S3 N T 1024) ![0, 1, 2] F.scale (root F x))) (broadcastInDim (S3 N T 1024) ![0, 1, 2] F.gains (broadcastInDim (S3 1 1 1024) ![2] F.gain g))

/-- The dimensions of the product. -/
def dims : DotDims (S3 N T 1024) ⟨2, ![1024, 4104]⟩ (S3 N T 4104) where
  lhsContracting := [2]
  rhsContracting := [0]
  lhsNonContracting := [0, 1]
  rhsNonContracting := [1]
  lhsBatch := []
  rhsBatch := []
  wf := F.dot

/-- Its product with all the weights. -/
def all (x : FVec Ideal (S3 N T 1024) .f32) (g : FVec Ideal (S1 1024) .f32) (w : FVec Ideal ⟨2, ![1024, 4104]⟩ .f32) : FVec Ideal (S3 N T 4104) .f32 :=
  Host.dotGeneral (dims F) none (hid F x g) w

/-- The coordinate along an axis, be it of one entry or more, is the coordinate. -/
theorem along_val {k : ℕ} (n : Fin k) (p : k = 1 → 0 < k) (q : ¬k = 1 → n.val < k) :
    (if h : k = 1 then (⟨0, p h⟩ : Fin k) else ⟨n.val, q h⟩).val = n.val := by
  split
  · show 0 = n.val
    omega
  · rfl

/-- A number at each position is read where it stands, -/
theorem mean_at (M : FVec Ideal ⟨2, ![N, T]⟩ .f32) (n : Fin N) (t : Fin T) :
    broadcastInDim (S3 N T 1) ![0, 1] F.mean M (ix3 n t 0) = M (ix2 n t) := by
  refine congrArg M (funext fun a => Fin.ext ?_)
  match a with
  | ⟨0, _⟩ => exact along_val n _ _
  | ⟨1, _⟩ => exact along_val t _ _

/-- and is the same along the layer's width. -/
theorem scale_at (M : FVec Ideal (S3 N T 1) .f32) (n : Fin N) (t : Fin T) (j : Fin 1024) :
    broadcastInDim (S3 N T 1024) ![0, 1, 2] F.scale M (ix3 n t j) = M (ix3 n t 0) := by
  refine congrArg M (funext fun a => Fin.ext ?_)
  match a with
  | ⟨0, _⟩ => exact along_val n _ _
  | ⟨1, _⟩ => exact along_val t _ _
  | ⟨2, _⟩ => rfl

theorem root_at (x : FVec Ideal (S3 N T 1024) .f32) (n : Fin N) (t : Fin T) :
    root F x (ix3 n t 0) = Ideal.rsqrt (Ideal.div (∑ j, x (ix3 n t j) * x (ix3 n t j)) (Ideal.ofBits FTy.f32 0x44800000#32) + Ideal.ofBits FTy.f32 0x358637BD#32) := by
  unfold root
  generalize e : Host.reduceAdd (mulf x x) (constant (F := Ideal) S0 .f32 0x00000000#32) F.sum F.one = M
  have h : M (ix2 n t) = ∑ j, x (ix3 n t j) * x (ix3 n t j) := by
    subst e
    pointwise
  rw [← h, ← mean_at F M]
  rfl

theorem hid_at (x : FVec Ideal (S3 N T 1024) .f32) (g : FVec Ideal (S1 1024) .f32) (n : Fin N) (t : Fin T) (j : Fin 1024) :
    hid F x g (ix3 n t j) = normed (fun j => x (ix3 n t j)) (fun j => g (ix1 j)) j := by
  have h : hid F x g (ix3 n t j) = x (ix3 n t j) * broadcastInDim (S3 N T 1024) ![0, 1, 2] F.scale (root F x) (ix3 n t j) * g (ix1 j) := by
    unfold hid
    generalize broadcastInDim (S3 N T 1024) ![0, 1, 2] F.scale (root F x) = M
    pointwise
  rw [h, scale_at F, root_at]
  rfl

theorem all_at (a : Args N T) (n : Fin N) (t : Fin T) (p : Fin 4104) : all F a.x a.g a.w (ix3 n t p) = a.z n t p := by
  unfold all
  generalize e : hid F a.x a.g = H
  have h : Host.dotGeneral (F := Ideal) (φ₁ := .f32) (φ₂ := .f32) (dims F) none H a.w (ix3 n t p) = ∑ j, H (ix3 n t j) * a.w (ix2 j p) := by
    pointwise [dims]
    refine Finset.sum_congr rfl fun j _ => congrArg (· * a.w (ix2 j p)) (congrArg H (funext fun b => Fin.ext ?_))
    match b with
    | ⟨0, _⟩ => rfl
    | ⟨1, _⟩ => rfl
    | ⟨2, _⟩ => rfl
  rw [h]
  subst e
  simp only [hid_at]
  rfl

variable (Z : FVec Ideal (S3 N T 4104) .f32)

/-- A range of columns from `o` on. -/
theorem cols_of {w o : ℕ} (h : (S3 N T 4104).Slices ![0, 0, o] (S3 N T w)) (n : Fin N) (t : Fin T) (l : Fin w) (hl : o + l.val < 4104) :
    extractStridedSlice (S3 N T w) ![0, 0, o] Z h (ix3 n t l) = Z (ix3 n t ⟨o + l.val, hl⟩) := by
  refine congrArg Z (funext fun a => Fin.ext ?_)
  match a with
  | ⟨0, _⟩ => exact Nat.zero_add _
  | ⟨1, _⟩ => exact Nat.zero_add _
  | ⟨2, _⟩ => rfl

/-- 512 numbers at each position in four tiles of 128, the tiles before the positions, -/
def tiled (hc : (S3 N T 512).ShapeCasts ⟨4, ![N, T, 4, 128]⟩) (ht : (⟨4, ![N, T, 4, 128]⟩ : Shape).Transposes [0, 2, 1, 3] ⟨4, ![N, 4, T, 128]⟩)
    (U : FVec Ideal (S3 N T 512) .f32) : FVec Ideal ⟨4, ![N, 4, T, 128]⟩ .f32 :=
  transpose ⟨4, ![N, 4, T, 128]⟩ [0, 2, 1, 3] (shapeCast ⟨4, ![N, T, 4, 128]⟩ U hc) ht

/-- are read where they stood. -/
theorem tiled_at (hc : (S3 N T 512).ShapeCasts ⟨4, ![N, T, 4, 128]⟩) (ht : (⟨4, ![N, T, 4, 128]⟩ : Shape).Transposes [0, 2, 1, 3] ⟨4, ![N, 4, T, 128]⟩)
    (U : FVec Ideal (S3 N T 512) .f32) (n : Fin N) (q : Fin 4) (t : Fin T) (l : Fin 128) :
    tiled hc ht U (ix4 n q t l) = U (ix3 n t ⟨128 * q.val + l.val, by omega⟩) := by
  have h : shapeCast ⟨4, ![N, T, 4, 128]⟩ U hc (ix4 n t q l) = U (ix3 n t ⟨128 * q.val + l.val, by omega⟩) :=
    congrArg U (Shape.reshapeEquiv_eq_of_rowMajor _ (by
      rw [Shape.rowMajor_val_four, Shape.rowMajor_val_three]
      show (n.val * T + t.val) * 512 + (128 * q.val + l.val) = ((n.val * T + t.val) * 4 + q.val) * 128 + l.val
      generalize n.val * T + t.val = k
      omega))
  have h' (W : FVec Ideal ⟨4, ![N, T, 4, 128]⟩ .f32) : transpose ⟨4, ![N, 4, T, 128]⟩ [0, 2, 1, 3] W ht (ix4 n q t l) = W (ix4 n t q l) :=
    transpose_apply _ W ht _ _ fun b => match b with
      | ⟨0, _⟩ => rfl
      | ⟨1, _⟩ => rfl
      | ⟨2, _⟩ => rfl
      | ⟨3, _⟩ => rfl
  unfold tiled
  rw [h', h]

/-- The sigmoid of a range of columns. -/
def sig (U : FVec Ideal (S3 N T 1024) .f32) : FVec Ideal (S3 N T 1024) .f32 :=
  Host.divf (broadcastInDim (S3 N T 1024) ![] F.ones (constant S0 .f32 0x3F800000#32)) (addf (broadcastInDim (S3 N T 1024) ![] F.ones (constant S0 .f32 0x3F800000#32)) (Host.exp (Host.negf U)))

theorem sig_at (U : FVec Ideal (S3 N T 1024) .f32) (n : Fin N) (t : Fin T) (l : Fin 1024) : sig F U (ix3 n t l) = sigmoid (U (ix3 n t l)) := by
  pointwise [sig]
  rfl

/-- Zero, everywhere. -/
def zeros : FVec Ideal (S3 N T 8) .f32 := broadcastInDim (S3 N T 8) ![] F.zero (constant S0 .f32 0x00000000#32)

/-- The softplus, entry by entry. -/
def soft (U : FVec Ideal (S3 N T 8) .f32) : FVec Ideal (S3 N T 8) .f32 :=
  select (cmpf .une (subf U (zeros F)) (subf U (zeros F))) (addf U (zeros F)) (addf (maximumf U (zeros F)) (Host.log1p (Host.exp (Host.negf (Host.absf (subf U (zeros F)))))))

theorem soft_at (U : FVec Ideal (S3 N T 8) .f32) (n : Fin N) (t : Fin T) (h : Fin 8) : soft F U (ix3 n t h) = softplus (U (ix3 n t h)) := by
  pointwise [soft, zeros]
  rw [if_neg (by simp)]
  rfl

/-- The gate logarithms, from the product and the bias. -/
def logs (Z : FVec Ideal (S3 N T 4104) .f32) (b : FVec Ideal (S1 8) .f32) : FVec Ideal (S3 N T 8) .f32 :=
  Host.negf (soft F (Host.negf (addf (extractStridedSlice (S3 N T 8) ![0, 0, 1536] Z F.logs) (broadcastInDim (S3 N T 8) ![0, 1, 2] F.biases (broadcastInDim (S3 1 1 8) ![2] F.bias b)))))

theorem logs_at (b : FVec Ideal (S1 8) .f32) (n : Fin N) (t : Fin T) (h : Fin 8) :
    logs F Z b (ix3 n t h) = logSigmoid (Z (ix3 n t ⟨1536 + h.val, by omega⟩) + b (ix1 h)) := by
  have e (U : FVec Ideal (S3 N T 8) .f32) : Host.negf (soft F (Host.negf U)) (ix3 n t h) = logSigmoid (U (ix3 n t h)) := by
    show -(soft F (Host.negf U) (ix3 n t h)) = _
    rw [soft_at]
    rfl
  have e' : broadcastInDim (S3 N T 8) ![0, 1, 2] F.biases (broadcastInDim (S3 1 1 8) ![2] F.bias b) (ix3 n t h) = b (ix1 h) := by
    pointwise
  unfold logs
  rw [e]
  exact congrArg logSigmoid (congrArg₂ (· + ·) (cols_of Z F.logs n t h (by omega)) e')

/-! The results, from the arguments. -/

variable (a : Args N T)

theorem keys_eq : extractStridedSlice (S3 N T 512) ![0, 0, 512] (all F a.x a.g a.w) F.keys = a.keys := by
  refine ext3 fun n t l => ?_
  rw [cols_of _ _ n t l (by omega), all_at, Args.keys_at]
  rfl

theorem valueRows_eq : extractStridedSlice (S3 N T 512) ![0, 0, 1024] (all F a.x a.g a.w) F.values = a.valueRows := by
  refine ext3 fun n t l => ?_
  rw [cols_of _ _ n t l (by omega), all_at, Args.valueRows_at]
  rfl

theorem values_eq (h : (S3 N T 512).Transposes [0, 2, 1] (S3 N 512 T)) :
    transpose (S3 N 512 T) [0, 2, 1] (extractStridedSlice (S3 N T 512) ![0, 0, 1024] (all F a.x a.g a.w) F.values) h = a.values := by
  rw [valueRows_eq]
  refine ext3 fun n l t => ?_
  generalize e : a.valueRows = U
  have e' : transpose (S3 N 512 T) [0, 2, 1] U h (ix3 n l t) = U (ix3 n t l) :=
    transpose_apply _ U h _ _ fun b => match b with
      | ⟨0, _⟩ => rfl
      | ⟨1, _⟩ => rfl
      | ⟨2, _⟩ => rfl
  rw [e', ← e]
  rfl

theorem gates_eq : logs F (all F a.x a.g a.w) a.b = a.gates := by
  refine ext3 fun n t l => ?_
  rw [logs_at, all_at, Args.gates_at]
  rfl

theorem drive_at (n : Fin N) (t : Fin T) (l : Fin 512) :
    extractStridedSlice (S3 N T 512) ![0, 0, 1544] (all F a.x a.g a.w) F.drives (ix3 n t l) = a.z n t ⟨1544 + l.val, by omega⟩ := by
  rw [cols_of _ _ n t l (by omega), all_at]

theorem drives_eq (hc : (S3 N T 512).ShapeCasts ⟨4, ![N, T, 4, 128]⟩) (ht : (⟨4, ![N, T, 4, 128]⟩ : Shape).Transposes [0, 2, 1, 3] ⟨4, ![N, 4, T, 128]⟩) :
    tiled hc ht (extractStridedSlice (S3 N T 512) ![0, 0, 1544] (all F a.x a.g a.w) F.drives) = a.drives := by
  refine ext4 fun n q t l => ?_
  rw [tiled_at, drive_at, Args.drives_at]
  rfl

theorem outAs_eq : sig F (extractStridedSlice (S3 N T 1024) ![0, 0, 2056] (all F a.x a.g a.w) F.outAs) = a.outAs := by
  refine ext3 fun n t l => ?_
  rw [sig_at, cols_of _ _ n t l (by omega), all_at, Args.outAs_at]
  rfl

theorem outSs_eq : sig F (extractStridedSlice (S3 N T 1024) ![0, 0, 3080] (all F a.x a.g a.w) F.outSs) = a.outSs := by
  refine ext3 fun n t l => ?_
  rw [sig_at, cols_of _ _ n t l (by omega), all_at, Args.outSs_at]
  rfl

end Cert.Proj.Ref

end
-- ==== Proof.ProjCompare.lean ====
/-
  The input projection's value claim: the idealized kernel and the plain reference end with the same six arrays.
-/
module

public import proofs.«01_k».proof.Defs
public import proofs.«01_k».proof.Proof.ProjWhole
public import proofs.«01_k».proof.Proof.ProjReference
public import proofs.«01_k».proof.Proof.Gen.Project
public import proofs.«01_k».proof.Proof.Gen.ProjectIdeal
public import proofs.«01_k».proof.Proof.Gen.ProjectReferenceIdeal
public import proofs.«01_k».proof.Proof.Gen.ProjectReferenceIdeal.Run
public import Idealize.ShloMosaic.Lib.Quiescent

@[expose] public section

set_option maxRecDepth 16384

noncomputable section

namespace Cert.Proj

open Idealize.ShloMosaic Idealize.ShloMosaic.TcCoe Idealize.SL.Sem

/-- The reference runs, its arguments end unchanged, and it has no semaphore. -/
theorem reference : Cert.quiescent_ProjectReferenceIdeal := fun m ρ _ =>
  (θ_run _ _ _).mono (fun r h => ⟨fun c => (h c).2.2.2.2.2.2, Idealize.ShloMosaic.sem_eq_zero_of_no_sems (by decide) r.2⟩)
    (Cert.ProjectReferenceIdeal.Value.run m ρ)

open Cert.ProjectReferenceIdeal.Facts₀ in
/-- The shapes of the reference's operations fit. -/
theorem fits : Ref.Fits 2 16384 where
  sum := reducesTo_S2x16384x1024_S2x16384_d2
  one := h_S_
  mean := bcast_S2x16384_S2x16384x1_0_1
  const := bcast_S_S2x16384x1
  scale := bcast_S2x16384x1_S2x16384x1024_0_1_2
  gain := bcast_S1024_S1x1x1024_2
  gains := bcast_S1x1x1024_S2x16384x1024_0_1_2
  keys := slices_S2x16384x4104_S2x16384x512_0_0_512
  values := slices_S2x16384x4104_S2x16384x512_0_0_1024
  logs := slices_S2x16384x4104_S2x16384x8_0_0_1536
  drives := slices_S2x16384x4104_S2x16384x512_0_0_1544
  outAs := slices_S2x16384x4104_S2x16384x1024_0_0_2056
  outSs := slices_S2x16384x4104_S2x16384x1024_0_0_3080
  bias := bcast_S8_S1x1x8_2
  biases := bcast_S1x1x8_S2x16384x8_0_1_2
  zero := bcast_S_S2x16384x8
  ones := bcast_S_S2x16384x1024
  dot := dot_S2x16384x1024_S1024x4104_S2x16384x4104_2_0_01_1_n_n_wf

/-- The reference's arguments on device `c`. -/
def refArgs (m : (ℓ : Loc Cert.ProjectReferenceIdeal.nD Cert.ProjectReferenceIdeal.τ Cert.ProjectReferenceIdeal.sig) → Buf (Elt Ideal) ℓ)
    (c : Dev Cert.ProjectReferenceIdeal.nD) : Args 2 16384 :=
  ⟨m ((c.tc : Thread Cert.ProjectReferenceIdeal.nD Cert.ProjectReferenceIdeal.τ).loc Cert.ProjectReferenceIdeal.main_arg0),
    m ((c.tc : Thread Cert.ProjectReferenceIdeal.nD Cert.ProjectReferenceIdeal.τ).loc Cert.ProjectReferenceIdeal.main_arg1),
    m ((c.tc : Thread Cert.ProjectReferenceIdeal.nD Cert.ProjectReferenceIdeal.τ).loc Cert.ProjectReferenceIdeal.main_arg2),
    m ((c.tc : Thread Cert.ProjectReferenceIdeal.nD Cert.ProjectReferenceIdeal.τ).loc Cert.ProjectReferenceIdeal.main_arg3)⟩

/-- The gate logarithms the reference returns are the log-sigmoid of its columns. -/
theorem ref_gates (m : (ℓ : Loc Cert.ProjectReferenceIdeal.nD Cert.ProjectReferenceIdeal.τ Cert.ProjectReferenceIdeal.sig) → Buf (Elt Ideal) ℓ)
    (c : Dev Cert.ProjectReferenceIdeal.nD) :
    Cert.ProjectReferenceIdeal.Value.res_main_v24 m c = (refArgs m c).gates := by
  unfold Cert.ProjectReferenceIdeal.Value.res_main_v24
  exact Ref.gates_eq fits (refArgs m c)

/-- Both programs end with the keys, the values, the gate logarithms, the drive and the two output gates of the same
    arguments. -/
theorem algebraic : Cert.algebraic_ProjectIdeal_ProjectReferenceIdeal := by
  intro m g m' g' _ hag
  refine ⟨fun c => (argsOf m c).keys, fun c => (argsOf m c).values, fun c => (argsOf m c).gates, fun c => (argsOf m c).drives,
    fun c => (argsOf m c).outAs, fun c => (argsOf m c).outSs, ?_, ?_⟩
  · refine (θ_run _ _ _).mono (fun r h c => ?_) (Cert.ProjectIdeal.Value.run_blocks m g)
    obtain ⟨h0, h1, h2, h3, h4, h5, _, _, _, hargs⟩ := h c
    exact ⟨h0.trans (keys_final m c), h1.trans (values_final m c), h2.trans (gates_final m c), h3.trans (drives_final m c),
      h4.trans (outAs_final m c), h5.trans (outSs_final m c), hargs⟩
  · refine (θ_run _ _ _).mono (fun r h c => ?_) (Cert.ProjectReferenceIdeal.Value.run m' g')
    have e : refArgs m' c = argsOf m c := by
      obtain ⟨e0, e1, e2, e3⟩ := hag c
      unfold refArgs argsOf
      rw [e0, e1, e2, e3]
    obtain ⟨h0, h1, h2, h3, h4, h5, hargs⟩ := h c
    exact ⟨h0.trans ((Ref.keys_eq fits (refArgs m' c)).trans (congrArg Args.keys e)),
      h1.trans ((Ref.values_eq fits (refArgs m' c) _).trans (congrArg Args.values e)),
      h2.trans ((ref_gates m' c).trans (congrArg Args.gates e)),
      h3.trans ((Ref.drives_eq fits (refArgs m' c) _ _).trans (congrArg Args.drives e)),
      h4.trans ((Ref.outAs_eq fits (refArgs m' c)).trans (congrArg Args.outAs e)),
      h5.trans ((Ref.outSs_eq fits (refArgs m' c)).trans (congrArg Args.outSs e)), hargs⟩

end Cert.Proj

end
-- ==== Proof.SampleOut.lean ====
/-
  What one grid point of the sample's input projection leaves in each block of its results, entry by entry. The normed
  rows, the gate logarithms, the drive's tiles and the output gates are the prompt's operations on blocks of the same
  shapes, and their lemmas are used as they stand; keys and values are columns of one product.
-/
module

public import proofs.«01_k».proof.Proof.ProjOut
public import proofs.«01_k».proof.Proof.Gen.SampleIdeal.Frame
public import Idealize.ShloMosaic.Lib.Pipeline.ValueKit
public import Idealize.ShloMosaic.Lib.Pointwise

@[expose] public section

set_option maxRecDepth 16384

noncomputable section

namespace Cert.Samp

open Idealize.ShloMosaic Idealize.ShloMosaic.TcCoe Cert.SampleIdeal Cert.SampleIdeal.Gen Cert.Layer
open Cert.Proj (row gain off2 off3 sum_normed)

theorem keys_at (H : FVec Ideal S256x1024 .bf16) (w : Vec Ideal S1024x1536 .bf16) (r : Fin 256) (l : Fin 512) :
    k0_pay5 (F := Ideal) H w (ix3 0 r l) = ∑ j, H (ix2 r j) * w (ix2 j ⟨512 + l.val, by omega⟩) := by
  pointwise [k0_pay5, k0_pay3]

theorem values_at (H : FVec Ideal S256x1024 .bf16) (w : Vec Ideal S1024x1536 .bf16) (r : Fin 256) (l : Fin 512) :
    k0_pay6 (F := Ideal) H w (ix3 0 r l) = ∑ j, H (ix2 r j) * w (ix2 j ⟨1024 + l.val, by omega⟩) := by
  pointwise [k0_pay6, k0_pay3]

/-! The prompt's operations, met here again. -/

theorem normed_same (x : Vec Ideal S1x256x1024 .f32) (g : Vec Ideal S1x1024 .f32) : k0_pay7 (F := Ideal) x g = Cert.ProjectIdeal.Gen.k0_pay2 x g := rfl

theorem log_same (x : Vec Ideal S1x256x1024 .f32) (g : Vec Ideal S1x1024 .f32) (w : Vec Ideal S1024x128 .bf16) (b : Vec Ideal S1x128 .f32) :
    k0_pay10 (F := Ideal) (k0_pay8 x g w b) k0_pay9 = Cert.ProjectIdeal.Gen.k0_pay6 (Cert.ProjectIdeal.Gen.k0_pay3 x g w b) Cert.ProjectIdeal.Gen.k0_pay4 := rfl

theorem gateA_same (H : FVec Ideal S256x1024 .bf16) (w : Vec Ideal S1024x1024 .bf16) :
    k0_pay1 (F := Ideal) (k0_pay16 H w) = Cert.ProjectIdeal.Gen.k0_pay13 (Cert.ProjectIdeal.Gen.k0_pay12 H w) := rfl

theorem gateS_same (H : FVec Ideal S256x1024 .bf16) (w : Vec Ideal S1024x1024 .bf16) :
    k0_pay2 (F := Ideal) H w = Cert.ProjectIdeal.Gen.k0_pay14 H w := rfl

theorem tile0_same (H : FVec Ideal S256x1024 .bf16) (w : Vec Ideal S1024x512 .bf16) : k0_pay12 (F := Ideal) H w = Cert.ProjectIdeal.Gen.k0_pay8 H w := rfl
theorem tile1_same (H : FVec Ideal S256x1024 .bf16) (w : Vec Ideal S1024x512 .bf16) : k0_pay13 (F := Ideal) H w = Cert.ProjectIdeal.Gen.k0_pay9 H w := rfl
theorem tile2_same (H : FVec Ideal S256x1024 .bf16) (w : Vec Ideal S1024x512 .bf16) : k0_pay14 (F := Ideal) H w = Cert.ProjectIdeal.Gen.k0_pay10 H w := rfl
theorem tile3_same (H : FVec Ideal S256x1024 .bf16) (w : Vec Ideal S1024x512 .bf16) : k0_pay15 (F := Ideal) H w = Cert.ProjectIdeal.Gen.k0_pay11 H w := rfl

variable (x0 : Vec Ideal S1x256x1024 .f32) (x1 : Vec Ideal S1x1024 .f32) (x2 : Vec Ideal S1024x1536 .bf16) (x3 : Vec Ideal S1024x128 .bf16)
variable (x4 : Vec Ideal S1x128 .f32) (x5 : Vec Ideal S1024x512 .bf16) (x6 : Vec Ideal S1024x1024 .bf16) (x7 : Vec Ideal S1024x1024 .bf16)

/-- The tile's normed rows. -/
theorem hid_eq : k0_pay17 (F := Ideal) x0 x1 x2 x3 x4 x5 x6 x7 = Cert.ProjectIdeal.Gen.k0_pay2 x0 x1 := by
  unfold k0_pay17
  rw [View.ld_unit_lit (S := S1x256x1024) _ x0 off3, View.ld_unit_lit (S := S1x1024) _ x1 off2, normed_same]

theorem keys_out (r : Fin 256) (l : Fin 512) :
    out0_9 (F := Ideal) x0 x1 x2 x3 x4 x5 x6 x7 (ix3 0 r l) = proj (row x0 r) (gain x1) fun j => x2 (ix2 j ⟨512 + l.val, by omega⟩) := by
  unfold out0_9
  refine (congrFun (View.canon_cons_unit_lit (S := S1x256x512) _ _ [] off3) _).trans ?_
  rw [View.ld_unit_lit (S := S1024x1536) _ x2 off2, keys_at]
  exact sum_normed (hid_eq x0 x1 x2 x3 x4 x5 x6 x7) r _

theorem values_out (r : Fin 256) (l : Fin 512) :
    out0_10 (F := Ideal) x0 x1 x2 x3 x4 x5 x6 x7 (ix3 0 r l) = proj (row x0 r) (gain x1) fun j => x2 (ix2 j ⟨1024 + l.val, by omega⟩) := by
  unfold out0_10
  refine (congrFun (View.canon_cons_unit_lit (S := S1x256x512) _ _ [] off3) _).trans ?_
  rw [View.ld_unit_lit (S := S1024x1536) _ x2 off2, values_at]
  exact sum_normed (hid_eq x0 x1 x2 x3 x4 x5 x6 x7) r _

theorem gates_out (r : Fin 256) (h : Fin 8) :
    out0_11 (F := Ideal) x0 x1 x2 x3 x4 x5 x6 x7 (ix3 0 r h)
      = logSigmoid (proj (row x0 r) (gain x1) (fun j => x3 (ix2 j (h.castLE (by norm_num)))) + x4 (ix2 0 (h.castLE (by norm_num)))) := by
  unfold out0_11
  refine (congrFun (View.canon_cons_unit_lit (S := S1x256x8) _ _ [] off3) _).trans ?_
  rw [View.ld_unit_lit (S := S1x256x1024) _ x0 off3, View.ld_unit_lit (S := S1x1024) _ x1 off2, View.ld_unit_lit (S := S1024x128) _ x3 off2,
    View.ld_unit_lit (S := S1x128) _ x4 off2, log_same]
  exact Cert.Proj.log_at x0 x1 x3 x4 r h

theorem drives_out (q : Fin 4) (r : Fin 256) (l : Fin 128) :
    out0_12 (F := Ideal) x0 x1 x2 x3 x4 x5 x6 x7 (ix4 0 q r l) = proj (row x0 r) (gain x1) fun j => x5 (ix2 j ⟨128 * q.val + l.val, by omega⟩) := by
  unfold out0_12
  rw [View.ld_unit_lit (S := S1024x512) _ x5 off2, tile0_same, tile1_same, tile2_same, tile3_same]
  exact Cert.Proj.tiles_at (hid_eq x0 x1 x2 x3 x4 x5 x6 x7) x5 _ _ _ _ q r l

theorem outAs_out (r : Fin 256) (l : Fin 1024) :
    out0_13 (F := Ideal) x0 x1 x2 x3 x4 x5 x6 x7 (ix3 0 r l) = sigmoid (proj (row x0 r) (gain x1) fun j => x6 (ix2 j l)) := by
  unfold out0_13
  refine (congrFun (View.canon_cons_unit_lit (S := S1x256x1024) _ _ [] off3) _).trans ?_
  rw [View.ld_unit_lit (S := S1024x1024) _ x6 off2, gateA_same, Cert.Proj.gateA_at]
  exact congrArg sigmoid (sum_normed (hid_eq x0 x1 x2 x3 x4 x5 x6 x7) r _)

theorem outSs_out (r : Fin 256) (l : Fin 1024) :
    out0_14 (F := Ideal) x0 x1 x2 x3 x4 x5 x6 x7 (ix3 0 r l) = sigmoid (proj (row x0 r) (gain x1) fun j => x7 (ix2 j l)) := by
  unfold out0_14
  refine (congrFun (View.canon_cons_unit_lit (S := S1x256x1024) _ _ [] off3) _).trans ?_
  rw [View.ld_unit_lit (S := S1024x1024) _ x7 off2, gateS_same, Cert.Proj.gateS_at]
  exact congrArg sigmoid (sum_normed (hid_eq x0 x1 x2 x3 x4 x5 x6 x7) r _)

end Cert.Samp

end
-- ==== Proof.SampleWeights.lean ====
/-
  The operands the sample's input projection is given, entry by entry: the input in time-major order, and each block of
  the packed weights a range of columns of the layer's weights.
-/
module

public import proofs.«01_k».proof.Proof.Gen.SampleIdeal.Frame
public import Idealize.ShloMosaic.Lib.StableHlo.ReadAt
public import Idealize.ShloMosaic.Lib.Pointwise
public import Idealize.ShloMosaic.Lib.Claim

@[expose] public section

set_option maxRecDepth 16384

noncomputable section

namespace Cert.Samp

open Idealize.ShloMosaic Idealize.ShloMosaic.TcCoe Cert.SampleIdeal Cert.SampleIdeal.Gen

variable (m : (ℓ : Loc nD τ sig) → Buf (Elt Ideal) ℓ) (c : Dev nD)

/-- The input in time-major order: position by position, the sequences of each side by side. -/
def timeMajor (x : Vec Ideal S128x8x1024 .f32) : Vec Ideal S1x1024x1024 .f32 :=
  shapeCast S1x1024x1024 (transpose S8x128x1024 [1, 0, 2] x Facts₀.transposes_S128x8x1024_S8x128x1024_1_0_2) Facts₀.shapeCasts_S8x128x1024_S1x1024x1024

theorem input_eq : V m c main_v1 = timeMajor (m ((c.tc : Thread nD τ).loc main_arg0)) := by
  unfold V timeMajor
  after_reads_simp
  rfl

theorem gain_at (j : Fin 1024) : V m c main_v2 (ix2 0 j) = m ((c.tc : Thread nD τ).loc main_arg1) (ix1 j) := by
  unfold V
  after_reads_at

theorem keyWeight_at (j : Fin 1024) (l : Fin 512) :
    V m c main_v8 (ix2 j ⟨512 + l.val, by omega⟩) = m ((c.tc : Thread nD τ).loc main_arg2) (ix2 j ⟨512 + l.val, by omega⟩) := by
  unfold V
  after_reads_at
  after_reads_at

theorem valueWeight_at (j : Fin 1024) (l : Fin 512) :
    V m c main_v8 (ix2 j ⟨1024 + l.val, by omega⟩) = m ((c.tc : Thread nD τ).loc main_arg2) (ix2 j ⟨1024 + l.val, by omega⟩) := by
  unfold V
  after_reads_at
  after_reads_at
  rw [dif_neg (by omega)]
  exact congrArg (m ((c.tc : Thread nD τ).loc main_arg2)) (congrArg (ix2 j) (Fin.ext (show 512 + (1024 + l.val - 512) = 1024 + l.val by omega)))

theorem logWeight_at (j : Fin 1024) (h : Fin 8) :
    V m c main_v11 (ix2 j (h.castLE (by norm_num))) = m ((c.tc : Thread nD τ).loc main_arg2) (ix2 j ⟨1536 + h.val, by omega⟩) := by
  unfold V
  after_reads_at
  exact dif_pos h.isLt

theorem logBias_at (h : Fin 8) :
    V m c main_v13 (ix2 0 (h.castLE (by norm_num))) = m ((c.tc : Thread nD τ).loc main_arg3) (ix1 h) := by
  unfold V
  after_reads_at
  exact dif_pos h.isLt

theorem drive_at (j : Fin 1024) (l : Fin 512) :
    V m c main_v15 (ix2 j l) = m ((c.tc : Thread nD τ).loc main_arg2) (ix2 j ⟨1544 + l.val, by omega⟩) := by
  unfold V
  after_reads_at

theorem gateA_weight (j : Fin 1024) (l : Fin 1024) :
    V m c main_v17 (ix2 j l) = m ((c.tc : Thread nD τ).loc main_arg2) (ix2 j ⟨2056 + l.val, by omega⟩) := by
  unfold V
  after_reads_at

theorem gateS_weight (j : Fin 1024) (l : Fin 1024) :
    V m c main_v19 (ix2 j l) = m ((c.tc : Thread nD τ).loc main_arg2) (ix2 j ⟨3080 + l.val, by omega⟩) := by
  unfold V
  after_reads_at

end Cert.Samp

end
-- ==== Proof.SampleWhole.lean ====
/-
  From tiles to whole arrays: the blocks a tile of the sample reads are slices of the arguments and of the packed
  weights, those it leaves are slices of the six results, and they cover them.
-/
module

public import proofs.«01_k».proof.Proof.ProjBlocks
public import proofs.«01_k».proof.Proof.SampleOut
public import proofs.«01_k».proof.Proof.SampleWeights
public import proofs.«01_k».proof.Proof.Gen.SampleIdeal.Value
public import Idealize.ShloMosaic.Lib.Pipeline.Value

@[expose] public section

set_option maxRecDepth 16384

noncomputable section

namespace Cert.Samp

open Idealize.ShloMosaic Idealize.ShloMosaic.TcCoe Cert.SampleIdeal Cert.SampleIdeal.Gen Cert.Layer Idealize.SL.Sem
open Idealize.ShloMosaic.Pipeline (Dat)
open Cert.Proj (Args ext3 ext4 row gain rows_val rows_mem tiles_val tiles_mem whole_val)

variable (m : (ℓ : Loc nD τ sig) → Buf (Elt Ideal) ℓ) (ρ : Dev nD → PrngReg) (c : Dev nD)

/-- The arguments of device `c`, the input in time-major order. -/
def argsOf : Args 1 1024 :=
  ⟨timeMajor (m ((c : Thread nD τ).loc main_arg0)), m ((c : Thread nD τ).loc main_arg1), m ((c : Thread nD τ).loc main_arg2), m ((c : Thread nD τ).loc main_arg3)⟩

/-- The windows of rows and of the lane tiles follow the grid's coordinates, -/
theorem index_rows : ∀ t : Fin grid0.N,
    win0_0.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, 0, (grid0.coords t 1).val, 0]
    ∧ win0_13.index t = ![(grid0.coords t 0).val, (grid0.coords t 1).val, 0]
    ∧ win0_14.index t = ![(grid0.coords t 0).val, (grid0.coords t 1).val, 0] := by decide +kernel

/-- and those of the weights stay. -/
theorem index_whole : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

section

variable (t : Fin cfg0.N)

theorem seq_lt : (grid0.coords t 0).val < 1 := (grid0.coords t 0).isLt
theorem tile_lt : (grid0.coords t 1).val < 4 := (grid0.coords t 1).isLt

/-- The one line of a point, and the place in it of its row `r`. -/
def seqAt : Fin 1 := ⟨(grid0.coords t 0).val, seq_lt t⟩
def posAt (r : Fin 256) : Fin 1024 := ⟨256 * (grid0.coords t 1).val + r.val, by have := tile_lt t; omega⟩

/-! The blocks a point reads. -/

theorem x_blk (r : Fin 256) : row (iblk m c 0 t) r = fun j => (argsOf m c).x (ix3 (seqAt t) (posAt t r) j) := by
  funext j
  show iblk m c 0 t _ = _
  unfold iblk
  rw [View.read_apply]
  exact (congrArg (V m c main_v1) (funext fun a => Fin.ext (rows_val (index_rows t).1 (seq_lt t) r (posAt t r).isLt j a))).trans
    (congrFun (input_eq m c) (ix3 (seqAt t) (posAt t r) j))

theorem gain_blk (j : Fin 1) (l : Fin 1024) : (iblk m c 1 t : Vec Ideal S1x1024 .f32) (ix2 j l) = V m c main_v2 (ix2 j l) := by
  unfold iblk
  rw [View.read_apply]
  exact congrArg (V m c main_v2) (funext fun a => Fin.ext (whole_val (index_whole t).1 j l a))

theorem key_blk (j : Fin 1024) (l : Fin 1536) : (iblk m c 2 t : Vec Ideal S1024x1536 .bf16) (ix2 j l) = V m c main_v8 (ix2 j l) := by
  unfold iblk
  rw [View.read_apply]
  exact congrArg (V m c main_v8) (funext fun a => Fin.ext (whole_val (index_whole t).2.1 j l a))

theorem log_blk (j : Fin 1024) (l : Fin 128) : (iblk m c 3 t : Vec Ideal S1024x128 .bf16) (ix2 j l) = V m c main_v11 (ix2 j l) := by
  unfold iblk
  rw [View.read_apply]
  exact congrArg (V m c main_v11) (funext fun a => Fin.ext (whole_val (index_whole t).2.2.1 j l a))

theorem bias_blk (j : Fin 1) (l : Fin 128) : (iblk m c 4 t : Vec Ideal S1x128 .f32) (ix2 j l) = V m c main_v13 (ix2 j l) := by
  unfold iblk
  rw [View.read_apply]
  exact congrArg (V m c main_v13) (funext fun a => Fin.ext (whole_val (index_whole t).2.2.2.1 j l a))

theorem drive_blk (j : Fin 1024) (l : Fin 512) : (iblk m c 5 t : Vec Ideal S1024x512 .bf16) (ix2 j l) = V m c main_v15 (ix2 j l) := by
  unfold iblk
  rw [View.read_apply]
  exact congrArg (V m c main_v15) (funext fun a => Fin.ext (whole_val (index_whole t).2.2.2.2.1 j l a))

theorem outA_blk (j : Fin 1024) (l : Fin 1024) : (iblk m c 6 t : Vec Ideal S1024x1024 .bf16) (ix2 j l) = V m c main_v17 (ix2 j l) := by
  unfold iblk
  rw [View.read_apply]
  exact congrArg (V m c main_v17) (funext fun a => Fin.ext (whole_val (index_whole t).2.2.2.2.2.1 j l a))

theorem outS_blk (j : Fin 1024) (l : Fin 1024) : (iblk m c 7 t : Vec Ideal S1024x1024 .bf16) (ix2 j l) = V m c main_v19 (ix2 j l) := by
  unfold iblk
  rw [View.read_apply]
  exact congrArg (V m c main_v19) (funext fun a => Fin.ext (whole_val (index_whole t).2.2.2.2.2.2 j l a))

/-- A row of the tile against a column of a block of weights that is column `p` of all of them. -/
theorem proj_blk (r : Fin 256) (w : Fin 1024 → EReal) (p : Fin 4104) (hw : ∀ j, w j = m ((c : Thread nD τ).loc main_arg2) (ix2 j p)) :
    proj (row (iblk m c 0 t) r) (gain (iblk m c 1 t)) w = (argsOf m c).z (seqAt t) (posAt t r) p := by
  have eg : gain (iblk m c 1 t) = fun j => (argsOf m c).g (ix1 j) := funext fun j => (gain_blk m c t 0 j).trans (gain_at m c j)
  rw [x_blk, eg, funext hw]
  rfl

/-! What a point writes back. -/

theorem keys_flushed (r : Fin 256) (l : Fin 512) : ((dats m 0 c).flushed 9 t : Vec Ideal S1x256x512 .f32) (ix3 0 r l) = (argsOf m c).key (seqAt t) (posAt t r) l := by
  rw [Value.flushed9 m c t]
  exact (keys_out (iblk m c 0 t) (iblk m c 1 t) (iblk m c 2 t) (iblk m c 3 t) (iblk m c 4 t) (iblk m c 5 t) (iblk m c 6 t) (iblk m c 7 t) r l).trans (proj_blk m c t r _ ⟨512 + l.val, by omega⟩ fun j => (key_blk m c t j _).trans (keyWeight_at m c j l))

theorem valueRows_flushed (r : Fin 256) (l : Fin 512) : ((dats m 0 c).flushed 10 t : Vec Ideal S1x256x512 .f32) (ix3 0 r l) = (argsOf m c).value (seqAt t) l (posAt t r) := by
  rw [Value.flushed10 m c t]
  exact (values_out (iblk m c 0 t) (iblk m c 1 t) (iblk m c 2 t) (iblk m c 3 t) (iblk m c 4 t) (iblk m c 5 t) (iblk m c 6 t) (iblk m c 7 t) r l).trans (proj_blk m c t r _ ⟨1024 + l.val, by omega⟩ fun j => (key_blk m c t j _).trans (valueWeight_at m c j l))

theorem gates_flushed (r : Fin 256) (h : Fin 8) : ((dats m 0 c).flushed 11 t : Vec Ideal S1x256x8 .f32) (ix3 0 r h) = (argsOf m c).gate (seqAt t) (posAt t r) h := by
  rw [Value.flushed11 m c t]
  exact (gates_out (iblk m c 0 t) (iblk m c 1 t) (iblk m c 2 t) (iblk m c 3 t) (iblk m c 4 t) (iblk m c 5 t) (iblk m c 6 t) (iblk m c 7 t) r h).trans (congrArg logSigmoid (congrArg₂ (· + ·) (proj_blk m c t r _ ⟨1536 + h.val, by omega⟩ fun j => (log_blk m c t j _).trans (logWeight_at m c j h)) ((bias_blk m c t 0 _).trans (logBias_at m c h))))

theorem drives_flushed (q : Fin 4) (r : Fin 256) (l : Fin 128) : ((dats m 0 c).flushed 12 t : Vec Ideal S1x4x256x128 .f32) (ix4 0 q r l) = (argsOf m c).drive (seqAt t) q (posAt t r) l := by
  rw [Value.flushed12 m c t]
  exact (drives_out (iblk m c 0 t) (iblk m c 1 t) (iblk m c 2 t) (iblk m c 3 t) (iblk m c 4 t) (iblk m c 5 t) (iblk m c 6 t) (iblk m c 7 t) q r l).trans (proj_blk m c t r _ ⟨1544 + (128 * q.val + l.val), by omega⟩ fun j => (drive_blk m c t j _).trans (drive_at m c j ⟨128 * q.val + l.val, by omega⟩))

theorem outAs_flushed (r : Fin 256) (l : Fin 1024) : ((dats m 0 c).flushed 13 t : Vec Ideal S1x256x1024 .f32) (ix3 0 r l) = (argsOf m c).outA (seqAt t) (posAt t r) l := by
  rw [Value.flushed13 m c t]
  exact (outAs_out (iblk m c 0 t) (iblk m c 1 t) (iblk m c 2 t) (iblk m c 3 t) (iblk m c 4 t) (iblk m c 5 t) (iblk m c 6 t) (iblk m c 7 t) r l).trans (congrArg sigmoid (proj_blk m c t r _ ⟨2056 + l.val, by omega⟩ fun j => (outA_blk m c t j l).trans (gateA_weight m c j l)))

theorem outSs_flushed (r : Fin 256) (l : Fin 1024) : ((dats m 0 c).flushed 14 t : Vec Ideal S1x256x1024 .f32) (ix3 0 r l) = (argsOf m c).outS (seqAt t) (posAt t r) l := by
  rw [Value.flushed14 m c t]
  exact (outSs_out (iblk m c 0 t) (iblk m c 1 t) (iblk m c 2 t) (iblk m c 3 t) (iblk m c 4 t) (iblk m c 5 t) (iblk m c 6 t) (iblk m c 7 t) r l).trans (congrArg sigmoid (proj_blk m c t r _ ⟨3080 + l.val, by omega⟩ fun j => (outS_blk m c t j l).trans (gateS_weight m c j l)))

/-! So each block is the point's slice of the whole result. -/

theorem keys_eq : (dats m 0 c).flushed 9 t = ((cfg0.win 9).blk t).view.read (Elt Ideal) ((argsOf m c).keys) := by
  refine ext3 (x := 1) (y := 256) (z := 512) fun z r l => ?_
  obtain rfl : z = 0 := Subsingleton.elim _ _
  refine (keys_flushed m c t r l).trans ?_
  rw [← Args.keys_at, View.read_apply]
  generalize (argsOf m c).keys = R
  exact congrArg R (funext fun a => Fin.ext (rows_val (index_rows t).2.1 (seq_lt t) r (posAt t r).isLt l a).symm)

theorem valueRows_eq : (dats m 0 c).flushed 10 t = ((cfg0.win 10).blk t).view.read (Elt Ideal) ((argsOf m c).valueRows) := by
  refine ext3 (x := 1) (y := 256) (z := 512) fun z r l => ?_
  obtain rfl : z = 0 := Subsingleton.elim _ _
  refine (valueRows_flushed m c t r l).trans ?_
  rw [← Args.valueRows_at, View.read_apply]
  generalize (argsOf m c).valueRows = R
  exact congrArg R (funext fun a => Fin.ext (rows_val (index_rows t).2.2.1 (seq_lt t) r (posAt t r).isLt l a).symm)

theorem gates_eq : (dats m 0 c).flushed 11 t = ((cfg0.win 11).blk t).view.read (Elt Ideal) ((argsOf m c).gates) := by
  refine ext3 (x := 1) (y := 256) (z := 8) fun z r h => ?_
  obtain rfl : z = 0 := Subsingleton.elim _ _
  refine (gates_flushed m c t r h).trans ?_
  rw [← Args.gates_at, View.read_apply]
  generalize (argsOf m c).gates = R
  exact congrArg R (funext fun a => Fin.ext (rows_val (index_rows t).2.2.2.1 (seq_lt t) r (posAt t r).isLt h a).symm)

theorem drives_eq : (dats m 0 c).flushed 12 t = ((cfg0.win 12).blk t).view.read (Elt Ideal) ((argsOf m c).drives) := by
  refine ext4 (x := 1) (y := 4) (z := 256) (w := 128) fun z q r l => ?_
  obtain rfl : z = 0 := Subsingleton.elim _ _
  refine (drives_flushed m c t q r l).trans ?_
  rw [← Args.drives_at, View.read_apply]
  generalize (argsOf m c).drives = R
  exact congrArg R (funext fun a => Fin.ext (tiles_val (index_rows t).2.2.2.2.1 (seq_lt t) q r (posAt t r).isLt l a).symm)

theorem outAs_eq : (dats m 0 c).flushed 13 t = ((cfg0.win 13).blk t).view.read (Elt Ideal) ((argsOf m c).outAs) := by
  refine ext3 (x := 1) (y := 256) (z := 1024) fun z r l => ?_
  obtain rfl : z = 0 := Subsingleton.elim _ _
  refine (outAs_flushed m c t r l).trans ?_
  rw [← Args.outAs_at, View.read_apply]
  generalize (argsOf m c).outAs = R
  exact congrArg R (funext fun a => Fin.ext (rows_val (index_rows t).2.2.2.2.2.1 (seq_lt t) r (posAt t r).isLt l a).symm)

theorem outSs_eq : (dats m 0 c).flushed 14 t = ((cfg0.win 14).blk t).view.read (Elt Ideal) ((argsOf m c).outSs) := by
  refine ext3 (x := 1) (y := 256) (z := 1024) fun z r l => ?_
  obtain rfl : z = 0 := Subsingleton.elim _ _
  refine (outSs_flushed m c t r l).trans ?_
  rw [← Args.outSs_at, View.read_apply]
  generalize (argsOf m c).outSs = R
  exact congrArg R (funext fun a => Fin.ext (rows_val (index_rows t).2.2.2.2.2.2 (seq_lt t) r (posAt t r).isLt l a).symm)

end

/-- Every tile is some point's. -/
theorem point_at : ∀ (n : Fin 1) (p : Fin 4), ∃ t : Fin grid0.N,
    (grid0.coords t 0).val = n.val ∧ (grid0.coords t 1).val = p.val := by decide +kernel

/-! So each result ends as the whole array. -/

theorem keys_final : (dats m 0 c).arrAt 9 cfg0.N = (argsOf m c).keys := by
  refine (dats m 0 c).arrAt_eq_of_cover 9 (argsOf m c).keys (fun t _ => keys_eq m c t) fun (i : S1x1024x512.Idx) => ?_
  have h0 : (i 0).val < 1 := (i 0).isLt
  have h1 : (i 1).val < 1024 := (i 1).isLt
  obtain ⟨t, e0, e1⟩ := point_at ⟨(i 0).val, h0⟩ ⟨(i 1).val / 256, by omega⟩
  refine ⟨t, flush0_9 t, ?_⟩
  show i ∈ ((View.whole main_v47_1).slice (win0_9.rect t)).set
  rw [View.set_slice_whole, Rect.mem_set_unit]
  exact rows_mem (index_rows t).2.1 i e0 e1

theorem valueRows_final : (dats m 0 c).arrAt 10 cfg0.N = (argsOf m c).valueRows := by
  refine (dats m 0 c).arrAt_eq_of_cover 10 (argsOf m c).valueRows (fun t _ => valueRows_eq m c t) fun (i : S1x1024x512.Idx) => ?_
  have h0 : (i 0).val < 1 := (i 0).isLt
  have h1 : (i 1).val < 1024 := (i 1).isLt
  obtain ⟨t, e0, e1⟩ := point_at ⟨(i 0).val, h0⟩ ⟨(i 1).val / 256, by omega⟩
  refine ⟨t, flush0_10 t, ?_⟩
  show i ∈ ((View.whole main_v47_2).slice (win0_10.rect t)).set
  rw [View.set_slice_whole, Rect.mem_set_unit]
  exact rows_mem (index_rows t).2.2.1 i e0 e1

theorem gates_final : (dats m 0 c).arrAt 11 cfg0.N = (argsOf m c).gates := by
  refine (dats m 0 c).arrAt_eq_of_cover 11 (argsOf m c).gates (fun t _ => gates_eq m c t) fun (i : S1x1024x8.Idx) => ?_
  have h0 : (i 0).val < 1 := (i 0).isLt
  have h1 : (i 1).val < 1024 := (i 1).isLt
  obtain ⟨t, e0, e1⟩ := point_at ⟨(i 0).val, h0⟩ ⟨(i 1).val / 256, by omega⟩
  refine ⟨t, flush0_11 t, ?_⟩
  show i ∈ ((View.whole main_v47_3).slice (win0_11.rect t)).set
  rw [View.set_slice_whole, Rect.mem_set_unit]
  exact rows_mem (index_rows t).2.2.2.1 i e0 e1

theorem drives_final : (dats m 0 c).arrAt 12 cfg0.N = (argsOf m c).drives := by
  refine (dats m 0 c).arrAt_eq_of_cover 12 (argsOf m c).drives (fun t _ => drives_eq m c t) fun (i : S1x4x1024x128.Idx) => ?_
  have h0 : (i 0).val < 1 := (i 0).isLt
  have h1 : (i 2).val < 1024 := (i 2).isLt
  obtain ⟨t, e0, e1⟩ := point_at ⟨(i 0).val, h0⟩ ⟨(i 2).val / 256, by omega⟩
  refine ⟨t, flush0_12 t, ?_⟩
  show i ∈ ((View.whole main_v47_4).slice (win0_12.rect t)).set
  rw [View.set_slice_whole, Rect.mem_set_unit]
  exact tiles_mem (index_rows t).2.2.2.2.1 i e0 e1

theorem outAs_final : (dats m 0 c).arrAt 13 cfg0.N = (argsOf m c).outAs := by
  refine (dats m 0 c).arrAt_eq_of_cover 13 (argsOf m c).outAs (fun t _ => outAs_eq m c t) fun (i : S1x1024x1024.Idx) => ?_
  have h0 : (i 0).val < 1 := (i 0).isLt
  have h1 : (i 1).val < 1024 := (i 1).isLt
  obtain ⟨t, e0, e1⟩ := point_at ⟨(i 0).val, h0⟩ ⟨(i 1).val / 256, by omega⟩
  refine ⟨t, flush0_13 t, ?_⟩
  show i ∈ ((View.whole main_v47_5).slice (win0_13.rect t)).set
  rw [View.set_slice_whole, Rect.mem_set_unit]
  exact rows_mem (index_rows t).2.2.2.2.2.1 i e0 e1

theorem outSs_final : (dats m 0 c).arrAt 14 cfg0.N = (argsOf m c).outSs := by
  refine (dats m 0 c).arrAt_eq_of_cover 14 (argsOf m c).outSs (fun t _ => outSs_eq m c t) fun (i : S1x1024x1024.Idx) => ?_
  have h0 : (i 0).val < 1 := (i 0).isLt
  have h1 : (i 1).val < 1024 := (i 1).isLt
  obtain ⟨t, e0, e1⟩ := point_at ⟨(i 0).val, h0⟩ ⟨(i 1).val / 256, by omega⟩
  refine ⟨t, flush0_14 t, ?_⟩
  show i ∈ ((View.whole main_v47_6).slice (win0_14.rect t)).set
  rw [View.set_slice_whole, Rect.mem_set_unit]
  exact rows_mem (index_rows t).2.2.2.2.2.2 i e0 e1

end Cert.Samp

end
-- ==== Proof.SampleOrder.lean ====
/-
  The order of the sample's rows: its sequences position by position, those of a position side by side. The results of
  the input in that order are the results of the input, in that order.
-/
module

public import proofs.«01_k».proof.Proof.ProjReference

@[expose] public section

set_option maxRecDepth 16384

noncomputable section

namespace Cert.Samp

open Idealize.ShloMosaic Idealize.ShloMosaic.TcCoe Cert.Layer
open Cert.Proj (Args ext3 ext4)
open Cert.Proj.Ref (S3 Fits all tiled)

/-- The shapes of the change of order fit one another, for `w` numbers at each position. -/
structure Order (w : ℕ) : Prop where
  swap : (S3 128 8 w).Transposes [1, 0, 2] (S3 8 128 w)
  join : (S3 8 128 w).ShapeCasts (S3 1 1024 w)

/-- The change of order, -/
def rows {w : ℕ} (O : Order w) (U : Vec Ideal (S3 128 8 w) .f32) : Vec Ideal (S3 1 1024 w) .f32 :=
  shapeCast (S3 1 1024 w) (transpose (S3 8 128 w) [1, 0, 2] U O.swap) O.join

/-- the sequence of a row -/
def seq (r : Fin 1024) : Fin 128 := ⟨r.val % 128, by omega⟩
/-- and its position, -/
def pos (r : Fin 1024) : Fin 8 := ⟨r.val / 128, by omega⟩

/-- and the row, read. -/
theorem rows_at {w : ℕ} (O : Order w) (U : Vec Ideal (S3 128 8 w) .f32) (n : Fin 1) (r : Fin 1024) (l : Fin w) :
    rows O U (ix3 n r l) = U (ix3 (seq r) (pos r) l) := by
  have h (W : Vec Ideal (S3 8 128 w) .f32) : shapeCast (S3 1 1024 w) W O.join (ix3 n r l) = W (ix3 (pos r) (seq r) l) :=
    congrArg W (Shape.reshapeEquiv_eq_of_rowMajor _ (by
      rw [Shape.rowMajor_val_three, Shape.rowMajor_val_three]
      show (r.val / 128 * 128 + r.val % 128) * w + l.val = (n.val * 1024 + r.val) * w + l.val
      rw [show r.val / 128 * 128 + r.val % 128 = n.val * 1024 + r.val by omega]))
  have h' : transpose (S3 8 128 w) [1, 0, 2] U O.swap (ix3 (pos r) (seq r) l) = U (ix3 (seq r) (pos r) l) :=
    transpose_apply _ U O.swap _ _ fun b => match b with
      | ⟨0, _⟩ => rfl
      | ⟨1, _⟩ => rfl
      | ⟨2, _⟩ => rfl
  unfold rows
  rw [h, h']

variable (O : Order 1024) (a : Args 128 8)

/-- The arguments with the input in that order. -/
def ordered : Args 1 1024 := ⟨rows O a.x, a.g, a.w, a.b⟩

theorem z_ordered (n : Fin 1) (r : Fin 1024) (p : Fin 4104) : (ordered O a).z n r p = a.z (seq r) (pos r) p := by
  unfold Args.z ordered
  simp only [rows_at]

/-! The results. -/

theorem keys_ordered (O' : Order 512) : rows O' a.keys = (ordered O a).keys :=
  ext3 fun n r l => (rows_at O' a.keys n r l).trans (z_ordered O a n r _).symm

theorem valueRows_ordered (O' : Order 512) : rows O' a.valueRows = (ordered O a).valueRows :=
  ext3 fun n r l => (rows_at O' a.valueRows n r l).trans (z_ordered O a n r _).symm

theorem gates_ordered (O' : Order 8) : rows O' a.gates = (ordered O a).gates :=
  ext3 fun n r h => (rows_at O' a.gates n r h).trans
    (congrArg (fun z => logSigmoid (z + a.b (ix1 h))) (z_ordered O a n r _).symm)

theorem outAs_ordered : rows O a.outAs = (ordered O a).outAs :=
  ext3 fun n r l => (rows_at O a.outAs n r l).trans (congrArg sigmoid (z_ordered O a n r _).symm)

theorem outSs_ordered : rows O a.outSs = (ordered O a).outSs :=
  ext3 fun n r l => (rows_at O a.outSs n r l).trans (congrArg sigmoid (z_ordered O a n r _).symm)

theorem drives_ordered (O' : Order 512) (F : Fits 128 8) (hc : (S3 1 1024 512).ShapeCasts ⟨4, ![1, 1024, 4, 128]⟩)
    (ht : (⟨4, ![1, 1024, 4, 128]⟩ : Shape).Transposes [0, 2, 1, 3] ⟨4, ![1, 4, 1024, 128]⟩) :
    tiled hc ht (rows O' (extractStridedSlice (S3 128 8 512) ![0, 0, 1544] (all F a.x a.g a.w) F.drives)) = (ordered O a).drives := by
  refine ext4 fun n q r l => ?_
  rw [Cert.Proj.Ref.tiled_at, rows_at, Cert.Proj.Ref.drive_at]
  exact (z_ordered O a n r _).symm

end Cert.Samp

end
-- ==== Proof.SampleCompare.lean ====
/-
  The value claim of the sample's input projection: the idealized kernel and the plain reference end with the same six arrays.
-/
module

public import proofs.«01_k».proof.Defs
public import proofs.«01_k».proof.Proof.SampleWhole
public import proofs.«01_k».proof.Proof.SampleOrder
public import proofs.«01_k».proof.Proof.Gen.Sample
public import proofs.«01_k».proof.Proof.Gen.SampleIdeal
public import proofs.«01_k».proof.Proof.Gen.SampleReferenceIdeal
public import proofs.«01_k».proof.Proof.Gen.SampleReferenceIdeal.Run
public import Idealize.ShloMosaic.Lib.Quiescent

@[expose] public section

set_option maxRecDepth 16384

noncomputable section

namespace Cert.Samp

open Idealize.ShloMosaic Idealize.ShloMosaic.TcCoe Idealize.SL.Sem
open Cert.Proj (Args)

/-- The reference runs, its arguments end unchanged, and it has no semaphore. -/
theorem reference : Cert.quiescent_SampleReferenceIdeal := fun m ρ _ =>
  (θ_run _ _ _).mono (fun r h => ⟨fun c => (h c).2.2.2.2.2.2, Idealize.ShloMosaic.sem_eq_zero_of_no_sems (by decide) r.2⟩)
    (Cert.SampleReferenceIdeal.Value.run m ρ)

open Cert.SampleReferenceIdeal.Facts₀ in
/-- The shapes of the reference's operations fit. -/
theorem fits : Cert.Proj.Ref.Fits 128 8 where
  sum := reducesTo_S128x8x1024_S128x8_d2
  one := h_S_
  mean := bcast_S128x8_S128x8x1_0_1
  const := bcast_S_S128x8x1
  scale := bcast_S128x8x1_S128x8x1024_0_1_2
  gain := bcast_S1024_S1x1x1024_2
  gains := bcast_S1x1x1024_S128x8x1024_0_1_2
  keys := slices_S128x8x4104_S128x8x512_0_0_512
  values := slices_S128x8x4104_S128x8x512_0_0_1024
  logs := slices_S128x8x4104_S128x8x8_0_0_1536
  drives := slices_S128x8x4104_S128x8x512_0_0_1544
  outAs := slices_S128x8x4104_S128x8x1024_0_0_2056
  outSs := slices_S128x8x4104_S128x8x1024_0_0_3080
  bias := bcast_S8_S1x1x8_2
  biases := bcast_S1x1x8_S128x8x8_0_1_2
  zero := bcast_S_S128x8x8
  ones := bcast_S_S128x8x1024
  dot := dot_S128x8x1024_S1024x4104_S128x8x4104_2_0_01_1_n_n_wf

open Cert.SampleReferenceIdeal.Facts₀ in
/-- Those of the change of order fit, of the gate logarithms, -/
theorem order8 : Order 8 := ⟨transposes_S128x8x8_S8x128x8_1_0_2, shapeCasts_S8x128x8_S1x1024x8⟩

open Cert.SampleReferenceIdeal.Facts₀ in
/-- of the keys, the values and the drive, -/
theorem order512 : Order 512 := ⟨transposes_S128x8x512_S8x128x512_1_0_2, shapeCasts_S8x128x512_S1x1024x512⟩

open Cert.SampleReferenceIdeal.Facts₀ in
/-- and of the input and the output gates. -/
theorem order1024 : Order 1024 := ⟨transposes_S128x8x1024_S8x128x1024_1_0_2, shapeCasts_S8x128x1024_S1x1024x1024⟩

/-- The reference's arguments on device `c`. -/
def refArgs (m : (ℓ : Loc Cert.SampleReferenceIdeal.nD Cert.SampleReferenceIdeal.τ Cert.SampleReferenceIdeal.sig) → Buf (Elt Ideal) ℓ)
    (c : Dev Cert.SampleReferenceIdeal.nD) : Args 128 8 :=
  ⟨m ((c.tc : Thread Cert.SampleReferenceIdeal.nD Cert.SampleReferenceIdeal.τ).loc Cert.SampleReferenceIdeal.main_arg0),
    m ((c.tc : Thread Cert.SampleReferenceIdeal.nD Cert.SampleReferenceIdeal.τ).loc Cert.SampleReferenceIdeal.main_arg1),
    m ((c.tc : Thread Cert.SampleReferenceIdeal.nD Cert.SampleReferenceIdeal.τ).loc Cert.SampleReferenceIdeal.main_arg2),
    m ((c.tc : Thread Cert.SampleReferenceIdeal.nD Cert.SampleReferenceIdeal.τ).loc Cert.SampleReferenceIdeal.main_arg3)⟩

/-- The gate logarithms the reference returns are the log-sigmoid of its columns, in the order of the kernel's rows. -/
theorem ref_gates (m : (ℓ : Loc Cert.SampleReferenceIdeal.nD Cert.SampleReferenceIdeal.τ Cert.SampleReferenceIdeal.sig) → Buf (Elt Ideal) ℓ)
    (c : Dev Cert.SampleReferenceIdeal.nD) :
    Cert.SampleReferenceIdeal.Value.res_out2 m c = rows order8 (refArgs m c).gates := by
  unfold Cert.SampleReferenceIdeal.Value.res_out2 Cert.SampleReferenceIdeal.Value.res_main_v29
  exact congrArg (rows order8) (Cert.Proj.Ref.gates_eq fits (refArgs m c))

/-- Both programs end with the keys, the values, the gate logarithms, the drive and the two output gates of the same
    arguments. -/
theorem algebraic : Cert.algebraic_SampleIdeal_SampleReferenceIdeal := by
  intro m g m' g' _ hag
  refine ⟨fun c => (argsOf m c).keys, fun c => (argsOf m c).valueRows, fun c => (argsOf m c).gates, fun c => (argsOf m c).drives,
    fun c => (argsOf m c).outAs, fun c => (argsOf m c).outSs, ?_, ?_⟩
  · refine (θ_run _ _ _).mono (fun r h c => ?_) (Cert.SampleIdeal.Value.run_blocks m g)
    obtain ⟨_, h0, h1, h2, h3, h4, h5, hargs⟩ := h c
    exact ⟨h0.trans (keys_final m c), h1.trans (valueRows_final m c), h2.trans (gates_final m c), h3.trans (drives_final m c),
      h4.trans (outAs_final m c), h5.trans (outSs_final m c), hargs⟩
  · refine (θ_run _ _ _).mono (fun r h c => ?_) (Cert.SampleReferenceIdeal.Value.run m' g')
    have e : ordered order1024 (refArgs m' c) = argsOf m c := by
      obtain ⟨e0, e1, e2, e3⟩ := hag c
      unfold ordered refArgs argsOf
      rw [e0, e1, e2, e3]
      rfl
    obtain ⟨h0, h1, h2, h3, h4, h5, hargs⟩ := h c
    have f0 := (congrArg (rows order512) (Cert.Proj.Ref.keys_eq fits (refArgs m' c))).trans (keys_ordered order1024 _ order512)
    have f1 := (congrArg (rows order512) (Cert.Proj.Ref.valueRows_eq fits (refArgs m' c))).trans (valueRows_ordered order1024 _ order512)
    have f2 := (ref_gates m' c).trans (gates_ordered order1024 _ order8)
    have f4 := (congrArg (rows order1024) (Cert.Proj.Ref.outAs_eq fits (refArgs m' c))).trans (outAs_ordered order1024 _)
    have f5 := (congrArg (rows order1024) (Cert.Proj.Ref.outSs_eq fits (refArgs m' c))).trans (outSs_ordered order1024 _)
    exact ⟨h0.trans (f0.trans (congrArg Args.keys e)),
      h1.trans (f1.trans (congrArg Args.valueRows e)),
      h2.trans (f2.trans (congrArg Args.gates e)),
      h3.trans ((drives_ordered order1024 (refArgs m' c) order512 fits _ _).trans (congrArg Args.drives e)),
      h4.trans (f4.trans (congrArg Args.outAs e)),
      h5.trans (f5.trans (congrArg Args.outSs e)), hargs⟩

end Cert.Samp

end
-- ==== Proof.MixLayer.lean ====
/-
  The mixing and feed-forward half of the layer, row by row, over the extended reals: the two branches weighted by their
  gates and added to the row, a convolution of three positions of the gate's projection, and the feed-forward product,
  normed at the end.
-/
module

public import proofs.«01_k».proof.Proof.Layer

@[expose] public section

noncomputable section

namespace Cert.Layer

open Idealize.ShloMosaic

/-- The gaussian error unit, by its tangent form. -/
def gelu (v : EReal) : EReal :=
  v * (Ideal.ofBits .f32 0x3F000000#32 * (1 + Ideal.tanh (Ideal.ofBits .f32 0x3F4C422A#32 * (v + Ideal.ofBits .f32 0x3D372713#32 * (v * (v * v))))))

/-- The weights of this half. -/
structure Weights where
  gluA : Fin 512 → Fin 1024 → EReal
  gluB : Fin 512 → Fin 1024 → EReal
  attn : Fin 512 → Fin 1024 → EReal
  out : Fin 1024 → Fin 1024 → EReal
  gain : Fin 1024 → EReal
  gate : Fin 1024 → Fin 2816 → EReal
  up : Fin 1024 → Fin 2816 → EReal
  conv : Fin 3 → Fin 2816 → EReal
  bias : Fin 2816 → EReal
  down : Fin 2816 → Fin 1024 → EReal
  last : Fin 1024 → EReal

namespace Weights

variable (W : Weights)

/-- The row `x` plus its two branches: of the state space's row `s`, gated by `u`, and of the attention's row `a`, gated by `v`. -/
def mid (x : Fin 1024 → EReal) (s a : Fin 512 → EReal) (v u : Fin 1024 → EReal) (l : Fin 1024) : EReal :=
  x l + ∑ k, (u k * ((∑ j, gelu (s j) * W.gluA j k) * sigmoid (∑ j, gelu (s j) * W.gluB j k)) + v k * ∑ j, a j * W.attn j k) * W.out k l

/-- The gate's projection of the normed row. -/
def lift (y : Fin 1024 → EReal) (f : Fin 2816) : EReal := proj y W.gain fun j => W.gate j f

/-- The convolution of the gate's projections at three positions. -/
def mix (p q r : Fin 2816 → EReal) (f : Fin 2816) : EReal :=
  W.bias f + ((p f * W.conv 0 f + q f * W.conv 1 f) + r f * W.conv 2 f)

/-- The row plus its feed-forward product. -/
def ffn (y : Fin 1024 → EReal) (p q r : Fin 2816 → EReal) (l : Fin 1024) : EReal :=
  y l + ∑ f, (gelu (W.mix p q r f) * proj y W.gain fun j => W.up j f) * W.down f l

/-- The row's result. -/
def res (y : Fin 1024 → EReal) (p q r : Fin 2816 → EReal) (l : Fin 1024) : EReal := normed (W.ffn y p q r) W.last l

end Weights

end Cert.Layer
-- ==== Proof.MixPay.lean ====
/-
  What one tile of the mixing and feed-forward half computes, entry by entry.
-/
module

public import proofs.«01_k».proof.Proof.MixLayer
public import proofs.«01_k».proof.Proof.Gen.MixIdeal.Skeleton
public import Idealize.ShloMosaic.Lib.Pointwise

@[expose] public section

set_option maxRecDepth 16384

noncomputable section

namespace Cert.Mixed

open Idealize.ShloMosaic Idealize.ShloMosaic.TcCoe Cert.MixIdeal Cert.MixIdeal.Gen Cert.Layer

/-- Four lane tiles side by side, each number through the unit. -/
theorem gelu_at (s : Vec Ideal S1x4x256x128 .f32) (a b c d : Vec Ideal S1x1x256x128 .f32)
    (ha : ∀ r l, a (ix4 0 0 r l) = s (ix4 0 0 r l)) (hb : ∀ r l, b (ix4 0 0 r l) = s (ix4 0 1 r l))
    (hc : ∀ r l, c (ix4 0 0 r l) = s (ix4 0 2 r l)) (hd : ∀ r l, d (ix4 0 0 r l) = s (ix4 0 3 r l)) (r : Fin 256) (j : Fin 512) :
    k0_pay2 (F := Ideal) a b c d (ix2 r j) = gelu (s (ix4 0 ⟨j.val / 128, by omega⟩ r ⟨j.val % 128, by omega⟩)) := by
  have h : (if h : j.val < 128 then a (ix4 0 0 r ⟨j.val, h⟩)
      else if h : j.val - 128 < 128 then b (ix4 0 0 r ⟨j.val - 128, h⟩)
      else if h : j.val - 128 - 128 < 128 then c (ix4 0 0 r ⟨j.val - 128 - 128, h⟩)
      else d (ix4 0 0 r ⟨j.val - 128 - 128 - 128, by omega⟩))
      = s (ix4 0 ⟨j.val / 128, by omega⟩ r ⟨j.val % 128, by omega⟩) := by
    have tile (q : Fin 4) (l : Fin 128) (e : j.val = 128 * q.val + l.val) : s (ix4 0 q r l) = s (ix4 0 ⟨j.val / 128, by omega⟩ r ⟨j.val % 128, by omega⟩) := by
      have hq : q = ⟨j.val / 128, by omega⟩ := Fin.ext (show q.val = j.val / 128 by omega)
      have hl : l = ⟨j.val % 128, by omega⟩ := Fin.ext (show l.val = j.val % 128 by omega)
      rw [← hq, ← hl]
    split
    · exact (ha _ _).trans (tile 0 _ (by show j.val = 128 * 0 + j.val; omega))
    · split
      · exact (hb _ _).trans (tile 1 _ (by show j.val = 128 * 1 + (j.val - 128); omega))
      · split
        · exact (hc _ _).trans (tile 2 _ (by show j.val = 128 * 2 + (j.val - 128 - 128); omega))
        · exact (hd _ _).trans (tile 3 _ (by show j.val = 128 * 3 + (j.val - 128 - 128 - 128); omega))
  pointwise [k0_pay2]
  rw [h]
  rfl

variable (H : FVec Ideal S256x512 .bf16) (U : FVec Ideal S256x1024 .f32) (wb : Vec Ideal S512x1024 .bf16) (at_ : Vec Ideal S1x256x512 .bf16)
  (wo : Vec Ideal S512x1024 .bf16) (gs ga x : Vec Ideal S1x256x1024 .f32) (w : Vec Ideal S1024x1024 .bf16)

theorem glu_at (a b c d : Vec Ideal S1x1x256x128 .f32) (wa : Vec Ideal S512x1024 .bf16) (r : Fin 256) (k : Fin 1024) :
    k0_pay3 (F := Ideal) a b c d wa (ix2 r k) = ∑ j, k0_pay2 (F := Ideal) a b c d (ix2 r j) * wa (ix2 j k) := by
  pointwise [k0_pay3]

theorem mid_at (r : Fin 256) (l : Fin 1024) :
    k0_pay4 (F := Ideal) H U wb at_ wo gs ga x w (ix2 r l)
      = x (ix3 0 r l) + ∑ k, (gs (ix3 0 r k) * (U (ix2 r k) * sigmoid (∑ j, H (ix2 r j) * wb (ix2 j k))) + ga (ix3 0 r k) * ∑ j, at_ (ix3 0 r j) * wo (ix2 j k)) * w (ix2 k l) := by
  pointwise [k0_pay4]
  rfl

theorem hid_at (g : Vec Ideal S1x1024 .f32) (r : Fin 256) (j : Fin 1024) :
    k0_pay7 (F := Ideal) (k0_pay5 H U wb at_ wo gs ga x w) (k0_pay6 g) (ix2 r j)
      = normed (fun l => k0_pay4 (F := Ideal) H U wb at_ wo gs ga x w (ix2 r l)) (fun j => g (ix2 0 j)) j := by
  pointwise [k0_pay7, k0_pay5, k0_pay6]
  rfl

theorem lift_at (A B : FVec Ideal S256x1024 .f32) (wg : Vec Ideal S1024x2816 .bf16) (r : Fin 256) (f : Fin 2816) :
    k0_pay8 (F := Ideal) A B wg (ix2 r f) = ∑ j, k0_pay7 (F := Ideal) A B (ix2 r j) * wg (ix2 j f) := by
  pointwise [k0_pay8]

theorem conv_at (p q s : Vec Ideal S256x2816 .f32) (w0 w1 w2 b : Vec Ideal S1x2816 .f32) (r : Fin 256) (f : Fin 2816) :
    k0_pay9 (F := Ideal) p w0 q w1 s w2 b (ix2 r f)
      = b (ix2 0 f) + ((p (ix2 r f) * w0 (ix2 0 f) + q (ix2 r f) * w1 (ix2 0 f)) + s (ix2 r f) * w2 (ix2 0 f)) := by
  pointwise [k0_pay9]

theorem res_at (Y : FVec Ideal S256x1024 .f32) (N : FVec Ideal S256x1024 .bf16) (p q s : Vec Ideal S256x2816 .f32) (w0 w1 w2 b : Vec Ideal S1x2816 .f32)
    (wu : Vec Ideal S1024x2816 .bf16) (wd : Vec Ideal S2816x1024 .bf16) (g : Vec Ideal S1x1024 .f32) (r : Fin 256) (l : Fin 1024) :
    k0_pay11 (F := Ideal) Y N (k0_pay9 p w0 q w1 s w2 b) (k0_pay10 p w0 q w1 s w2 b) (Scalar.ofBits .f32 0x3F000000#32) wu wd g (ix3 0 r l)
      = normed (fun l => Y (ix2 r l) + ∑ f, (gelu (k0_pay9 (F := Ideal) p w0 q w1 s w2 b (ix2 r f)) * ∑ j, N (ix2 r j) * wu (ix2 j f)) * wd (ix2 f l)) (fun l => g (ix2 0 l)) l := by
  pointwise [k0_pay11, k0_pay10]
  rfl

theorem prev_at (P : Vec Ideal S1x256x2816 .f32) (r : Fin 256) (f : Fin 2816) :
    k0_pay1 (F := Ideal) P (ix2 r f) = P (ix3 0 r f) := by
  pointwise [k0_pay1]

theorem tail_at (P : Vec Ideal S256x2816 .f32) (r : Fin 256) (f : Fin 2816) :
    k0_pay12 (F := Ideal) P (ix3 0 r f) = P (ix2 r f) := by
  pointwise [k0_pay12]

theorem keep_at (P : Vec Ideal S256x2816 .f32) (r : Fin 256) (f : Fin 2816) :
    k0_pay13 (F := Ideal) P (ix2 r f) = P (ix2 r f) := by
  pointwise [k0_pay13]

end Cert.Mixed
-- ==== Proof.MixOut.lean ====
/-
  What one grid point of the mixing and feed-forward half leaves in each block of its results and in the rows it keeps
  for the point after it, entry by entry. The first point and the later ones differ only in where the older rows of the
  convolution come from; what they do with them is stated once.
-/
module

public import proofs.«01_k».proof.Proof.MixPay
public import proofs.«01_k».proof.Proof.Gen.MixIdeal.Frame
public import Idealize.ShloMosaic.Lib.Pipeline.ValueKit
public import Idealize.ShloMosaic.Lib.WritesUnit

@[expose] public section

set_option maxRecDepth 16384

noncomputable section

namespace Cert.Mixed

open Idealize.ShloMosaic Idealize.ShloMosaic.TcCoe Cert.MixIdeal Cert.MixIdeal.Gen Cert.Layer

/-- A load of a whole block reads the block. -/
theorem load_block {S : Shape} {e : EltTy} {M : Memref sig .tc .vmem S e} (h : M.IsWhole) {off : Fin S.rank → ℕ}
    (inb : ∀ a, off a + S.size a ≤ S.size a) (X : Vec Ideal S e) (h0 : ∀ a, off a = 0) :
    View.readAt (Elt Ideal) M.view (Rect.unit off S.size inb).toLoadRect (h.unread X) = X := by
  rw [View.readAt_eq_ld, h.read_unread]
  exact View.ld_unit_lit inb X h0

theorem off2 : ∀ a : Fin 2, (![0, 0] : Fin 2 → ℕ) a = 0 := by decide
theorem off3 : ∀ a : Fin 3, (![0, 0, 0] : Fin 3 → ℕ) a = 0 := by decide

/-- The blocks a point reads. -/
structure Blk where
  x : Vec Ideal S1x256x1024 .f32
  s : Vec Ideal S1x4x256x128 .f32
  a : Vec Ideal S1x256x512 .bf16
  v : Vec Ideal S1x256x1024 .f32
  u : Vec Ideal S1x256x1024 .f32
  prev : Vec Ideal S1x256x2816 .f32
  gluA : Vec Ideal S512x1024 .bf16
  gluB : Vec Ideal S512x1024 .bf16
  attn : Vec Ideal S512x1024 .bf16
  out : Vec Ideal S1024x1024 .bf16
  gain : Vec Ideal S1x1024 .f32
  gate : Vec Ideal S1024x2816 .bf16
  up : Vec Ideal S1024x2816 .bf16
  conv : Vec Ideal S3x2816 .f32
  bias : Vec Ideal S1x2816 .f32
  down : Vec Ideal S2816x1024 .bf16
  last : Vec Ideal S1x1024 .f32

namespace Blk

variable (b : Blk)

/-- The weights among them. -/
def W : Weights where
  gluA j k := b.gluA (ix2 j k)
  gluB j k := b.gluB (ix2 j k)
  attn j k := b.attn (ix2 j k)
  out j k := b.out (ix2 j k)
  gain j := b.gain (ix2 0 j)
  gate j f := b.gate (ix2 j f)
  up j f := b.up (ix2 j f)
  conv i f := b.conv (ix2 i f)
  bias f := b.bias (ix2 0 f)
  down f l := b.down (ix2 f l)
  last l := b.last (ix2 0 l)

/-- Row `r` with its two branches, -/
def mid (r : Fin 256) : Fin 1024 → EReal :=
  b.W.mid (fun l => b.x (ix3 0 r l)) (fun j => b.s (ix4 0 ⟨j.val / 128, by omega⟩ r ⟨j.val % 128, by omega⟩))
    (fun j => b.a (ix3 0 r j)) (fun k => b.v (ix3 0 r k)) (fun k => b.u (ix3 0 r k))

/-- and its gate's projection. -/
def fresh (r : Fin 256) : Fin 2816 → EReal := b.W.lift (b.mid r)

/-- The rows of the convolution: the 256 older ones, then the tile's own. -/
def line (lo : Fin 256 → Fin 2816 → EReal) (k : Fin 512) : Fin 2816 → EReal :=
  if h : k.val < 256 then lo ⟨k.val, h⟩ else b.fresh ⟨k.val - 256, by omega⟩

/-- Lane tile `q` of the state space's rows. -/
theorem tile_at (q : Fin 4) (inb) (r : Fin 256) (l : Fin 128) :
    View.ld b.s (Rect.unit (s := S1x4x256x128) ![0, q.val, 0, 0] S1x1x256x128.size inb) (ix4 0 0 r l) = b.s (ix4 0 q r l) := by
  refine View.ld_unit_apply_of b.s _ _ inb _ _ fun a => ?_
  match a with
  | ⟨0, _⟩ => rfl
  | ⟨1, _⟩ => rfl
  | ⟨2, _⟩ => exact (Nat.zero_add _).symm
  | ⟨3, _⟩ => exact (Nat.zero_add _).symm

/-- The lane tiles, loaded. -/
abbrev tile0 : Vec Ideal S1x1x256x128 .f32 := View.ld b.s (Rect.unit (s := S1x4x256x128) ![0, 0, 0, 0] S1x1x256x128.size Facts₀.inb_S1x4x256x128_S1x1x256x128_0_0_0_0)
abbrev tile1 : Vec Ideal S1x1x256x128 .f32 := View.ld b.s (Rect.unit (s := S1x4x256x128) ![0, 1, 0, 0] S1x1x256x128.size Facts₀.inb_S1x4x256x128_S1x1x256x128_0_1_0_0)
abbrev tile2 : Vec Ideal S1x1x256x128 .f32 := View.ld b.s (Rect.unit (s := S1x4x256x128) ![0, 2, 0, 0] S1x1x256x128.size Facts₀.inb_S1x4x256x128_S1x1x256x128_0_2_0_0)
abbrev tile3 : Vec Ideal S1x1x256x128 .f32 := View.ld b.s (Rect.unit (s := S1x4x256x128) ![0, 3, 0, 0] S1x1x256x128.size Facts₀.inb_S1x4x256x128_S1x1x256x128_0_3_0_0)

/-- The unit of the state space's rows, and its first product. -/
def h : FVec Ideal S256x512 .bf16 := k0_pay2 b.tile0 b.tile1 b.tile2 b.tile3
def g : FVec Ideal S256x1024 .f32 := k0_pay3 b.tile0 b.tile1 b.tile2 b.tile3 b.gluA
/-- The rows with their branches, -/
def y : FVec Ideal S256x1024 .f32 := k0_pay4 b.h b.g b.gluB b.a b.attn b.u b.v b.x b.out
/-- scaled, -/
def z : FVec Ideal S256x1024 .f32 := k0_pay5 b.h b.g b.gluB b.a b.attn b.u b.v b.x b.out
/-- normed, -/
def n : FVec Ideal S256x1024 .bf16 := k0_pay7 b.z (k0_pay6 b.gain)
/-- and projected. -/
def p : FVec Ideal S256x2816 .f32 := k0_pay8 b.z (k0_pay6 b.gain) b.gate

theorem h_at (r : Fin 256) (j : Fin 512) : b.h (ix2 r j) = gelu (b.s (ix4 0 ⟨j.val / 128, by omega⟩ r ⟨j.val % 128, by omega⟩)) :=
  gelu_at b.s _ _ _ _ (b.tile_at 0 _) (b.tile_at 1 _) (b.tile_at 2 _) (b.tile_at 3 _) r j

theorem y_at (r : Fin 256) (l : Fin 1024) : b.y (ix2 r l) = b.mid r l := by
  have e (k : Fin 1024) : b.g (ix2 r k) = ∑ j, b.h (ix2 r j) * b.gluA (ix2 j k) := glu_at _ _ _ _ _ r k
  unfold y
  rw [mid_at]
  simp only [e, h_at]
  rfl

theorem n_at (r : Fin 256) (j : Fin 1024) : b.n (ix2 r j) = normed (b.mid r) b.W.gain j := by
  unfold n z
  rw [hid_at]
  exact congrArg (fun m => normed m _ j) (funext (b.y_at r))

theorem p_at (r : Fin 256) (f : Fin 2816) : b.p (ix2 r f) = b.fresh r f := by
  unfold p
  rw [lift_at]
  exact Finset.sum_congr rfl fun j _ => congrArg (· * b.gate (ix2 j f)) (b.n_at r j)

/-- The rows of the result, the rows of the convolution being `line lo`. -/
theorem res_of (lo : Fin 256 → Fin 2816 → EReal) (P Q S : Vec Ideal S256x2816 .f32) (w0 w1 w2 : Vec Ideal S1x2816 .f32)
    (hP : ∀ r f, P (ix2 r f) = b.line lo ⟨r.val, by omega⟩ f) (hQ : ∀ r f, Q (ix2 r f) = b.line lo ⟨128 + r.val, by omega⟩ f)
    (hS : ∀ r f, S (ix2 r f) = b.line lo ⟨256 + r.val, by omega⟩ f)
    (h0 : ∀ f, w0 (ix2 0 f) = b.conv (ix2 0 f)) (h1 : ∀ f, w1 (ix2 0 f) = b.conv (ix2 1 f)) (h2 : ∀ f, w2 (ix2 0 f) = b.conv (ix2 2 f))
    (r : Fin 256) (l : Fin 1024) :
    k0_pay11 (F := Ideal) b.y b.n (k0_pay9 P w0 Q w1 S w2 b.bias) (k0_pay10 P w0 Q w1 S w2 b.bias) (Scalar.ofBits .f32 0x3F000000#32) b.up b.down b.last (ix3 0 r l)
      = b.W.res (b.mid r) (b.line lo ⟨r.val, by omega⟩) (b.line lo ⟨128 + r.val, by omega⟩) (b.line lo ⟨256 + r.val, by omega⟩) l := by
  rw [res_at]
  simp only [y_at, n_at, conv_at, hP, hQ, hS, h0, h1, h2]
  rfl

end Blk

/-! ### The rows kept -/

section

variable (v : View sig .tc .vmem S512x2816 .f32) (t : v.ty.Contents (Elt Ideal)) (b : Blk)

/-- A load of 256 rows from row `o` on. -/
theorem rows_load (o : ℕ) (inb : ∀ a, (![o, 0] : Fin 2 → ℕ) a + S256x2816.size a ≤ S512x2816.size a) (r : Fin 256) (f : Fin 2816) (k : Fin 512) (hk : k.val = o + r.val) :
    View.readAt (Elt Ideal) v (Rect.unit (s := S512x2816) ![o, 0] S256x2816.size inb).toLoadRect t (ix2 r f) = v.read (Elt Ideal) t (ix2 k f) := by
  rw [View.readAt_eq_ld]
  refine View.ld_unit_apply_of _ _ _ inb _ _ fun a => ?_
  match a with
  | ⟨0, _⟩ => exact hk
  | ⟨1, _⟩ => exact (Nat.zero_add _).symm

/-- After a store of the tile's projections in the upper 256 rows, the rows are `line lo`, where `lo` are the lower ones before. -/
theorem line_at (inb : ∀ a, (![256, 0] : Fin 2 → ℕ) a + S256x2816.size a ≤ S512x2816.size a) (L : List (View.Piece (Elt Ideal) S512x2816 .f32)) (P : FVec Ideal S256x2816 .f32) (hP : P = b.p)
    (lo : Fin 256 → Fin 2816 → EReal) (hlo : ∀ (r : Fin 256) (f : Fin 2816), v.read (Elt Ideal) (v.writes (Elt Ideal) t L) (ix2 (r.castLE (by norm_num)) f) = lo r f)
    (k : Fin 512) (f : Fin 2816) :
    v.read (Elt Ideal) (v.writes (Elt Ideal) t ((⟨Rect.unit (s := S512x2816) ![256, 0] S256x2816.size inb, P⟩ : View.Piece (Elt Ideal) S512x2816 .f32) :: L)) (ix2 k f) = b.line lo k f := by
  subst hP
  unfold Blk.line
  split
  · rename_i h
    refine (View.read_writes_cons_rows_of_not_mem v t inb b.p L (ix2 k f) rfl rfl (W := 256) (.inl h)).trans ?_
    exact hlo ⟨k.val, h⟩ f
  · rename_i h
    refine (View.read_writes_cons_rows_of_mem v t inb b.p L (ix2 k f) (ix2 ⟨k.val - 256, by omega⟩ f) rfl ?_ rfl).trans (b.p_at _ f)
    show k.val = 256 + (k.val - 256)
    omega

/-- A store of 256 rows in the lower half is read there. -/
theorem low_at (inb : ∀ a, (![0, 0] : Fin 2 → ℕ) a + S256x2816.size a ≤ S512x2816.size a) (L : List (View.Piece (Elt Ideal) S512x2816 .f32)) (P : FVec Ideal S256x2816 .f32)
    (r : Fin 256) (f : Fin 2816) :
    v.read (Elt Ideal) (v.writes (Elt Ideal) t ((⟨Rect.unit (s := S512x2816) ![0, 0] S256x2816.size inb, P⟩ : View.Piece (Elt Ideal) S512x2816 .f32) :: L)) (ix2 (r.castLE (by norm_num)) f) = P (ix2 r f) :=
  View.read_writes_cons_rows_of_mem v t inb P L (ix2 (r.castLE (by norm_num)) f) (ix2 r f) rfl (Nat.zero_add _).symm rfl

theorem line_hi (lo : Fin 256 → Fin 2816 → EReal) (r : Fin 256) (k : Fin 512) (hk : k.val = 256 + r.val) : b.line lo k = b.fresh r := by
  unfold Blk.line
  rw [dif_neg (by omega)]
  exact congrArg b.fresh (Fin.ext (show k.val - 256 = r.val by omega))

end

/-- A load of one row of the convolution's weights. -/
theorem tap_at {M : Memref sig .tc .vmem S3x2816 .f32} (h : M.IsWhole) (X : Vec Ideal S3x2816 .f32) (i : Fin 3) (inb : ∀ a, (![i.val, 0] : Fin 2 → ℕ) a + S1x2816.size a ≤ S3x2816.size a) (f : Fin 2816) :
    View.readAt (Elt Ideal) M.view (Rect.unit (s := S3x2816) ![i.val, 0] S1x2816.size inb).toLoadRect (h.unread X) (ix2 0 f) = X (ix2 i f) := by
  rw [View.readAt_eq_ld, h.read_unread]
  refine View.ld_unit_apply_of _ _ _ inb _ _ fun a => ?_
  match a with
  | ⟨0, _⟩ => rfl
  | ⟨1, _⟩ => exact (Nat.zero_add _).symm

variable (c : Dev nD) (i : grid0.Coords)
variable (arg2 : Memref sig .tc .vmem S1x256x1024 .f32) (harg2 : arg2.IsWhole)
variable (arg3 : Memref sig .tc .vmem S1x4x256x128 .f32) (harg3 : arg3.IsWhole)
variable (arg4 : Memref sig .tc .vmem S1x256x512 .bf16) (harg4 : arg4.IsWhole)
variable (arg5 : Memref sig .tc .vmem S1x256x1024 .f32) (harg5 : arg5.IsWhole)
variable (arg6 : Memref sig .tc .vmem S1x256x1024 .f32) (harg6 : arg6.IsWhole)
variable (arg7 : Memref sig .tc .vmem S1x256x2816 .f32) (harg7 : arg7.IsWhole)
variable (arg8 : Memref sig .tc .vmem S512x1024 .bf16) (harg8 : arg8.IsWhole)
variable (arg9 : Memref sig .tc .vmem S512x1024 .bf16) (harg9 : arg9.IsWhole)
variable (arg10 : Memref sig .tc .vmem S512x1024 .bf16) (harg10 : arg10.IsWhole)
variable (arg11 : Memref sig .tc .vmem S1024x1024 .bf16) (harg11 : arg11.IsWhole)
variable (arg12 : Memref sig .tc .vmem S1x1024 .f32) (harg12 : arg12.IsWhole)
variable (arg13 : Memref sig .tc .vmem S1024x2816 .bf16) (harg13 : arg13.IsWhole)
variable (arg14 : Memref sig .tc .vmem S1024x2816 .bf16) (harg14 : arg14.IsWhole)
variable (arg15 : Memref sig .tc .vmem S3x2816 .f32) (harg15 : arg15.IsWhole)
variable (arg16 : Memref sig .tc .vmem S1x2816 .f32) (harg16 : arg16.IsWhole)
variable (arg17 : Memref sig .tc .vmem S2816x1024 .bf16) (harg17 : arg17.IsWhole)
variable (arg18 : Memref sig .tc .vmem S1x1024 .f32) (harg18 : arg18.IsWhole)
variable (arg19 : Memref sig .tc .vmem S1x256x1024 .f32) (harg19 : arg19.IsWhole)
variable (arg20 : Memref sig .tc .vmem S1x256x2816 .f32) (harg20 : arg20.IsWhole)
variable (arg21 : Memref sig .tc .vmem S512x2816 .f32) (harg21 : arg21.IsWhole)
variable (b : Blk)

/-! ### The first tile -/

section

open kernelRun0_A

variable (hc0 : cond0_0 i)

theorem h_A : sl.r c arg3 harg3 b.s = b.h := by
  unfold sl.r Blk.h
  simp only [View.readAt_eq_ld, harg3.read_unread]

theorem g_A : sl.r_1 c arg3 harg3 arg8 harg8 b.s b.gluA = b.g := by
  unfold sl.r_1 Blk.g
  rw [load_block (S := S512x1024) harg8 _ b.gluA off2]
  simp only [View.readAt_eq_ld, harg3.read_unread]

theorem y_A : sl.r_3 c arg2 harg2 arg3 harg3 arg4 harg4 arg5 harg5 arg6 harg6 arg8 harg8 arg9 harg9 arg10 harg10 arg11 harg11 b.x b.s b.a b.v b.u b.gluA b.gluB b.attn b.out = b.y := by
  unfold sl.r_3 sl.r_2 Blk.y
  rw [h_A, g_A, load_block (S := S512x1024) harg9 _ b.gluB off2, load_block (S := S1x256x512) harg4 _ b.a off3, load_block (S := S512x1024) harg10 _ b.attn off2, load_block (S := S1x256x1024) harg6 _ b.u off3, load_block (S := S1x256x1024) harg5 _ b.v off3, load_block (S := S1x256x1024) harg2 _ b.x off3, load_block (S := S1024x1024) harg11 _ b.out off2]

theorem z_A : sl.r_4 c arg2 harg2 arg3 harg3 arg4 harg4 arg5 harg5 arg6 harg6 arg8 harg8 arg9 harg9 arg10 harg10 arg11 harg11 b.x b.s b.a b.v b.u b.gluA b.gluB b.attn b.out = b.z := by
  unfold sl.r_4 sl.r_2 Blk.z
  rw [h_A, g_A, load_block (S := S512x1024) harg9 _ b.gluB off2, load_block (S := S1x256x512) harg4 _ b.a off3, load_block (S := S512x1024) harg10 _ b.attn off2, load_block (S := S1x256x1024) harg6 _ b.u off3, load_block (S := S1x256x1024) harg5 _ b.v off3, load_block (S := S1x256x1024) harg2 _ b.x off3, load_block (S := S1024x1024) harg11 _ b.out off2]

theorem gain_A : sl.r_5 c arg12 harg12 b.gain = k0_pay6 (F := Ideal) b.gain := by
  unfold sl.r_5
  rw [load_block (S := S1x1024) harg12 _ b.gain off2]

theorem n_A : sl.r_6 c arg2 harg2 arg3 harg3 arg4 harg4 arg5 harg5 arg6 harg6 arg8 harg8 arg9 harg9 arg10 harg10 arg11 harg11 arg12 harg12 b.x b.s b.a b.v b.u b.gluA b.gluB b.attn b.out b.gain = b.n := by
  unfold sl.r_6 Blk.n
  rw [z_A, gain_A]

/-- The rows of the convolution, once the tile's own are stored. -/
theorem line_A (v : View sig .tc .vmem S512x2816 .f32) (t : v.ty.Contents (Elt Ideal)) (k : Fin 512) (f : Fin 2816) :
    v.read (Elt Ideal) (v.writes (Elt Ideal) t (sl.HS0_2 c arg2 harg2 arg3 harg3 arg4 harg4 arg5 harg5 arg6 harg6 arg7 harg7 arg8 harg8 arg9 harg9 arg10 harg10 arg11 harg11 arg12 harg12 arg13 harg13 b.x b.s b.a b.v b.u b.prev b.gluA b.gluB b.attn b.out b.gain b.gate)) (ix2 k f) = b.line (fun r f => b.prev (ix3 0 r f)) k f := by
  unfold sl.HS0_2
  refine line_at v t b _ _ _ ?_ _ ?_ k f
  · rw [z_A, gain_A, load_block (S := S1024x2816) harg13 _ b.gate off2]
    rfl
  · intro r f
    rw [low_at, load_block (S := S1x256x2816) harg7 _ b.prev off3, prev_at]

theorem old_A (r : Fin 256) (f : Fin 2816) : sl.v74 c arg2 harg2 arg3 harg3 arg4 harg4 arg5 harg5 arg6 harg6 arg7 harg7 arg8 harg8 arg9 harg9 arg10 harg10 arg11 harg11 arg12 harg12 arg13 harg13 arg21 b.x b.s b.a b.v b.u b.prev b.gluA b.gluB b.attn b.out b.gain b.gate (ix2 r f) = b.line (fun r f => b.prev (ix3 0 r f)) ⟨r.val, by omega⟩ f := by
  unfold sl.v74
  exact (rows_load _ _ 0 _ r f ⟨r.val, by omega⟩ (Nat.zero_add _).symm).trans (line_A c arg2 harg2 arg3 harg3 arg4 harg4 arg5 harg5 arg6 harg6 arg7 harg7 arg8 harg8 arg9 harg9 arg10 harg10 arg11 harg11 arg12 harg12 arg13 harg13 b _ _ _ f)

theorem next_A (r : Fin 256) (f : Fin 2816) : sl.v78 c arg2 harg2 arg3 harg3 arg4 harg4 arg5 harg5 arg6 harg6 arg7 harg7 arg8 harg8 arg9 harg9 arg10 harg10 arg11 harg11 arg12 harg12 arg13 harg13 arg21 b.x b.s b.a b.v b.u b.prev b.gluA b.gluB b.attn b.out b.gain b.gate (ix2 r f) = b.line (fun r f => b.prev (ix3 0 r f)) ⟨128 + r.val, by omega⟩ f := by
  unfold sl.v78
  exact (rows_load _ _ 128 _ r f ⟨128 + r.val, by omega⟩ rfl).trans (line_A c arg2 harg2 arg3 harg3 arg4 harg4 arg5 harg5 arg6 harg6 arg7 harg7 arg8 harg8 arg9 harg9 arg10 harg10 arg11 harg11 arg12 harg12 arg13 harg13 b _ _ _ f)

theorem own_A (r : Fin 256) (f : Fin 2816) : sl.v83 c arg2 harg2 arg3 harg3 arg4 harg4 arg5 harg5 arg6 harg6 arg7 harg7 arg8 harg8 arg9 harg9 arg10 harg10 arg11 harg11 arg12 harg12 arg13 harg13 arg21 b.x b.s b.a b.v b.u b.prev b.gluA b.gluB b.attn b.out b.gain b.gate (ix2 r f) = b.line (fun r f => b.prev (ix3 0 r f)) ⟨256 + r.val, by omega⟩ f := by
  unfold sl.v83
  exact (rows_load _ _ 256 _ r f ⟨256 + r.val, by omega⟩ rfl).trans (line_A c arg2 harg2 arg3 harg3 arg4 harg4 arg5 harg5 arg6 harg6 arg7 harg7 arg8 harg8 arg9 harg9 arg10 harg10 arg11 harg11 arg12 harg12 arg13 harg13 b _ _ _ f)

theorem res_A (r : Fin 256) (l : Fin 1024) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last (ix3 0 r l)
      = b.W.res (b.mid r) (b.line (fun r f => b.prev (ix3 0 r f)) ⟨r.val, by omega⟩) (b.line (fun r f => b.prev (ix3 0 r f)) ⟨128 + r.val, by omega⟩) (b.line (fun r f => b.prev (ix3 0 r f)) ⟨256 + r.val, by omega⟩) l := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last)]
  unfold kernelRun0_A
  dsimp only
  refine (congrFun (View.canon_cons_unit_lit (S := S1x256x1024) _ _ [] off3) _).trans ?_
  unfold sl.r_7 sl.r_8
  rw [y_A, n_A, load_block (S := S1024x2816) harg14 _ b.up off2, load_block (S := S2816x1024) harg17 _ b.down off2, load_block (S := S1x1024) harg18 _ b.last off2, load_block (S := S1x2816) harg16 _ b.bias off2]
  exact b.res_of (fun r f => b.prev (ix3 0 r f)) _ _ _ _ _ _ (old_A c arg2 harg2 arg3 harg3 arg4 harg4 arg5 harg5 arg6 harg6 arg7 harg7 arg8 harg8 arg9 harg9 arg10 harg10 arg11 harg11 arg12 harg12 arg13 harg13 arg21 b) (next_A c arg2 harg2 arg3 harg3 arg4 harg4 arg5 harg5 arg6 harg6 arg7 harg7 arg8 harg8 arg9 harg9 arg10 harg10 arg11 harg11 arg12 harg12 arg13 harg13 arg21 b) (own_A c arg2 harg2 arg3 harg3 arg4 harg4 arg5 harg5 arg6 harg6 arg7 harg7 arg8 harg8 arg9 harg9 arg10 harg10 arg11 harg11 arg12 harg12 arg13 harg13 arg21 b)
    (tap_at harg15 b.conv 0 _) (tap_at harg15 b.conv 1 _) (tap_at harg15 b.conv 2 _) r l

theorem tail_A (r : Fin 256) (f : Fin 2816) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last (ix3 0 r f) = b.fresh r f := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last)]
  unfold kernelRun0_A
  dsimp only
  refine (congrFun (View.canon_cons_unit_lit (S := S1x256x2816) _ _ [] off3) _).trans ?_
  rw [tail_at, own_A, line_hi b _ r _ rfl]

theorem kept_A (r : Fin 256) (f : Fin 2816) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last (ix2 (r.castLE (by norm_num)) f) = b.fresh r f := by
  unfold sout0_A_0
  unfold kernelRun0_A
  dsimp only
  rw [low_at, keep_at, own_A, line_hi b _ r _ rfl]

end

/-! ### A later tile -/

section

open kernelRun0_B

variable (hc0 : ¬cond0_0 i) (xs0 : Vec Ideal S512x2816 .f32)

theorem h_B : sl.r c arg3 harg3 b.s = b.h := by
  unfold sl.r Blk.h
  simp only [View.readAt_eq_ld, harg3.read_unread]

theorem g_B : sl.r_1 c arg3 harg3 arg8 harg8 b.s b.gluA = b.g := by
  unfold sl.r_1 Blk.g
  rw [load_block (S := S512x1024) harg8 _ b.gluA off2]
  simp only [View.readAt_eq_ld, harg3.read_unread]

theorem y_B : sl.r_3 c arg2 harg2 arg3 harg3 arg4 harg4 arg5 harg5 arg6 harg6 arg8 harg8 arg9 harg9 arg10 harg10 arg11 harg11 b.x b.s b.a b.v b.u b.gluA b.gluB b.attn b.out = b.y := by
  unfold sl.r_3 sl.r_2 Blk.y
  rw [h_B, g_B, load_block (S := S512x1024) harg9 _ b.gluB off2, load_block (S := S1x256x512) harg4 _ b.a off3, load_block (S := S512x1024) harg10 _ b.attn off2, load_block (S := S1x256x1024) harg6 _ b.u off3, load_block (S := S1x256x1024) harg5 _ b.v off3, load_block (S := S1x256x1024) harg2 _ b.x off3, load_block (S := S1024x1024) harg11 _ b.out off2]

theorem z_B : sl.r_4 c arg2 harg2 arg3 harg3 arg4 harg4 arg5 harg5 arg6 harg6 arg8 harg8 arg9 harg9 arg10 harg10 arg11 harg11 b.x b.s b.a b.v b.u b.gluA b.gluB b.attn b.out = b.z := by
  unfold sl.r_4 sl.r_2 Blk.z
  rw [h_B, g_B, load_block (S := S512x1024) harg9 _ b.gluB off2, load_block (S := S1x256x512) harg4 _ b.a off3, load_block (S := S512x1024) harg10 _ b.attn off2, load_block (S := S1x256x1024) harg6 _ b.u off3, load_block (S := S1x256x1024) harg5 _ b.v off3, load_block (S := S1x256x1024) harg2 _ b.x off3, load_block (S := S1024x1024) harg11 _ b.out off2]

theorem gain_B : sl.r_5 c arg12 harg12 b.gain = k0_pay6 (F := Ideal) b.gain := by
  unfold sl.r_5
  rw [load_block (S := S1x1024) harg12 _ b.gain off2]

theorem n_B : sl.r_6 c arg2 harg2 arg3 harg3 arg4 harg4 arg5 harg5 arg6 harg6 arg8 harg8 arg9 harg9 arg10 harg10 arg11 harg11 arg12 harg12 b.x b.s b.a b.v b.u b.gluA b.gluB b.attn b.out b.gain = b.n := by
  unfold sl.r_6 Blk.n
  rw [z_B, gain_B]

/-- The rows of the convolution, once the tile's own are stored. -/
theorem line_B (v : View sig .tc .vmem S512x2816 .f32) (t : v.ty.Contents (Elt Ideal)) (lo : Fin 256 → Fin 2816 → EReal) (hlo : ∀ (r : Fin 256) (f : Fin 2816), v.read (Elt Ideal) t (ix2 (r.castLE (by norm_num)) f) = lo r f) (k : Fin 512) (f : Fin 2816) :
    v.read (Elt Ideal) (v.writes (Elt Ideal) t (sl.HS0_1 c arg2 harg2 arg3 harg3 arg4 harg4 arg5 harg5 arg6 harg6 arg8 harg8 arg9 harg9 arg10 harg10 arg11 harg11 arg12 harg12 arg13 harg13 b.x b.s b.a b.v b.u b.gluA b.gluB b.attn b.out b.gain b.gate)) (ix2 k f) = b.line lo k f := by
  unfold sl.HS0_1
  refine line_at v t b _ _ _ ?_ _ ?_ k f
  · rw [z_B, gain_B, load_block (S := S1024x2816) harg13 _ b.gate off2]
    rfl
  · exact hlo

theorem old_B (r : Fin 256) (f : Fin 2816) : sl.v74 c arg21 harg21 xs0 (ix2 r f) = b.line (fun r f => xs0 (ix2 (r.castLE (by norm_num)) f)) ⟨r.val, by omega⟩ f := by
  unfold sl.v74
  refine (rows_load _ _ 0 _ r f ⟨r.val, by omega⟩ (Nat.zero_add _).symm).trans ?_
  rw [harg21.read_unread]
  unfold Blk.line
  rw [dif_pos r.isLt]
  rfl

theorem next_B (r : Fin 256) (f : Fin 2816) : sl.v78 c arg2 harg2 arg3 harg3 arg4 harg4 arg5 harg5 arg6 harg6 arg8 harg8 arg9 harg9 arg10 harg10 arg11 harg11 arg12 harg12 arg13 harg13 arg21 harg21 b.x b.s b.a b.v b.u b.gluA b.gluB b.attn b.out b.gain b.gate xs0 (ix2 r f) = b.line (fun r f => xs0 (ix2 (r.castLE (by norm_num)) f)) ⟨128 + r.val, by omega⟩ f := by
  unfold sl.v78
  refine (rows_load _ _ 128 _ r f ⟨128 + r.val, by omega⟩ rfl).trans (line_B c arg2 harg2 arg3 harg3 arg4 harg4 arg5 harg5 arg6 harg6 arg8 harg8 arg9 harg9 arg10 harg10 arg11 harg11 arg12 harg12 arg13 harg13 b _ _ _ ?_ _ f)
  intro r f
  rw [harg21.read_unread]

theorem own_B (r : Fin 256) (f : Fin 2816) : sl.v83 c arg2 harg2 arg3 harg3 arg4 harg4 arg5 harg5 arg6 harg6 arg8 harg8 arg9 harg9 arg10 harg10 arg11 harg11 arg12 harg12 arg13 harg13 arg21 b.x b.s b.a b.v b.u b.gluA b.gluB b.attn b.out b.gain b.gate (ix2 r f) = b.fresh r f := by
  unfold sl.v83
  refine (rows_load _ _ 256 _ r f ⟨256 + r.val, by omega⟩ rfl).trans ((line_B c arg2 harg2 arg3 harg3 arg4 harg4 arg5 harg5 arg6 harg6 arg8 harg8 arg9 harg9 arg10 harg10 arg11 harg11 arg12 harg12 arg13 harg13 b _ _ _ (fun _ _ => rfl) _ f).trans ?_)
  rw [line_hi b _ r _ rfl]

theorem res_B (r : Fin 256) (l : Fin 1024) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last xs0 (ix3 0 r l)
      = b.W.res (b.mid r) (b.line (fun r f => xs0 (ix2 (r.castLE (by norm_num)) f)) ⟨r.val, by omega⟩) (b.line (fun r f => xs0 (ix2 (r.castLE (by norm_num)) f)) ⟨128 + r.val, by omega⟩) (b.line (fun r f => xs0 (ix2 (r.castLE (by norm_num)) f)) ⟨256 + r.val, by omega⟩) l := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last xs0)]
  unfold kernelRun0_B
  dsimp only
  refine (congrFun (View.canon_cons_unit_lit (S := S1x256x1024) _ _ [] off3) _).trans ?_
  unfold sl.r_7 sl.r_8
  rw [y_B, n_B, load_block (S := S1024x2816) harg14 _ b.up off2, load_block (S := S2816x1024) harg17 _ b.down off2, load_block (S := S1x1024) harg18 _ b.last off2, load_block (S := S1x2816) harg16 _ b.bias off2]
  exact b.res_of (fun r f => xs0 (ix2 (r.castLE (by norm_num)) f)) _ _ _ _ _ _ (old_B c arg21 harg21 b xs0) (next_B c arg2 harg2 arg3 harg3 arg4 harg4 arg5 harg5 arg6 harg6 arg8 harg8 arg9 harg9 arg10 harg10 arg11 harg11 arg12 harg12 arg13 harg13 arg21 harg21 b xs0) (fun r f => (own_B c arg2 harg2 arg3 harg3 arg4 harg4 arg5 harg5 arg6 harg6 arg8 harg8 arg9 harg9 arg10 harg10 arg11 harg11 arg12 harg12 arg13 harg13 arg21 b r f).trans (congrFun (line_hi b _ r _ rfl).symm f))
    (tap_at harg15 b.conv 0 _) (tap_at harg15 b.conv 1 _) (tap_at harg15 b.conv 2 _) r l

theorem tail_B (r : Fin 256) (f : Fin 2816) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last xs0 (ix3 0 r f) = b.fresh r f := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last xs0)]
  unfold kernelRun0_B
  dsimp only
  refine (congrFun (View.canon_cons_unit_lit (S := S1x256x2816) _ _ [] off3) _).trans ?_
  rw [tail_at, own_B]

theorem kept_B (r : Fin 256) (f : Fin 2816) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 b.x b.s b.a b.v b.u b.prev b.gluA b.gluB b.attn b.out b.gain b.gate b.up b.conv b.bias b.down b.last xs0 (ix2 (r.castLE (by norm_num)) f) = b.fresh r f := by
  unfold sout0_B_0
  unfold kernelRun0_B
  dsimp only
  rw [low_at, keep_at, own_B]

end

end Cert.Mixed

end
-- ==== Proof.MixTarget.lean ====
/-
  The results of the mixing and feed-forward half for the sample, as plain functions of the arguments. The rows are
  counted position by position, the 128 sequences of a position side by side: row `R` is of sequence `R % 128` and
  position `R / 128`. The convolution reads, beside a row's own gate projection, those of the same sequence one and two
  positions before; before the first position stand the two the layer was given.
-/
module

public import proofs.«01_k».proof.Proof.MixLayer
public import proofs.«01_k».proof.Proof.SampleOrder

@[expose] public section

noncomputable section

namespace Cert.Mixed

open Idealize.ShloMosaic Cert.Layer
open Cert.Proj.Ref (S1 S3)
open Cert.Samp (seq pos)

/-- A matrix. -/
abbrev S2 (h w : ℕ) : Shape := ⟨2, ![h, w]⟩

/-- The arguments. -/
structure Args where
  x : Vec Ideal (S3 128 8 1024) .f32
  s : Vec Ideal (S2 1024 512) .f32
  a : Vec Ideal (S3 128 8 512) .f32
  v : Vec Ideal (S3 1 1024 1024) .f32
  u : Vec Ideal (S3 1 1024 1024) .f32
  prev : Vec Ideal (S3 128 2 2816) .f32
  gluA : Vec Ideal (S2 512 1024) .f32
  gluB : Vec Ideal (S2 512 1024) .f32
  attn : Vec Ideal (S2 512 1024) .f32
  out : Vec Ideal (S2 1024 1024) .f32
  gain : Vec Ideal (S1 1024) .f32
  gate : Vec Ideal (S2 1024 2816) .f32
  up : Vec Ideal (S2 1024 2816) .f32
  conv : Vec Ideal (S2 3 2816) .f32
  bias : Vec Ideal (S1 2816) .f32
  down : Vec Ideal (S2 2816 1024) .f32
  last : Vec Ideal (S1 1024) .f32

namespace Args

variable (A : Args)

/-- The weights among them. -/
def W : Weights where
  gluA j k := A.gluA (ix2 j k)
  gluB j k := A.gluB (ix2 j k)
  attn j k := A.attn (ix2 j k)
  out j k := A.out (ix2 j k)
  gain j := A.gain (ix1 j)
  gate j f := A.gate (ix2 j f)
  up j f := A.up (ix2 j f)
  conv i f := A.conv (ix2 i f)
  bias f := A.bias (ix1 f)
  down f l := A.down (ix2 f l)
  last l := A.last (ix1 l)

/-- Row `R` with its two branches. -/
def mid (R : Fin 1024) : Fin 1024 → EReal :=
  A.W.mid (fun l => A.x (ix3 (seq R) (pos R) l)) (fun j => A.s (ix2 R j)) (fun j => A.a (ix3 (seq R) (pos R) j))
    (fun k => A.v (ix3 0 R k)) (fun k => A.u (ix3 0 R k))

/-- The gate projections in order: of the two positions given, then of the rows. -/
def full (q : Fin 1280) : Fin 2816 → EReal :=
  if h : q.val < 256 then fun f => A.prev (ix3 ⟨q.val % 128, by omega⟩ ⟨q.val / 128, by omega⟩ f)
  else A.W.lift (A.mid ⟨q.val - 256, by omega⟩)

/-- Row `R` of the result. -/
def y (R : Fin 1024) : Fin 1024 → EReal :=
  A.W.res (A.mid R) (A.full ⟨R.val, by omega⟩) (A.full ⟨128 + R.val, by omega⟩) (A.full ⟨256 + R.val, by omega⟩)

/-- The result, -/
def result : Vec Ideal (S3 1 1024 1024) .f32 := fun i => A.y (i 1) (i 2)

/-- and the gate projections of the last two positions. -/
def tail : Vec Ideal (S3 1 256 2816) .f32 := fun i => A.full ⟨1024 + (i 1).val, by have : (i 1).val < 256 := (i 1).isLt; omega⟩ (i 2)

theorem result_at (n : Fin 1) (R : Fin 1024) (l : Fin 1024) : A.result (ix3 n R l) = A.y R l := rfl
theorem tail_at (n : Fin 1) (k : Fin 256) (f : Fin 2816) : A.tail (ix3 n k f) = A.full ⟨1024 + k.val, by omega⟩ f := rfl

/-- The gate projection of a row, in the order of all of them. -/
theorem full_row (q : Fin 1280) (R : Fin 1024) (h : q.val = 256 + R.val) : A.full q = A.W.lift (A.mid R) := by
  unfold full
  rw [dif_neg (by omega)]
  exact congrArg (fun R => A.W.lift (A.mid R)) (Fin.ext (show q.val - 256 = R.val by omega))

end Args

end Cert.Mixed

end
-- ==== Proof.MixWeights.lean ====
/-
  The operands the mixing and feed-forward half is given, entry by entry: its rows position by position, and the weights.
-/
module

public import proofs.«01_k».proof.Proof.MixTarget
public import proofs.«01_k».proof.Proof.Gen.MixIdeal.Frame
public import Idealize.ShloMosaic.Lib.StableHlo.ReadAt
public import Idealize.ShloMosaic.Lib.Pointwise
public import Idealize.ShloMosaic.Lib.Claim

@[expose] public section

set_option maxRecDepth 16384

noncomputable section

namespace Cert.Mixed

open Idealize.ShloMosaic Idealize.ShloMosaic.TcCoe Cert.MixIdeal Cert.MixIdeal.Gen Cert.Layer
open Cert.Samp (seq pos rows rows_at Order)

variable (m : (ℓ : Loc nD τ sig) → Buf (Elt Ideal) ℓ) (c : Dev nD)

/-- The arguments of device `c`. -/
def argsOf : Args where
  x := m ((c.tc : Thread nD τ).loc main_arg0)
  s := m ((c.tc : Thread nD τ).loc main_arg1)
  a := m ((c.tc : Thread nD τ).loc main_arg2)
  v := m ((c.tc : Thread nD τ).loc main_arg3)
  u := m ((c.tc : Thread nD τ).loc main_arg4)
  prev := m ((c.tc : Thread nD τ).loc main_arg5)
  gluA := m ((c.tc : Thread nD τ).loc main_arg6)
  gluB := m ((c.tc : Thread nD τ).loc main_arg7)
  attn := m ((c.tc : Thread nD τ).loc main_arg8)
  out := m ((c.tc : Thread nD τ).loc main_arg9)
  gain := m ((c.tc : Thread nD τ).loc main_arg10)
  gate := m ((c.tc : Thread nD τ).loc main_arg11)
  up := m ((c.tc : Thread nD τ).loc main_arg12)
  conv := m ((c.tc : Thread nD τ).loc main_arg13)
  bias := m ((c.tc : Thread nD τ).loc main_arg14)
  down := m ((c.tc : Thread nD τ).loc main_arg15)
  last := m ((c.tc : Thread nD τ).loc main_arg16)

/-- The changes of order fit, -/
theorem order1024 : Order 1024 := ⟨Facts₀.transposes_S128x8x1024_S8x128x1024_1_0_2, Facts₀.shapeCasts_S8x128x1024_S1x1024x1024⟩
theorem order512 : Order 512 := ⟨Facts₀.transposes_S128x8x512_S8x128x512_1_0_2, Facts₀.shapeCasts_S8x128x512_S1x1024x512⟩

/-- so the rows are the input's, -/
theorem x_at (n : Fin 1) (R : Fin 1024) (l : Fin 1024) : V m c main_v16 (ix3 n R l) = (argsOf m c).x (ix3 (seq R) (pos R) l) := by
  have e : V m c main_v16 = rows order1024 (argsOf m c).x := by
    unfold V
    after_reads_simp
    rfl
  exact (congrFun e _).trans (rows_at order1024 _ n R l)

/-- and the attention's. -/
theorem a_at (n : Fin 1) (R : Fin 1024) (j : Fin 512) : V m c main_v12 (ix3 n R j) = (argsOf m c).a (ix3 (seq R) (pos R) j) := by
  have e : V m c main_v12 = rows order512 (argsOf m c).a := by
    unfold V
    after_reads_simp
    rfl
  exact (congrFun e _).trans (rows_at order512 _ n R j)

/-- The projections given, position by position. -/
theorem prev_rows (n : Fin 1) (k : Fin 256) (f : Fin 2816) :
    V m c main_v14 (ix3 n k f) = (argsOf m c).prev (ix3 ⟨k.val % 128, by omega⟩ ⟨k.val / 128, by omega⟩ f) := by
  have hk := k.isLt
  have e : V m c main_v14 = shapeCast S1x256x2816 (transpose S2x128x2816 [1, 0, 2] (argsOf m c).prev Facts₀.transposes_S128x2x2816_S2x128x2816_1_0_2) Facts₀.shapeCasts_S2x128x2816_S1x256x2816 := by
    unfold V
    after_reads_simp
    rfl
  have h (U : Vec Ideal S2x128x2816 .f32) : shapeCast S1x256x2816 U Facts₀.shapeCasts_S2x128x2816_S1x256x2816 (ix3 n k f) = U (ix3 ⟨k.val / 128, by omega⟩ ⟨k.val % 128, by omega⟩ f) :=
    congrArg U (Shape.reshapeEquiv_eq_of_rowMajor _ (by
      rw [Shape.rowMajor_val_three, Shape.rowMajor_val_three]
      show (k.val / 128 * 128 + k.val % 128) * 2816 + f.val = (n.val * 256 + k.val) * 2816 + f.val
      rw [show k.val / 128 * 128 + k.val % 128 = n.val * 256 + k.val by omega]))
  refine (congrFun e _).trans ((h _).trans ?_)
  exact transpose_apply _ _ _ _ _ fun b => match b with
    | ⟨0, _⟩ => rfl
    | ⟨1, _⟩ => rfl
    | ⟨2, _⟩ => rfl

/-- The state space's rows, by lane tiles. -/
theorem s_at (q : Fin 4) (R : Fin 1024) (l : Fin 128) : V m c main_v19 (ix4 0 q R l) = (argsOf m c).s (ix2 R ⟨128 * q.val + l.val, by omega⟩) := by
  have e : V m c main_v19 = broadcastInDim S1x4x1024x128 ![1, 2, 3] Facts₀.bcast_S4x1024x128_S1x4x1024x128_1_2_3
      (transpose S4x1024x128 [1, 0, 2] (shapeCast S1024x4x128 (argsOf m c).s Facts₀.shapeCasts_S1024x512_S1024x4x128) Facts₀.transposes_S1024x4x128_S4x1024x128_1_0_2) := by
    unfold V
    after_reads_simp
    rfl
  have h (U : Vec Ideal S4x1024x128 .f32) : broadcastInDim S1x4x1024x128 ![1, 2, 3] Facts₀.bcast_S4x1024x128_S1x4x1024x128_1_2_3 U (ix4 0 q R l) = U (ix3 q R l) := by
    pointwise
  refine (congrFun e _).trans ((h _).trans ?_)
  refine (transpose_apply _ _ _ (ix3 q R l) (ix3 R q l) fun b => match b with
    | ⟨0, _⟩ => rfl
    | ⟨1, _⟩ => rfl
    | ⟨2, _⟩ => rfl).trans ?_
  refine congrArg (argsOf m c).s (Shape.reshapeEquiv_eq_of_rowMajor _ ?_)
  rw [Shape.rowMajor_val_two, Shape.rowMajor_val_three]
  show R.val * 512 + (128 * q.val + l.val) = (R.val * 4 + q.val) * 128 + l.val
  omega

/-! The weights. -/

theorem gluA_at (j : Fin 512) (k : Fin 1024) : V m c main_v0 (ix2 j k) = (argsOf m c).gluA (ix2 j k) := by
  unfold V
  after_reads_at
  rfl

theorem gluB_at (j : Fin 512) (k : Fin 1024) : V m c main_v1 (ix2 j k) = (argsOf m c).gluB (ix2 j k) := by
  unfold V
  after_reads_at
  rfl

theorem attn_at (j : Fin 512) (k : Fin 1024) : V m c main_v2 (ix2 j k) = (argsOf m c).attn (ix2 j k) := by
  unfold V
  after_reads_at
  rfl

theorem out_at (j : Fin 1024) (k : Fin 1024) : V m c main_v3 (ix2 j k) = (argsOf m c).out (ix2 j k) := by
  unfold V
  after_reads_at
  rfl

theorem gate_at (j : Fin 1024) (k : Fin 2816) : V m c main_v5 (ix2 j k) = (argsOf m c).gate (ix2 j k) := by
  unfold V
  after_reads_at
  rfl

theorem up_at (j : Fin 1024) (k : Fin 2816) : V m c main_v6 (ix2 j k) = (argsOf m c).up (ix2 j k) := by
  unfold V
  after_reads_at
  rfl

theorem down_at (j : Fin 2816) (k : Fin 1024) : V m c main_v8 (ix2 j k) = (argsOf m c).down (ix2 j k) := by
  unfold V
  after_reads_at
  rfl

theorem gain_at (j : Fin 1024) : V m c main_v4 (ix2 0 j) = (argsOf m c).gain (ix1 j) := by
  unfold V
  after_reads_at
  rfl

theorem bias_at (j : Fin 2816) : V m c main_v7 (ix2 0 j) = (argsOf m c).bias (ix1 j) := by
  unfold V
  after_reads_at
  rfl

theorem last_at (j : Fin 1024) : V m c main_v9 (ix2 0 j) = (argsOf m c).last (ix1 j) := by
  unfold V
  after_reads_at
  rfl

end Cert.Mixed

end
-- ==== Proof.MixBlocks.lean ====
/-
  The blocks a tile of the mixing and feed-forward half reads are slices of the arguments.
-/
module

public import proofs.«01_k».proof.Proof.ProjBlocks
public import proofs.«01_k».proof.Proof.MixOut
public import proofs.«01_k».proof.Proof.MixWeights
public import proofs.«01_k».proof.Proof.Gen.MixIdeal.Value
public import Idealize.ShloMosaic.Lib.Pipeline.Value

@[expose] public section

set_option maxRecDepth 16384

noncomputable section

namespace Cert.Mixed

open Idealize.ShloMosaic Idealize.ShloMosaic.TcCoe Cert.MixIdeal Cert.MixIdeal.Gen Cert.Layer Idealize.SL.Sem
open Idealize.ShloMosaic.Pipeline (Dat)
open Cert.Proj (ext3 rows_val rows_mem tiles_val whole_val)
open Cert.Samp (seq pos)

variable (m : (ℓ : Loc nD τ sig) → Buf (Elt Ideal) ℓ) (ρ : Dev nD → PrngReg) (c : Dev nD)

/-- The windows of rows and of lane tiles follow the point; the projections given and those returned stay, -/
theorem index_rows : ∀ t : Fin grid0.N,
    win0_0.index t = ![0, t.val, 0] ∧ win0_1.index t = ![0, 0, t.val, 0] ∧ win0_2.index t = ![0, t.val, 0]
    ∧ win0_3.index t = ![0, t.val, 0] ∧ win0_4.index t = ![0, t.val, 0] ∧ win0_5.index t = ![0, 0, 0]
    ∧ win0_17.index t = ![0, t.val, 0] ∧ win0_18.index t = ![0, 0, 0] := by decide +kernel

/-- and the weights. -/
theorem index_whole : ∀ t : Fin grid0.N, win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] := by decide +kernel

section

variable (t : Fin cfg0.N)

theorem point_lt : t.val < 4 := lt_of_lt_of_eq t.isLt N_0

/-- Row `r` of a point, among all. -/
def rowAt (r : Fin 256) : Fin 1024 := ⟨256 * t.val + r.val, by have := point_lt t; omega⟩

/-- The blocks a point reads. -/
def blk : Blk where
  x := iblk m c 0 t
  s := iblk m c 1 t
  a := iblk m c 2 t
  v := iblk m c 3 t
  u := iblk m c 4 t
  prev := iblk m c 5 t
  gluA := iblk m c 6 t
  gluB := iblk m c 7 t
  attn := iblk m c 8 t
  out := iblk m c 9 t
  gain := iblk m c 10 t
  gate := iblk m c 11 t
  up := iblk m c 12 t
  conv := iblk m c 13 t
  bias := iblk m c 14 t
  down := iblk m c 15 t
  last := iblk m c 16 t

theorem x_blk (r : Fin 256) (l : Fin 1024) : (blk m c t).x (ix3 0 r l) = (argsOf m c).x (ix3 (seq (rowAt t r)) (pos (rowAt t r)) l) := by
  show iblk m c 0 t _ = _
  unfold iblk
  rw [View.read_apply]
  exact (congrArg (V m c main_v16) (funext fun a => Fin.ext (rows_val (index_rows t).1 zero_lt_one r (rowAt t r).isLt l a))).trans (x_at m c 0 (rowAt t r) l)

theorem a_blk (r : Fin 256) (j : Fin 512) : (blk m c t).a (ix3 0 r j) = (argsOf m c).a (ix3 (seq (rowAt t r)) (pos (rowAt t r)) j) := by
  show iblk m c 2 t _ = _
  unfold iblk
  rw [View.read_apply]
  exact (congrArg (V m c main_v12) (funext fun a => Fin.ext (rows_val (index_rows t).2.2.1 zero_lt_one r (rowAt t r).isLt j a))).trans (a_at m c 0 (rowAt t r) j)

theorem v_blk (r : Fin 256) (k : Fin 1024) : (blk m c t).v (ix3 0 r k) = (argsOf m c).v (ix3 0 (rowAt t r) k) := by
  show iblk m c 3 t _ = _
  unfold iblk
  rw [View.read_apply]
  exact (congrArg (V m c main_arg3) (funext fun a => Fin.ext (rows_val (index_rows t).2.2.2.1 zero_lt_one r (rowAt t r).isLt k a))).trans (congrFun (V_main_arg3 m c) (ix3 0 (rowAt t r) k))

theorem u_blk (r : Fin 256) (k : Fin 1024) : (blk m c t).u (ix3 0 r k) = (argsOf m c).u (ix3 0 (rowAt t r) k) := by
  show iblk m c 4 t _ = _
  unfold iblk
  rw [View.read_apply]
  exact (congrArg (V m c main_arg4) (funext fun a => Fin.ext (rows_val (index_rows t).2.2.2.2.1 zero_lt_one r (rowAt t r).isLt k a))).trans (congrFun (V_main_arg4 m c) (ix3 0 (rowAt t r) k))

theorem s_blk (q : Fin 4) (r : Fin 256) (l : Fin 128) : (blk m c t).s (ix4 0 q r l) = (argsOf m c).s (ix2 (rowAt t r) ⟨128 * q.val + l.val, by omega⟩) := by
  show iblk m c 1 t _ = _
  unfold iblk
  rw [View.read_apply]
  exact (congrArg (V m c main_v19) (funext fun a => Fin.ext (tiles_val (index_rows t).2.1 zero_lt_one q r (rowAt t r).isLt l a))).trans (s_at m c q (rowAt t r) l)

theorem prev_blk (r : Fin 256) (f : Fin 2816) : (blk m c t).prev (ix3 0 r f) = (argsOf m c).prev (ix3 ⟨r.val % 128, by omega⟩ ⟨r.val / 128, by omega⟩ f) := by
  show iblk m c 5 t _ = _
  unfold iblk
  rw [View.read_apply]
  refine (congrArg (V m c main_v14) (funext fun a => Fin.ext (rows_val (index_rows t).2.2.2.2.2.1 zero_lt_one r (T := 256) (by omega) f a))).trans ?_
  refine (congrArg (fun k => V m c main_v14 (ix3 0 k f)) (Fin.ext (show 256 * 0 + r.val = r.val by omega))).trans (prev_rows m c 0 r f)

theorem gluA_blk (j : Fin 512) (k : Fin 1024) : (blk m c t).gluA (ix2 j k) = (argsOf m c).gluA (ix2 j k) := by
  show iblk m c 6 t _ = _
  unfold iblk
  rw [View.read_apply]
  exact (congrArg (V m c main_v0) (funext fun a => Fin.ext (whole_val (index_whole t).1 j k a))).trans (gluA_at m c j k)

theorem gluB_blk (j : Fin 512) (k : Fin 1024) : (blk m c t).gluB (ix2 j k) = (argsOf m c).gluB (ix2 j k) := by
  show iblk m c 7 t _ = _
  unfold iblk
  rw [View.read_apply]
  exact (congrArg (V m c main_v1) (funext fun a => Fin.ext (whole_val (index_whole t).2.1 j k a))).trans (gluB_at m c j k)

theorem attn_blk (j : Fin 512) (k : Fin 1024) : (blk m c t).attn (ix2 j k) = (argsOf m c).attn (ix2 j k) := by
  show iblk m c 8 t _ = _
  unfold iblk
  rw [View.read_apply]
  exact (congrArg (V m c main_v2) (funext fun a => Fin.ext (whole_val (index_whole t).2.2.1 j k a))).trans (attn_at m c j k)

theorem out_blk (j : Fin 1024) (k : Fin 1024) : (blk m c t).out (ix2 j k) = (argsOf m c).out (ix2 j k) := by
  show iblk m c 9 t _ = _
  unfold iblk
  rw [View.read_apply]
  exact (congrArg (V m c main_v3) (funext fun a => Fin.ext (whole_val (index_whole t).2.2.2.1 j k a))).trans (out_at m c j k)

theorem gate_blk (j : Fin 1024) (k : Fin 2816) : (blk m c t).gate (ix2 j k) = (argsOf m c).gate (ix2 j k) := by
  show iblk m c 11 t _ = _
  unfold iblk
  rw [View.read_apply]
  exact (congrArg (V m c main_v5) (funext fun a => Fin.ext (whole_val (index_whole t).2.2.2.2.2.1 j k a))).trans (gate_at m c j k)

theorem up_blk (j : Fin 1024) (k : Fin 2816) : (blk m c t).up (ix2 j k) = (argsOf m c).up (ix2 j k) := by
  show iblk m c 12 t _ = _
  unfold iblk
  rw [View.read_apply]
  exact (congrArg (V m c main_v6) (funext fun a => Fin.ext (whole_val (index_whole t).2.2.2.2.2.2.1 j k a))).trans (up_at m c j k)

theorem conv_blk (j : Fin 3) (k : Fin 2816) : (blk m c t).conv (ix2 j k) = (argsOf m c).conv (ix2 j k) := by
  show iblk m c 13 t _ = _
  unfold iblk
  rw [View.read_apply]
  exact (congrArg (V m c main_arg13) (funext fun a => Fin.ext (whole_val (index_whole t).2.2.2.2.2.2.2.1 j k a))).trans (congrFun (V_main_arg13 m c) (ix2 j k))

theorem down_blk (j : Fin 2816) (k : Fin 1024) : (blk m c t).down (ix2 j k) = (argsOf m c).down (ix2 j k) := by
  show iblk m c 15 t _ = _
  unfold iblk
  rw [View.read_apply]
  exact (congrArg (V m c main_v8) (funext fun a => Fin.ext (whole_val (index_whole t).2.2.2.2.2.2.2.2.2.1 j k a))).trans (down_at m c j k)

theorem gain_blk (j : Fin 1024) : (blk m c t).gain (ix2 0 j) = (argsOf m c).gain (ix1 j) := by
  show iblk m c 10 t _ = _
  unfold iblk
  rw [View.read_apply]
  exact (congrArg (V m c main_v4) (funext fun a => Fin.ext (whole_val (index_whole t).2.2.2.2.1 (0 : Fin 1) j a))).trans (gain_at m c j)

theorem bias_blk (j : Fin 2816) : (blk m c t).bias (ix2 0 j) = (argsOf m c).bias (ix1 j) := by
  show iblk m c 14 t _ = _
  unfold iblk
  rw [View.read_apply]
  exact (congrArg (V m c main_v7) (funext fun a => Fin.ext (whole_val (index_whole t).2.2.2.2.2.2.2.2.1 (0 : Fin 1) j a))).trans (bias_at m c j)

theorem last_blk (j : Fin 1024) : (blk m c t).last (ix2 0 j) = (argsOf m c).last (ix1 j) := by
  show iblk m c 16 t _ = _
  unfold iblk
  rw [View.read_apply]
  exact (congrArg (V m c main_v9) (funext fun a => Fin.ext (whole_val (index_whole t).2.2.2.2.2.2.2.2.2.2 (0 : Fin 1) j a))).trans (last_at m c j)

/-- The weights of a point are the layer's. -/
theorem W_blk : (blk m c t).W = (argsOf m c).W := by
  unfold Blk.W Args.W
  simp only [gluA_blk, gluB_blk, attn_blk, out_blk, gain_blk, gate_blk, up_blk, conv_blk, bias_blk, down_blk, last_blk]

/-- The rows of a point with their branches, -/
theorem mid_blk (r : Fin 256) : (blk m c t).mid r = (argsOf m c).mid (rowAt t r) := by
  have e (j : Fin 512) : (⟨128 * (j.val / 128) + j.val % 128, by omega⟩ : Fin 512) = j := Fin.ext (show 128 * (j.val / 128) + j.val % 128 = j.val by omega)
  unfold Blk.mid Args.mid
  simp only [W_blk, x_blk, s_blk, a_blk, v_blk, u_blk, e]

/-- and their gate projections. -/
theorem fresh_blk (r : Fin 256) (q : Fin 1280) (hq : q.val = 256 * (t.val + 1) + r.val) : (blk m c t).fresh r = (argsOf m c).full q := by
  unfold Blk.fresh
  rw [W_blk, mid_blk, Args.full_row _ q (rowAt t r) (show q.val = 256 + (256 * t.val + r.val) by omega)]

/-- The rows of a point's convolution, the older ones being those of the point before. -/
theorem line_blk (lo : Fin 256 → Fin 2816 → EReal)
    (hlo : ∀ (r : Fin 256) (q : Fin 1280), q.val = 256 * t.val + r.val → lo r = (argsOf m c).full q)
    (k : Fin 512) (q : Fin 1280) (hq : q.val = 256 * t.val + k.val) : (blk m c t).line lo k = (argsOf m c).full q := by
  unfold Blk.line
  split
  · exact hlo _ q hq
  · exact fresh_blk m c t _ q (show q.val = 256 * (t.val + 1) + (k.val - 256) by omega)

end

end Cert.Mixed

end
-- ==== Proof.MixWhole.lean ====
/-
  From tiles to whole arrays: the rows a tile of the mixing and feed-forward half keeps are its own gate projections, those it leaves are slices of the results, and they cover them.
-/
module

public import proofs.«01_k».proof.Proof.MixBlocks
public import proofs.«01_k».proof.Proof.Gen.MixIdeal.Value
public import Idealize.ShloMosaic.Lib.Pipeline.Value

@[expose] public section

set_option maxRecDepth 16384

noncomputable section

namespace Cert.Mixed

open Idealize.ShloMosaic Idealize.ShloMosaic.TcCoe Cert.MixIdeal Cert.MixIdeal.Gen Cert.Layer Idealize.SL.Sem
open Idealize.ShloMosaic.Pipeline (Dat)
open Cert.Proj (ext3 rows_val rows_mem tiles_val whole_val)
open Cert.Samp (seq pos)

variable (m : (ℓ : Loc nD τ sig) → Buf (Elt Ideal) ℓ) (ρ : Dev nD → PrngReg) (c : Dev nD)

section

variable (i : grid0.Coords)
variable (arg2 : Memref sig .tc .vmem S1x256x1024 .f32) (harg2 : arg2.IsWhole)
variable (arg3 : Memref sig .tc .vmem S1x4x256x128 .f32) (harg3 : arg3.IsWhole)
variable (arg4 : Memref sig .tc .vmem S1x256x512 .bf16) (harg4 : arg4.IsWhole)
variable (arg5 : Memref sig .tc .vmem S1x256x1024 .f32) (harg5 : arg5.IsWhole)
variable (arg6 : Memref sig .tc .vmem S1x256x1024 .f32) (harg6 : arg6.IsWhole)
variable (arg7 : Memref sig .tc .vmem S1x256x2816 .f32) (harg7 : arg7.IsWhole)
variable (arg8 : Memref sig .tc .vmem S512x1024 .bf16) (harg8 : arg8.IsWhole)
variable (arg9 : Memref sig .tc .vmem S512x1024 .bf16) (harg9 : arg9.IsWhole)
variable (arg10 : Memref sig .tc .vmem S512x1024 .bf16) (harg10 : arg10.IsWhole)
variable (arg11 : Memref sig .tc .vmem S1024x1024 .bf16) (harg11 : arg11.IsWhole)
variable (arg12 : Memref sig .tc .vmem S1x1024 .f32) (harg12 : arg12.IsWhole)
variable (arg13 : Memref sig .tc .vmem S1024x2816 .bf16) (harg13 : arg13.IsWhole)
variable (arg14 : Memref sig .tc .vmem S1024x2816 .bf16) (harg14 : arg14.IsWhole)
variable (arg15 : Memref sig .tc .vmem S3x2816 .f32) (harg15 : arg15.IsWhole)
variable (arg16 : Memref sig .tc .vmem S1x2816 .f32) (harg16 : arg16.IsWhole)
variable (arg17 : Memref sig .tc .vmem S2816x1024 .bf16) (harg17 : arg17.IsWhole)
variable (arg18 : Memref sig .tc .vmem S1x1024 .f32) (harg18 : arg18.IsWhole)
variable (arg19 : Memref sig .tc .vmem S1x256x1024 .f32) (harg19 : arg19.IsWhole)
variable (arg20 : Memref sig .tc .vmem S1x256x2816 .f32) (harg20 : arg20.IsWhole)
variable (arg21 : Memref sig .tc .vmem S512x2816 .f32) (harg21 : arg21.IsWhole)
variable (x0 : Vec Ideal S1x256x1024 .f32)
variable (x1 : Vec Ideal S1x4x256x128 .f32)
variable (x2 : Vec Ideal S1x256x512 .bf16)
variable (x3 : Vec Ideal S1x256x1024 .f32)
variable (x4 : Vec Ideal S1x256x1024 .f32)
variable (x5 : Vec Ideal S1x256x2816 .f32)
variable (x6 : Vec Ideal S512x1024 .bf16)
variable (x7 : Vec Ideal S512x1024 .bf16)
variable (x8 : Vec Ideal S512x1024 .bf16)
variable (x9 : Vec Ideal S1024x1024 .bf16)
variable (x10 : Vec Ideal S1x1024 .f32)
variable (x11 : Vec Ideal S1024x2816 .bf16)
variable (x12 : Vec Ideal S1024x2816 .bf16)
variable (x13 : Vec Ideal S3x2816 .f32)
variable (x14 : Vec Ideal S1x2816 .f32)
variable (x15 : Vec Ideal S2816x1024 .bf16)
variable (x16 : Vec Ideal S1x1024 .f32)

/-! The blocks a point leaves, of the blocks it reads. -/

theorem res_A_of (hc0 : cond0_0 i) (r : Fin 256) (l : Fin 1024) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 (ix3 0 r l)
    = (Blk.mk x0 x1 x2 x3 x4 x5 x6 x7 x8 x9 x10 x11 x12 x13 x14 x15 x16).W.res ((Blk.mk x0 x1 x2 x3 x4 x5 x6 x7 x8 x9 x10 x11 x12 x13 x14 x15 x16).mid r) ((Blk.mk x0 x1 x2 x3 x4 x5 x6 x7 x8 x9 x10 x11 x12 x13 x14 x15 x16).line (fun r f => x5 (ix3 0 r f)) ⟨r.val, by omega⟩) ((Blk.mk x0 x1 x2 x3 x4 x5 x6 x7 x8 x9 x10 x11 x12 x13 x14 x15 x16).line (fun r f => x5 (ix3 0 r f)) ⟨128 + r.val, by omega⟩) ((Blk.mk x0 x1 x2 x3 x4 x5 x6 x7 x8 x9 x10 x11 x12 x13 x14 x15 x16).line (fun r f => x5 (ix3 0 r f)) ⟨256 + r.val, by omega⟩) l :=
  res_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Blk.mk x0 x1 x2 x3 x4 x5 x6 x7 x8 x9 x10 x11 x12 x13 x14 x15 x16) hc0 r l

theorem tail_A_of (hc0 : cond0_0 i) (r : Fin 256) (f : Fin 2816) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 (ix3 0 r f) = (Blk.mk x0 x1 x2 x3 x4 x5 x6 x7 x8 x9 x10 x11 x12 x13 x14 x15 x16).fresh r f :=
  tail_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Blk.mk x0 x1 x2 x3 x4 x5 x6 x7 x8 x9 x10 x11 x12 x13 x14 x15 x16) hc0 r f

theorem kept_A_of (hc0 : cond0_0 i) (r : Fin 256) (f : Fin 2816) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 (ix2 (r.castLE (by norm_num)) f) = (Blk.mk x0 x1 x2 x3 x4 x5 x6 x7 x8 x9 x10 x11 x12 x13 x14 x15 x16).fresh r f :=
  kept_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Blk.mk x0 x1 x2 x3 x4 x5 x6 x7 x8 x9 x10 x11 x12 x13 x14 x15 x16) hc0 r f

theorem res_B_of (hc0 : ¬cond0_0 i) (xs0 : Vec Ideal S512x2816 .f32) (r : Fin 256) (l : Fin 1024) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 (ix3 0 r l)
    = (Blk.mk x0 x1 x2 x3 x4 x5 x6 x7 x8 x9 x10 x11 x12 x13 x14 x15 x16).W.res ((Blk.mk x0 x1 x2 x3 x4 x5 x6 x7 x8 x9 x10 x11 x12 x13 x14 x15 x16).mid r) ((Blk.mk x0 x1 x2 x3 x4 x5 x6 x7 x8 x9 x10 x11 x12 x13 x14 x15 x16).line (fun r f => xs0 (ix2 (r.castLE (by norm_num)) f)) ⟨r.val, by omega⟩) ((Blk.mk x0 x1 x2 x3 x4 x5 x6 x7 x8 x9 x10 x11 x12 x13 x14 x15 x16).line (fun r f => xs0 (ix2 (r.castLE (by norm_num)) f)) ⟨128 + r.val, by omega⟩) ((Blk.mk x0 x1 x2 x3 x4 x5 x6 x7 x8 x9 x10 x11 x12 x13 x14 x15 x16).line (fun r f => xs0 (ix2 (r.castLE (by norm_num)) f)) ⟨256 + r.val, by omega⟩) l :=
  res_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Blk.mk x0 x1 x2 x3 x4 x5 x6 x7 x8 x9 x10 x11 x12 x13 x14 x15 x16) hc0 xs0 r l

theorem tail_B_of (hc0 : ¬cond0_0 i) (xs0 : Vec Ideal S512x2816 .f32) (r : Fin 256) (f : Fin 2816) : out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 (ix3 0 r f) = (Blk.mk x0 x1 x2 x3 x4 x5 x6 x7 x8 x9 x10 x11 x12 x13 x14 x15 x16).fresh r f :=
  tail_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Blk.mk x0 x1 x2 x3 x4 x5 x6 x7 x8 x9 x10 x11 x12 x13 x14 x15 x16) hc0 xs0 r f

theorem kept_B_of (hc0 : ¬cond0_0 i) (xs0 : Vec Ideal S512x2816 .f32) (r : Fin 256) (f : Fin 2816) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 (ix2 (r.castLE (by norm_num)) f) = (Blk.mk x0 x1 x2 x3 x4 x5 x6 x7 x8 x9 x10 x11 x12 x13 x14 x15 x16).fresh r f :=
  kept_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Blk.mk x0 x1 x2 x3 x4 x5 x6 x7 x8 x9 x10 x11 x12 x13 x14 x15 x16) hc0 xs0 r f

end

section

variable (t : Fin cfg0.N)

theorem third {α β γ : Type} {o : α × β × γ} {x : α} {y : β} {z : γ} (h : o = (x, y, z)) : o.2.2 = z := by rw [h]

/-- A point keeps its gate projections for the next. -/
theorem kept (r : Fin 256) (f : Fin 2816) : (outsAt0 m c t.val t.isLt).2.2 (ix2 (r.castLE (by norm_num)) f) = (blk m c t).fresh r f := by
  by_cases h0 : t.val % 4 = 0
  · exact (congrFun (third (outsAt0_A m c t h0)) _).trans (kept_A_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((hcond0_0 t).mpr h0) r f)
  · exact (congrFun (third (outsAt0_B m c t h0)) _).trans (kept_B_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => h0 ((hcond0_0 t).mp h)) _ r f)

/-- The result's rows, whichever rows the convolution starts with. -/
theorem y_of (lo : Fin 256 → Fin 2816 → EReal)
    (hlo : ∀ (r : Fin 256) (q : Fin 1280), q.val = 256 * t.val + r.val → lo r = (argsOf m c).full q) (r : Fin 256) (l : Fin 1024) :
    (blk m c t).W.res ((blk m c t).mid r) ((blk m c t).line lo ⟨r.val, by omega⟩) ((blk m c t).line lo ⟨128 + r.val, by omega⟩) ((blk m c t).line lo ⟨256 + r.val, by omega⟩) l
      = (argsOf m c).y (rowAt t r) l := by
  have h := (rowAt t r).isLt
  rw [W_blk, mid_blk, line_blk m c t lo hlo ⟨r.val, by omega⟩ ⟨(rowAt t r).val, by omega⟩ rfl,
    line_blk m c t lo hlo ⟨128 + r.val, by omega⟩ ⟨128 + (rowAt t r).val, by omega⟩ (show 128 + (256 * t.val + r.val) = 256 * t.val + (128 + r.val) by omega),
    line_blk m c t lo hlo ⟨256 + r.val, by omega⟩ ⟨256 + (rowAt t r).val, by omega⟩ (show 256 + (256 * t.val + r.val) = 256 * t.val + (256 + r.val) by omega)]
  rfl

/-- A block is written back whole, of the result -/
theorem cut_y (P : Vec Ideal S1x256x1024 .f32) (r : Fin 256) (l : Fin 1024) : ((cfg0.win 17).cut (grid0.coords t) P : Vec Ideal S1x256x1024 .f32) (ix3 0 r l) = P (ix3 0 r l) := rfl
/-- and of the gate projections. -/
theorem cut_tail (P : Vec Ideal S1x256x2816 .f32) (r : Fin 256) (f : Fin 2816) : ((cfg0.win 18).cut (grid0.coords t) P : Vec Ideal S1x256x2816 .f32) (ix3 0 r f) = P (ix3 0 r f) := rfl

/-- What a point writes back of the result. -/
theorem y_flushed (r : Fin 256) (l : Fin 1024) : ((dats m 0 c).flushed 17 t : Vec Ideal S1x256x1024 .f32) (ix3 0 r l) = (argsOf m c).y (rowAt t r) l := by
  have ht := point_lt t
  by_cases h0 : t.val % 4 = 0
  · refine (congrFun (Value.flushed17_A m c t h0) (ix3 0 r l)).trans ?_
    refine (cut_y t _ r l).trans ((res_A_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((hcond0_0 t).mpr h0) r l).trans (y_of m c t _ (fun r q hq => funext fun f => ?_) r l))
    refine (prev_blk m c t r f).trans ?_
    unfold Args.full
    rw [dif_pos (by omega)]
    refine congrArg (argsOf m c).prev (funext fun a => Fin.ext ?_)
    match a with
    | ⟨0, _⟩ => show r.val % 128 = q.val % 128; omega
    | ⟨1, _⟩ => show r.val / 128 = q.val / 128; omega
    | ⟨2, _⟩ => rfl
  · refine (congrFun (Value.flushed17_B m c t h0) (ix3 0 r l)).trans ?_
    refine (cut_y t _ r l).trans ((res_B_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => h0 ((hcond0_0 t).mp h)) _ r l).trans (y_of m c t _ (fun r q hq => funext fun f => ?_) r l))
    have ht' : t.val - 1 < cfg0.N := Nat.lt_of_le_of_lt (Nat.sub_le _ _) t.isLt
    exact (kept m c ⟨t.val - 1, ht'⟩ r f).trans (congrFun (fresh_blk m c ⟨t.val - 1, ht'⟩ r q (show q.val = 256 * (t.val - 1 + 1) + r.val by omega)) f)

/-- What the last point writes back of the gate projections. -/
theorem tail_flushed (h : t.val % 4 = 3) (k : Fin 256) (f : Fin 2816) : ((dats m 0 c).flushed 18 t : Vec Ideal S1x256x2816 .f32) (ix3 0 k f) = (argsOf m c).tail (ix3 0 k f) := by
  have ht := point_lt t
  have h0 : ¬t.val % 4 = 0 := by omega
  refine (congrFun (Value.flushed18_B m c t h0) (ix3 0 k f)).trans ?_
  refine (cut_tail t _ k f).trans ((tail_B_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => h0 ((hcond0_0 t).mp h)) _ k f).trans ?_)
  rw [Args.tail_at]
  exact congrFun (fresh_blk m c t k ⟨1024 + k.val, by omega⟩ (show 1024 + k.val = 256 * (t.val + 1) + k.val by omega)) f

/-! So each block is the point's slice of the whole result. -/

theorem y_eq : (dats m 0 c).flushed 17 t = ((cfg0.win 17).blk t).view.read (Elt Ideal) ((argsOf m c).result) := by
  refine ext3 (x := 1) (y := 256) (z := 1024) fun z r l => ?_
  obtain rfl : z = 0 := Subsingleton.elim _ _
  refine (y_flushed m c t r l).trans ?_
  rw [← Args.result_at _ 0, View.read_apply]
  generalize (argsOf m c).result = R
  exact congrArg R (funext fun a => Fin.ext (rows_val (index_rows t).2.2.2.2.2.2.1 zero_lt_one r (rowAt t r).isLt l a).symm)

theorem tail_eq (h : t.val % 4 = 3) : (dats m 0 c).flushed 18 t = ((cfg0.win 18).blk t).view.read (Elt Ideal) ((argsOf m c).tail) := by
  refine ext3 (x := 1) (y := 256) (z := 2816) fun z k f => ?_
  obtain rfl : z = 0 := Subsingleton.elim _ _
  refine (tail_flushed m c t h k f).trans ?_
  rw [View.read_apply]
  generalize (argsOf m c).tail = R
  refine congrArg R (funext fun a => Fin.ext ?_)
  have e := rows_val (index_rows t).2.2.2.2.2.2.2 zero_lt_one k (T := 256) (by omega) f a
  refine Eq.trans ?_ e.symm
  match a with
  | ⟨0, _⟩ => rfl
  | ⟨1, _⟩ => show k.val = 256 * 0 + k.val; omega
  | ⟨2, _⟩ => rfl

end

/-! So each result ends as the whole array. -/

theorem y_final : (dats m 0 c).arrAt 17 cfg0.N = (argsOf m c).result := by
  refine (dats m 0 c).arrAt_eq_of_cover 17 (argsOf m c).result (fun t _ => y_eq m c t) fun (i : S1x1024x1024.Idx) => ?_
  have h0 : (i 0).val < 1 := (i 0).isLt
  have h1 : (i 1).val < 1024 := (i 1).isLt
  let t : Fin cfg0.N := ⟨(i 1).val / 256, lt_of_lt_of_eq (by omega) N_0.symm⟩
  refine ⟨t, flush0_17 t, ?_⟩
  show i ∈ ((View.whole main_v20_0).slice (win0_17.rect t)).set
  rw [View.set_slice_whole, Rect.mem_set_unit]
  exact rows_mem (index_rows t).2.2.2.2.2.2.1 i (by omega) rfl

theorem tail_final : (dats m 0 c).arrAt 18 cfg0.N = (argsOf m c).tail := by
  refine (dats m 0 c).arrAt_eq_of_cover 18 (argsOf m c).tail (fun t hf => tail_eq m c t ((flush0_18 t).mp hf)) fun (i : S1x256x2816.Idx) => ?_
  have h0 : (i 0).val < 1 := (i 0).isLt
  have h1 : (i 1).val < 256 := (i 1).isLt
  let t : Fin cfg0.N := ⟨3, lt_of_lt_of_eq (by omega) N_0.symm⟩
  refine ⟨t, (flush0_18 t).mpr rfl, ?_⟩
  show i ∈ ((View.whole main_v20_1).slice (win0_18.rect t)).set
  rw [View.set_slice_whole, Rect.mem_set_unit]
  exact rows_mem (index_rows t).2.2.2.2.2.2.2 i (by omega) (by omega)

end Cert.Mixed

end
-- ==== Proof.MixReference.lean ====
/-
  The reference of the mixing and feed-forward half, entry by entry: sequence `n` at position `t` is row `128 t + n`.
-/
module

public import proofs.«01_k».proof.Proof.MixTarget
public import proofs.«01_k».proof.Proof.SampleCompare
public import proofs.«01_k».proof.Proof.Gen.MixReferenceIdeal.Run
public import Idealize.ShloMosaic.Lib.Pointwise

@[expose] public section

set_option maxRecDepth 16384

noncomputable section

namespace Cert.Mixed.Ref

open Idealize.ShloMosaic Idealize.ShloMosaic.TcCoe Cert.MixReferenceIdeal Cert.MixReferenceIdeal.Gen Cert.Layer
open Cert.Samp (seq pos rows rows_at)
open Cert.Proj (ext3)

/-- The row of a sequence at a position. -/
def place (n : Fin 128) (t : Fin 8) : Fin 1024 := ⟨128 * t.val + n.val, by omega⟩

theorem seq_place (n : Fin 128) (t : Fin 8) : seq (place n t) = n := Fin.ext (show (128 * t.val + n.val) % 128 = n.val by omega)
theorem pos_place (n : Fin 128) (t : Fin 8) : pos (place n t) = t := Fin.ext (show (128 * t.val + n.val) / 128 = t.val by omega)
theorem place_seq (R : Fin 1024) : place (seq R) (pos R) = R := Fin.ext (show 128 * (R.val / 128) + R.val % 128 = R.val by omega)

/-! ### The operations, entry by entry -/

/-- The state space's rows, by sequence and position. -/
def bySeq (s : FVec Ideal S1024x512 .f32) : FVec Ideal S128x8x512 .f32 :=
  transpose S128x8x512 [1, 0, 2] (shapeCast S8x128x512 s shapeCasts_S1024x512_S8x128x512) transposes_S8x128x512_S128x8x512_1_0_2

theorem bySeq_at (s : FVec Ideal S1024x512 .f32) (n : Fin 128) (t : Fin 8) (j : Fin 512) : bySeq s (ix3 n t j) = s (ix2 (place n t) j) := by
  unfold bySeq
  refine (transpose_apply _ _ _ (ix3 n t j) (ix3 t n j) fun b => match b with
    | ⟨0, _⟩ => rfl
    | ⟨1, _⟩ => rfl
    | ⟨2, _⟩ => rfl).trans ?_
  refine congrArg s (Shape.reshapeEquiv_eq_of_rowMajor _ ?_)
  rw [Shape.rowMajor_val_two, Shape.rowMajor_val_three]
  show (128 * t.val + n.val) * 512 + j.val = (t.val * 128 + n.val) * 512 + j.val
  omega

/-- A gate's rows, by sequence and position. -/
def gates (u : FVec Ideal S1x1024x1024 .f32) : FVec Ideal S128x8x1024 .f32 :=
  transpose S128x8x1024 [1, 0, 2] (shapeCast S8x128x1024 u shapeCasts_S1x1024x1024_S8x128x1024) transposes_S8x128x1024_S128x8x1024_1_0_2

theorem gates_at (u : FVec Ideal S1x1024x1024 .f32) (n : Fin 128) (t : Fin 8) (k : Fin 1024) : gates u (ix3 n t k) = u (ix3 0 (place n t) k) := by
  unfold gates
  refine (transpose_apply _ _ _ (ix3 n t k) (ix3 t n k) fun b => match b with
    | ⟨0, _⟩ => rfl
    | ⟨1, _⟩ => rfl
    | ⟨2, _⟩ => rfl).trans ?_
  refine congrArg u (Shape.reshapeEquiv_eq_of_rowMajor _ ?_)
  rw [Shape.rowMajor_val_three, Shape.rowMajor_val_three]
  show (0 * 1024 + (128 * t.val + n.val)) * 1024 + k.val = (t.val * 128 + n.val) * 1024 + k.val
  omega

theorem gelu_cube (v : EReal) :
    v * (Ideal.ofBits .f32 0x3F000000#32 * (1 + Ideal.tanh (Ideal.ofBits .f32 0x3F4C422A#32 * (v + Ideal.ofBits .f32 0x3D372713#32 * ((v * v) * v))))) = gelu v := by
  unfold gelu
  rw [mul_comm (v * v) v]

/-- The unit of the state space's rows. -/
def unit1 (z : FVec Ideal S128x8x512 .f32) : FVec Ideal S128x8x512 .f32 :=
  mulf z (mulf (broadcastInDim S128x8x512 ![] bcast_S_S128x8x512 (constant S_ .f32 0x3F000000#32)) (addf (broadcastInDim S128x8x512 ![] bcast_S_S128x8x512 (constant S_ .f32 0x3F800000#32)) (Host.tanh (mulf (broadcastInDim S128x8x512 ![] bcast_S_S128x8x512 (constant S_ .f32 0x3F4C422A#32)) (addf z (mulf (broadcastInDim S128x8x512 ![] bcast_S_S128x8x512 (constant S_ .f32 0x3D372713#32)) (mulf (mulf z z) z)))))))

theorem unit1_at (z : FVec Ideal S128x8x512 .f32) (n : Fin 128) (t : Fin 8) (j : Fin 512) : unit1 z (ix3 n t j) = gelu (z (ix3 n t j)) := by
  refine Eq.trans ?_ (gelu_cube _)
  unfold unit1
  pointwise

/-- The unit of the convolution. -/
def unit2 (z : FVec Ideal S128x8x2816 .f32) : FVec Ideal S128x8x2816 .f32 :=
  mulf z (mulf (broadcastInDim S128x8x2816 ![] bcast_S_S128x8x2816 (constant S_ .f32 0x3F000000#32)) (addf (broadcastInDim S128x8x2816 ![] bcast_S_S128x8x2816 (constant S_ .f32 0x3F800000#32)) (Host.tanh (mulf (broadcastInDim S128x8x2816 ![] bcast_S_S128x8x2816 (constant S_ .f32 0x3F4C422A#32)) (addf z (mulf (broadcastInDim S128x8x2816 ![] bcast_S_S128x8x2816 (constant S_ .f32 0x3D372713#32)) (mulf (mulf z z) z)))))))

theorem unit2_at (z : FVec Ideal S128x8x2816 .f32) (n : Fin 128) (t : Fin 8) (f : Fin 2816) : unit2 z (ix3 n t f) = gelu (z (ix3 n t f)) := by
  refine Eq.trans ?_ (gelu_cube _)
  unfold unit2
  pointwise

/-- A product with weights, of 512 numbers, -/
def dot1 (G : FVec Ideal S128x8x512 .f32) (w : FVec Ideal S512x1024 .f32) : FVec Ideal S128x8x1024 .f32 :=
  Host.dotGeneral dot_S128x8x512_S512x1024_S128x8x1024_2_0_01_1_n_n none G w

theorem dot1_at (G : FVec Ideal S128x8x512 .f32) (w : FVec Ideal S512x1024 .f32) (n : Fin 128) (t : Fin 8) (k : Fin 1024) :
    dot1 G w (ix3 n t k) = ∑ j : Fin 512, G (ix3 n t j) * w (ix2 j k) := by
  unfold dot1
  pointwise [dot_S128x8x512_S512x1024_S128x8x1024_2_0_01_1_n_n]

/-- of the layer's width, -/
def dot2 (G : FVec Ideal S128x8x1024 .f32) (w : FVec Ideal S1024x1024 .f32) : FVec Ideal S128x8x1024 .f32 :=
  Host.dotGeneral dot_S128x8x1024_S1024x1024_S128x8x1024_2_0_01_1_n_n none G w

theorem dot2_at (G : FVec Ideal S128x8x1024 .f32) (w : FVec Ideal S1024x1024 .f32) (n : Fin 128) (t : Fin 8) (k : Fin 1024) :
    dot2 G w (ix3 n t k) = ∑ j : Fin 1024, G (ix3 n t j) * w (ix2 j k) := by
  unfold dot2
  pointwise [dot_S128x8x1024_S1024x1024_S128x8x1024_2_0_01_1_n_n]

/-- from it to the feed-forward's width, -/
def dot3 (G : FVec Ideal S128x8x1024 .f32) (w : FVec Ideal S1024x2816 .f32) : FVec Ideal S128x8x2816 .f32 :=
  Host.dotGeneral dot_S128x8x1024_S1024x2816_S128x8x2816_2_0_01_1_n_n none G w

theorem dot3_at (G : FVec Ideal S128x8x1024 .f32) (w : FVec Ideal S1024x2816 .f32) (n : Fin 128) (t : Fin 8) (k : Fin 2816) :
    dot3 G w (ix3 n t k) = ∑ j : Fin 1024, G (ix3 n t j) * w (ix2 j k) := by
  unfold dot3
  pointwise [dot_S128x8x1024_S1024x2816_S128x8x2816_2_0_01_1_n_n]

/-- and back. -/
def dot4 (G : FVec Ideal S128x8x2816 .f32) (w : FVec Ideal S2816x1024 .f32) : FVec Ideal S128x8x1024 .f32 :=
  Host.dotGeneral dot_S128x8x2816_S2816x1024_S128x8x1024_2_0_01_1_n_n none G w

theorem dot4_at (G : FVec Ideal S128x8x2816 .f32) (w : FVec Ideal S2816x1024 .f32) (n : Fin 128) (t : Fin 8) (k : Fin 1024) :
    dot4 G w (ix3 n t k) = ∑ j : Fin 2816, G (ix3 n t j) * w (ix2 j k) := by
  unfold dot4
  pointwise [dot_S128x8x2816_S2816x1024_S128x8x1024_2_0_01_1_n_n]

/-- The two branches, weighted by their gates: `P` of the state space, `Q` of the attention. -/
def both (P Q p q a : FVec Ideal S128x8x1024 .f32) : FVec Ideal S128x8x1024 .f32 :=
  addf (mulf P (mulf p (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf q)))))) (mulf Q a)

theorem both_at (P Q p q a : FVec Ideal S128x8x1024 .f32) (i : S128x8x1024.Idx) :
    both P Q p q a i = P i * (p i * sigmoid (q i)) + Q i * a i := by
  unfold both sigmoid
  pointwise

/-- The projections of the positions given, then of the sequence's own. -/
def joined (prev : FVec Ideal S128x2x2816 .f32) (G : FVec Ideal S128x8x2816 .f32) : FVec Ideal S128x10x2816 .f32 :=
  concatenate S128x10x2816 1 [⟨S128x2x2816, prev⟩, ⟨S128x8x2816, G⟩] concatenates_S128x2x2816_S128x8x2816_S128x10x2816_d1

theorem joined_at (prev : FVec Ideal S128x2x2816 .f32) (G : FVec Ideal S128x8x2816 .f32) (n : Fin 128) (i : Fin 10) (f : Fin 2816) :
    joined prev G (ix3 n i f) = if h : i.val < 2 then prev (ix3 n ⟨i.val, h⟩ f) else G (ix3 n ⟨i.val - 2, by omega⟩ f) := by
  unfold joined
  pointwise

/-- A row of the convolution's weights, the same everywhere. -/
def tap (o : ℕ) (w : FVec Ideal S3x2816 .f32) (h : S3x2816.Slices ![o, 0] S1x2816) : FVec Ideal S128x8x2816 .f32 :=
  broadcastInDim S128x8x2816 ![0, 1, 2] bcast_S1x1x2816_S128x8x2816_0_1_2 (broadcastInDim S1x1x2816 ![2] bcast_S2816_S1x1x2816_2 (shapeCast S2816 (extractStridedSlice S1x2816 ![o, 0] w h) shapeCasts_S1x2816_S2816))

theorem tap_at (w : FVec Ideal S3x2816 .f32) (i : Fin 3) (h : S3x2816.Slices ![i.val, 0] S1x2816) (n : Fin 128) (t : Fin 8) (f : Fin 2816) :
    tap i.val w h (ix3 n t f) = w (ix2 i f) := by
  have e (u : FVec Ideal S1x2816 .f32) : broadcastInDim S128x8x2816 ![0, 1, 2] bcast_S1x1x2816_S128x8x2816_0_1_2 (broadcastInDim S1x1x2816 ![2] bcast_S2816_S1x1x2816_2 (shapeCast S2816 u shapeCasts_S1x2816_S2816)) (ix3 n t f) = u (ix2 0 f) := by
    pointwise
  unfold tap
  rw [e]
  refine congrArg w (funext fun a => Fin.ext ?_)
  match a with
  | ⟨0, _⟩ => rfl
  | ⟨1, _⟩ => exact Nat.zero_add _

/-- The convolution of three positions. -/
def conv (C : FVec Ideal S128x10x2816 .f32) (w : FVec Ideal S3x2816 .f32) (b : FVec Ideal S2816 .f32) : FVec Ideal S128x8x2816 .f32 :=
  addf (broadcastInDim S128x8x2816 ![0, 1, 2] bcast_S1x1x2816_S128x8x2816_0_1_2 (broadcastInDim S1x1x2816 ![2] bcast_S2816_S1x1x2816_2 b))
    (addf (addf (addf (broadcastInDim S128x8x2816 ![] bcast_S_S128x8x2816 (constant S_ .f32 0x00000000#32))
      (mulf (extractStridedSlice S128x8x2816 ![0, 0, 0] C slices_S128x10x2816_S128x8x2816_0_0_0) (tap 0 w slices_S3x2816_S1x2816_0_0)))
      (mulf (extractStridedSlice S128x8x2816 ![0, 1, 0] C slices_S128x10x2816_S128x8x2816_0_1_0) (tap 1 w slices_S3x2816_S1x2816_1_0)))
      (mulf (extractStridedSlice S128x8x2816 ![0, 2, 0] C slices_S128x10x2816_S128x8x2816_0_2_0) (tap 2 w slices_S3x2816_S1x2816_2_0)))

/-- The positions from `o` on. -/
theorem from_at (C : FVec Ideal S128x10x2816 .f32) (o : Fin 3) (h : S128x10x2816.Slices ![0, o.val, 0] S128x8x2816) (n : Fin 128) (t : Fin 8) (f : Fin 2816) :
    extractStridedSlice S128x8x2816 ![0, o.val, 0] C h (ix3 n t f) = C (ix3 n ⟨o.val + t.val, by omega⟩ f) := by
  refine congrArg C (funext fun a => Fin.ext ?_)
  match a with
  | ⟨0, _⟩ => exact Nat.zero_add _
  | ⟨1, _⟩ => rfl
  | ⟨2, _⟩ => exact Nat.zero_add _

theorem conv_sum (c0 p0 c1 p1 c2 p2 : FVec Ideal S128x8x2816 .f32) (b : FVec Ideal S2816 .f32) (n : Fin 128) (t : Fin 8) (f : Fin 2816) :
    addf (broadcastInDim S128x8x2816 ![0, 1, 2] bcast_S1x1x2816_S128x8x2816_0_1_2 (broadcastInDim S1x1x2816 ![2] bcast_S2816_S1x1x2816_2 b))
      (addf (addf (addf (broadcastInDim S128x8x2816 ![] bcast_S_S128x8x2816 (constant S_ .f32 0x00000000#32)) (mulf c0 p0)) (mulf c1 p1)) (mulf c2 p2)) (ix3 n t f)
      = b (ix1 f) + ((c0 (ix3 n t f) * p0 (ix3 n t f) + c1 (ix3 n t f) * p1 (ix3 n t f)) + c2 (ix3 n t f) * p2 (ix3 n t f)) := by
  pointwise

theorem conv_at (C : FVec Ideal S128x10x2816 .f32) (w : FVec Ideal S3x2816 .f32) (b : FVec Ideal S2816 .f32) (n : Fin 128) (t : Fin 8) (f : Fin 2816) :
    conv C w b (ix3 n t f) = b (ix1 f) + ((C (ix3 n ⟨0 + t.val, by omega⟩ f) * w (ix2 0 f) + C (ix3 n ⟨1 + t.val, by omega⟩ f) * w (ix2 1 f)) + C (ix3 n ⟨2 + t.val, by omega⟩ f) * w (ix2 2 f)) :=
  (conv_sum _ _ _ _ _ _ b n t f).trans (congrArg (b (ix1 f) + ·) (congrArg₂ (· + ·) (congrArg₂ (· + ·)
    (congrArg₂ (· * ·) (from_at C 0 _ n t f) (tap_at w 0 _ n t f))
    (congrArg₂ (· * ·) (from_at C 1 _ n t f) (tap_at w 1 _ n t f)))
    (congrArg₂ (· * ·) (from_at C 2 _ n t f) (tap_at w 2 _ n t f))))

theorem add_at {S : Shape} (P Q : FVec Ideal S .f32) (i : S.Idx) : addf P Q i = P i + Q i := rfl
theorem mul_at {S : Shape} (P Q : FVec Ideal S .f32) (i : S.Idx) : mulf P Q i = P i * Q i := rfl

/-! ### The reference -/

variable (m : (ℓ : Loc nD τ sig) → Buf (Elt Ideal) ℓ) (c : Dev nD)

/-- The arguments of device `c`. -/
def argsOf : Args where
  x := m ((c.tc : Thread nD τ).loc main_arg0)
  s := m ((c.tc : Thread nD τ).loc main_arg1)
  a := m ((c.tc : Thread nD τ).loc main_arg2)
  v := m ((c.tc : Thread nD τ).loc main_arg3)
  u := m ((c.tc : Thread nD τ).loc main_arg4)
  prev := m ((c.tc : Thread nD τ).loc main_arg5)
  gluA := m ((c.tc : Thread nD τ).loc main_arg6)
  gluB := m ((c.tc : Thread nD τ).loc main_arg7)
  attn := m ((c.tc : Thread nD τ).loc main_arg8)
  out := m ((c.tc : Thread nD τ).loc main_arg9)
  gain := m ((c.tc : Thread nD τ).loc main_arg10)
  gate := m ((c.tc : Thread nD τ).loc main_arg11)
  up := m ((c.tc : Thread nD τ).loc main_arg12)
  conv := m ((c.tc : Thread nD τ).loc main_arg13)
  bias := m ((c.tc : Thread nD τ).loc main_arg14)
  down := m ((c.tc : Thread nD τ).loc main_arg15)
  last := m ((c.tc : Thread nD τ).loc main_arg16)

/-- The rows with their branches, -/
abbrev mid3 : FVec Ideal S128x8x1024 .f32 := Value.res_main_v33 (StableHlo.launchContents m c)
/-- normed, -/
abbrev hid3 : FVec Ideal S128x8x1024 .f32 := Value.res_main_v46 (StableHlo.launchContents m c)
/-- the gate projections in order, -/
abbrev full3 : FVec Ideal S128x10x2816 .f32 := Value.res_main_v48 (StableHlo.launchContents m c)
/-- their convolution, -/
abbrev mix3 : FVec Ideal S128x8x2816 .f32 := Value.res_main_v73 (StableHlo.launchContents m c)
/-- and the rows with their feed-forward product. -/
abbrev ffn3 : FVec Ideal S128x8x1024 .f32 := Value.res_main_v90 (StableHlo.launchContents m c)

theorem mid3_at (n : Fin 128) (t : Fin 8) (l : Fin 1024) : mid3 m c (ix3 n t l) = (argsOf m c).mid (place n t) l := by
  have e : mid3 m c = addf (argsOf m c).x (dot2 (both (gates (argsOf m c).u) (gates (argsOf m c).v) (dot1 (unit1 (bySeq (argsOf m c).s)) (argsOf m c).gluA)
      (dot1 (unit1 (bySeq (argsOf m c).s)) (argsOf m c).gluB) (dot1 (argsOf m c).a (argsOf m c).attn)) (argsOf m c).out) := rfl
  rw [e, add_at, dot2_at]
  simp only [both_at, dot1_at, gates_at, unit1_at, bySeq_at]
  unfold Args.mid Weights.mid
  rw [seq_place, pos_place]
  rfl

theorem hid3_at (n : Fin 128) (t : Fin 8) (j : Fin 1024) : hid3 m c (ix3 n t j) = normed ((argsOf m c).mid (place n t)) (argsOf m c).W.gain j := by
  have e : hid3 m c = Cert.Proj.Ref.hid Cert.Samp.fits (mid3 m c) (argsOf m c).gain := rfl
  rw [e, Cert.Proj.Ref.hid_at]
  exact congrArg (fun y => normed y _ j) (funext (mid3_at m c n t))

/-- A projection of the normed row. -/
theorem proj_at (w : FVec Ideal S1024x2816 .f32) (n : Fin 128) (t : Fin 8) (f : Fin 2816) :
    dot3 (hid3 m c) w (ix3 n t f) = proj ((argsOf m c).mid (place n t)) (argsOf m c).W.gain fun j => w (ix2 j f) := by
  rw [dot3_at]
  exact Finset.sum_congr rfl fun j _ => congrArg (· * w (ix2 j f)) (hid3_at m c n t j)

theorem full3_at (n : Fin 128) (i : Fin 10) (f : Fin 2816) (q : Fin 1280) (hq : q.val = 128 * i.val + n.val) : full3 m c (ix3 n i f) = (argsOf m c).full q f := by
  have e : full3 m c = joined (argsOf m c).prev (dot3 (hid3 m c) (argsOf m c).gate) := rfl
  rw [e, joined_at]
  by_cases h : i.val < 2
  · rw [dif_pos h]
    unfold Args.full
    rw [dif_pos (by omega)]
    refine congrArg (argsOf m c).prev (funext fun a => Fin.ext ?_)
    match a with
    | ⟨0, _⟩ => show n.val = q.val % 128; omega
    | ⟨1, _⟩ => show i.val = q.val / 128; omega
    | ⟨2, _⟩ => rfl
  · rw [dif_neg h, proj_at, Args.full_row _ q (place n ⟨i.val - 2, by omega⟩) (show q.val = 256 + (128 * (i.val - 2) + n.val) by omega)]
    rfl

theorem mix3_at (n : Fin 128) (t : Fin 8) (f : Fin 2816) :
    mix3 m c (ix3 n t f) = (argsOf m c).W.mix ((argsOf m c).full ⟨(place n t).val, by omega⟩) ((argsOf m c).full ⟨128 + (place n t).val, by omega⟩) ((argsOf m c).full ⟨256 + (place n t).val, by omega⟩) f := by
  have e : mix3 m c = conv (full3 m c) (argsOf m c).conv (argsOf m c).bias := rfl
  rw [e, conv_at, full3_at m c n ⟨0 + t.val, by omega⟩ f ⟨(place n t).val, by omega⟩ (show 128 * t.val + n.val = 128 * (0 + t.val) + n.val by omega),
    full3_at m c n ⟨1 + t.val, by omega⟩ f ⟨128 + (place n t).val, by omega⟩ (show 128 + (128 * t.val + n.val) = 128 * (1 + t.val) + n.val by omega),
    full3_at m c n ⟨2 + t.val, by omega⟩ f ⟨256 + (place n t).val, by omega⟩ (show 256 + (128 * t.val + n.val) = 128 * (2 + t.val) + n.val by omega)]
  rfl

theorem ffn3_at (n : Fin 128) (t : Fin 8) (l : Fin 1024) :
    ffn3 m c (ix3 n t l) = (argsOf m c).W.ffn ((argsOf m c).mid (place n t)) ((argsOf m c).full ⟨(place n t).val, by omega⟩) ((argsOf m c).full ⟨128 + (place n t).val, by omega⟩) ((argsOf m c).full ⟨256 + (place n t).val, by omega⟩) l := by
  have e : ffn3 m c = addf (mid3 m c) (dot4 (mulf (unit2 (mix3 m c)) (dot3 (hid3 m c) (argsOf m c).up)) (argsOf m c).down) := rfl
  rw [e, add_at, dot4_at]
  simp only [mul_at, unit2_at, mix3_at, proj_at, mid3_at]
  rfl

/-- The first result, -/
theorem result_eq : rows Cert.Samp.order1024 (Cert.Proj.Ref.hid Cert.Samp.fits (ffn3 m c) (argsOf m c).last) = (argsOf m c).result := by
  refine ext3 fun n R l => (rows_at _ _ n R l).trans ?_
  rw [Cert.Proj.Ref.hid_at, Args.result_at]
  simp only [ffn3_at, place_seq]
  rfl

/-- and the second. -/
theorem tail_eq : shapeCast S1x256x2816 (transpose S2x128x2816 [1, 0, 2] (extractStridedSlice S128x2x2816 ![0, 8, 0] (full3 m c) slices_S128x10x2816_S128x2x2816_0_8_0) transposes_S128x2x2816_S2x128x2816_1_0_2) shapeCasts_S2x128x2816_S1x256x2816 = (argsOf m c).tail := by
  refine ext3 fun z k f => ?_
  have hk := k.isLt
  have h (U : Vec Ideal S2x128x2816 .f32) : shapeCast S1x256x2816 U shapeCasts_S2x128x2816_S1x256x2816 (ix3 z k f) = U (ix3 ⟨k.val / 128, by omega⟩ ⟨k.val % 128, by omega⟩ f) :=
    congrArg U (Shape.reshapeEquiv_eq_of_rowMajor _ (by
      rw [Shape.rowMajor_val_three, Shape.rowMajor_val_three]
      show (k.val / 128 * 128 + k.val % 128) * 2816 + f.val = (z.val * 256 + k.val) * 2816 + f.val
      rw [show k.val / 128 * 128 + k.val % 128 = z.val * 256 + k.val by omega]))
  rw [h, Args.tail_at]
  refine (transpose_apply _ _ _ _ (ix3 ⟨k.val % 128, by omega⟩ ⟨k.val / 128, by omega⟩ f) fun b => match b with
    | ⟨0, _⟩ => rfl
    | ⟨1, _⟩ => rfl
    | ⟨2, _⟩ => rfl).trans ?_
  refine Eq.trans (congrArg (full3 m c) (funext fun a => Fin.ext ?_)) (full3_at m c ⟨k.val % 128, by omega⟩ ⟨8 + k.val / 128, by omega⟩ f ⟨1024 + k.val, by omega⟩ (show 1024 + k.val = 128 * (8 + k.val / 128) + k.val % 128 by omega))
  match a with
  | ⟨0, _⟩ => exact Nat.zero_add _
  | ⟨1, _⟩ => rfl
  | ⟨2, _⟩ => exact Nat.zero_add _

end Cert.Mixed.Ref

end
-- ==== Proof.MixCompare.lean ====
/-
  The value claim of the mixing and feed-forward half: the idealized kernel and the plain reference end with the same
  result and the same gate projections of the last positions.
-/
module

public import proofs.«01_k».proof.Defs
public import proofs.«01_k».proof.Proof.MixWhole
public import proofs.«01_k».proof.Proof.MixReference
public import proofs.«01_k».proof.Proof.Gen.Mix
public import proofs.«01_k».proof.Proof.Gen.MixIdeal
public import proofs.«01_k».proof.Proof.Gen.MixReferenceIdeal
public import Idealize.ShloMosaic.Lib.Quiescent

@[expose] public section

set_option maxRecDepth 16384

noncomputable section

namespace Cert.Mixed

open Idealize.ShloMosaic Idealize.ShloMosaic.TcCoe Idealize.SL.Sem

/-- The reference runs, its arguments end unchanged, and it has no semaphore. -/
theorem reference : Cert.quiescent_MixReferenceIdeal := fun m ρ _ =>
  (θ_run _ _ _).mono (fun r h => ⟨fun c => (h c).2.2, Idealize.ShloMosaic.sem_eq_zero_of_no_sems (by decide) r.2⟩)
    (Cert.MixReferenceIdeal.Value.run m ρ)

/-- Both programs end with the result and the last gate projections of the same arguments. -/
theorem algebraic : Cert.algebraic_MixIdeal_MixReferenceIdeal := by
  intro m g m' g' _ hag
  refine ⟨fun c => (argsOf m c).result, fun c => (argsOf m c).tail, ?_, ?_⟩
  · refine (θ_run _ _ _).mono (fun r h c => ?_) (Cert.MixIdeal.Value.run_blocks m g)
    obtain ⟨h0, h1, hargs⟩ := h c
    exact ⟨h0.trans (y_final m c), h1.trans (tail_final m c), hargs⟩
  · refine (θ_run _ _ _).mono (fun r h c => ?_) (Cert.MixReferenceIdeal.Value.run m' g')
    have e : Ref.argsOf m' c = argsOf m c := by
      obtain ⟨e0, e1, e2, e3, e4, e5, e6, e7, e8, e9, e10, e11, e12, e13, e14, e15, e16⟩ := hag c
      unfold Ref.argsOf argsOf
      rw [e0, e1, e2, e3, e4, e5, e6, e7, e8, e9, e10, e11, e12, e13, e14, e15, e16]
    obtain ⟨h0, h1, hargs⟩ := h c
    exact ⟨h0.trans ((Ref.result_eq m' c).trans (congrArg Args.result e)), h1.trans ((Ref.tail_eq m' c).trans (congrArg Args.tail e)), hargs⟩

end Cert.Mixed

end
-- ==== Proof.lean ====
/-
  The certificate: the attention of a prompt, as the kernel computes it tile by tile with a running maximum, against
  the plain softmax attention; the input projections of the prompt and of the sample, tile by tile with packed weights,
  against the plain product; and the sample's mixing and feed-forward half, tile by tile with the convolution's older
  rows carried along, against the plain layer.  The frames are the generated runs'; the value claims are `algebraic`,
  `Cert.Proj.algebraic`, `Cert.Samp.algebraic` and `Cert.Mixed.algebraic`.
-/
module

public import proofs.«01_k».proof.Defs
public import proofs.«01_k».proof.Proof.Given
public import proofs.«01_k».proof.Proof.Reference
public import proofs.«01_k».proof.Proof.Gen.KernelIdeal.Value
public import proofs.«01_k».proof.Proof.Gen.ReferenceIdeal.Run
public import proofs.«01_k».proof.Proof.ProjCompare
public import proofs.«01_k».proof.Proof.SampleCompare
public import proofs.«01_k».proof.Proof.MixCompare
public import proofs.«01_k».proof.Proof.Gen.Project
public import proofs.«01_k».proof.Proof.Gen.ProjectIdeal
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.Project.Frame
public import proofs.«01_k».proof.Proof.Gen.ProjectIdeal.Frame
public import proofs.«01_k».proof.Proof.Gen.Sample
public import proofs.«01_k».proof.Proof.Gen.SampleIdeal
public import proofs.«01_k».proof.Proof.Gen.SampleIdeal.Value
public import proofs.«01_k».proof.Proof.Gen.SampleReferenceIdeal
public import proofs.«01_k».proof.Proof.Gen.SampleReferenceIdeal.Run
public import proofs.«01_k».proof.Proof.Gen.Sample.Frame
public import proofs.«01_k».proof.Proof.Gen.SampleIdeal.Frame
public import proofs.«01_k».proof.Proof.Gen.Mix
public import proofs.«01_k».proof.Proof.Gen.MixIdeal
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Mix.Frame
public import proofs.«01_k».proof.Proof.Gen.MixIdeal.Frame
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_ones
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, its arguments end unchanged, and it has no semaphore. -/
theorem reference : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run m ρ)

/-- Under the precondition both programs end with the attention of the whole arrays. -/
theorem algebraic : Cert.algebraic_KernelIdeal_ReferenceIdeal_pre_finite_ones := by
  intro m g m' g' hpre hag
  refine ⟨fun c => (Cert.Attn.argsOf m c).result, ?_, ?_⟩
  · refine (θ_run _ _ _).mono (fun r h c => ?_) (Cert.KernelIdeal.Value.run_blocks m g)
    exact ⟨(h c).1.trans (Cert.Attn.final m c (Cert.Attn.Given.finite hpre c) (Cert.Attn.Given.ones hpre c)), (h c).2⟩
  · refine (θ_run _ _ _).mono (fun r h c => ?_) (Cert.ReferenceIdeal.Value.run m' g')
    refine ⟨(h c).1.trans ((Cert.Attn.Ref.result_eq m' c).trans ?_), (h c).2⟩
    obtain ⟨h0, h1, h2⟩ := hag c
    unfold Cert.Attn.argsOf
    rw [h0, h1, h2]

/-- The claims. -/
theorem claim : Cert.Claim :=
  ⟨Cert.Kernel.Gen.facts, Cert.KernelIdeal.Gen.facts, Cert.ReferenceIdeal.Gen.facts, Cert.Project.Gen.facts,
    Cert.ProjectIdeal.Gen.facts, Cert.ProjectReferenceIdeal.Gen.facts, Cert.Sample.Gen.facts,
    Cert.SampleIdeal.Gen.facts, Cert.SampleReferenceIdeal.Gen.facts, Cert.Mix.Gen.facts,
    Cert.MixIdeal.Gen.facts, Cert.MixReferenceIdeal.Gen.facts, Cert.Pre_finite_ones.Gen.facts,
    fun m ρ _ => Cert.Kernel.Gen.frame m ρ, fun m ρ _ => Cert.KernelIdeal.Gen.frame m ρ,
    fun m ρ _ => Cert.KernelIdeal.Gen.frame m ρ, fun m ρ _ => reference m ρ trivial,
    fun m ρ _ => reference m ρ trivial,
    fun m ρ _ => Cert.Project.Gen.frame m ρ, fun m ρ _ => Cert.ProjectIdeal.Gen.frame m ρ, Cert.Proj.reference,
    fun m ρ _ => Cert.Sample.Gen.frame m ρ, fun m ρ _ => Cert.SampleIdeal.Gen.frame m ρ, Cert.Samp.reference,
    fun m ρ _ => Cert.Mix.Gen.frame m ρ, fun m ρ _ => Cert.MixIdeal.Gen.frame m ρ, Cert.Mixed.reference,
    IdealRules.named_const.statement Cert.KernelIdeal.κ "mask" .f32 0xF149F2CA#32 ⊥ rfl, algebraic, trivial,
    Cert.Proj.algebraic, trivial, Cert.Samp.algebraic,
    trivial, Cert.Mixed.algebraic⟩

end Cert.Proof

end
